-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "q_scale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x10240 : Shape := ⟨3, ![4, 4096, 10240]⟩
abbrev S4x4096x2048 : Shape := ⟨3, ![4, 4096, 2048]⟩
abbrev S_ : Shape := ⟨0, ![]⟩

class Facts : Prop where
  slices_S4x4096x10240_S4x4096x2048_0_0_0 : S4x4096x10240.Slices ![0, 0, 0] S4x4096x2048
  bcast_S_S4x4096x2048 : S_.BroadcastsInDim S4x4096x2048 (![] : Fin 0 → Fin S4x4096x2048.rank)

variable [Facts]

def fn {F : FTy → Type} [FloatOps F] (main_arg0 : FVec F S4x4096x10240 .f32) : IVec S4x4096x2048 1 :=
  let main_v0 : FVec F S4x4096x2048 .f32 := (extractStridedSlice S4x4096x2048 ![0, 0, 0] · slices_S4x4096x10240_S4x4096x2048_0_0_0) main_arg0
  let main_v1 : FVec F S4x4096x2048 .f32 := Host.absf main_v0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  main_v3
-- ==== Kernel.lean ====
abbrev S4x4096x10240 : Shape := ⟨3, ![4, 4096, 10240]⟩
abbrev S4x4096x1024 : Shape := ⟨3, ![4, 4096, 1024]⟩
abbrev S1x256x512 : Shape := ⟨3, ![1, 256, 512]⟩
abbrev S1x4096x512 : Shape := ⟨3, ![1, 4096, 512]⟩
abbrev S16x512x256 : Shape := ⟨3, ![16, 512, 256]⟩
abbrev S2x4x256x256 : Shape := ⟨4, ![2, 4, 256, 256]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S256x512 : Shape := ⟨2, ![256, 512]⟩
abbrev S1x256 : Shape := ⟨2, ![1, 256]⟩
abbrev S256x256 : Shape := ⟨2, ![256, 256]⟩
abbrev S512x256 : Shape := ⟨2, ![512, 256]⟩
abbrev S1x1x256x256 : Shape := ⟨4, ![1, 1, 256, 256]⟩

abbrev nBuf : Space → Nat
  | .hbm => 3
  | .vmem => 8
  | .smem => 0
  | _ => 0

abbrev bufTy : (tb : Table) → Fin (tcTables nBuf tb) → BufTy
  | .hbm, ⟨0, _⟩ => ⟨S4x4096x10240, .f32⟩
  | .hbm, ⟨1, _⟩ => ⟨S4x4096x10240, .bf16⟩
  | .hbm, ⟨2, _⟩ => ⟨S4x4096x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x256x512, .bf16⟩
  | .local _ .vmem, ⟨5, _⟩ => ⟨S1x256x512, .bf16⟩
  | .local _ .vmem, ⟨6, _⟩ => ⟨S16x512x256, .bf16⟩
  | .local _ .vmem, ⟨7, _⟩ => ⟨S2x4x256x256, .f32⟩
  | _, _ => ⟨S4x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 2, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_114 : BitVec 32 := 0#32
  let c16_i32 : BitVec 32 := 16#32
  let v247 : BitVec 32 := Scalar.addi c0_i32_114 c16_i32
  let c1_i32_115 : BitVec 32 := 1#32
  ⟨c0_i32_114, v247, c1_i32_115⟩
def k0_mult1 (k0_t1 : Fin k0_t1_loop.trips) : BitVec 32 :=
  let c0_i32_114 : BitVec 32 := 0#32
  let c1_i32_115 : BitVec 32 := 1#32
  let arg9 : BitVec 32 := Scf.iv c0_i32_114 c1_i32_115 k0_t1
  let c256_i32_117 : BitVec 32 := 256#32
  let v248 : BitVec 32 := Scalar.muli arg9 c256_i32_117
  v248
def k0_off1 (k0_t1 : Fin k0_t1_loop.trips) : Fin 3 → Nat :=
  let c0_118 : Index := 0#32
  let c0_i32_114 : BitVec 32 := 0#32
  let c1_i32_115 : BitVec 32 := 1#32
  let arg9 : BitVec 32 := Scf.iv c0_i32_114 c1_i32_115 k0_t1
  let c256_i32_117 : BitVec 32 := 256#32
  let v248 : BitVec 32 := Scalar.muli arg9 c256_i32_117
  let v249 : BitVec 32 := v248
  let v250 : Index := Scalar.indexCast v249
  let c0_119 : Index := 0#32
  ![0, v250.toNat, 0]
def k0_off2 (k0_t1 : Fin k0_t1_loop.trips) : Fin 3 → Nat :=
  let c0_i32_114 : BitVec 32 := 0#32
  let c1_i32_115 : BitVec 32 := 1#32
  let arg9 : BitVec 32 := Scf.iv c0_i32_114 c1_i32_115 k0_t1
  let v255 : Index := Scalar.indexCast arg9
  let c0_121 : Index := 0#32
  let c0_122 : Index := 0#32
  ![v255.toNat, 0, 0]
def k0_off3 (k0_t1 : Fin k0_t1_loop.trips) : Fin 3 → Nat :=
  let c0_123 : Index := 0#32
  let c0_i32_114 : BitVec 32 := 0#32
  let c1_i32_115 : BitVec 32 := 1#32
  let arg9 : BitVec 32 := Scf.iv c0_i32_114 c1_i32_115 k0_t1
  let c256_i32_117 : BitVec 32 := 256#32
  let v248 : BitVec 32 := Scalar.muli arg9 c256_i32_117
  let v249 : BitVec 32 := v248
  let v259 : Index := Scalar.indexCast v249
  let c128_124 : Index := 128#32
  ![0, v259.toNat, 128]
def k0_off4 (k0_t1 : Fin k0_t1_loop.trips) : Fin 3 → Nat :=
  let c0_i32_114 : BitVec 32 := 0#32
  let c1_i32_115 : BitVec 32 := 1#32
  let arg9 : BitVec 32 := Scf.iv c0_i32_114 c1_i32_115 k0_t1
  let v264 : Index := Scalar.indexCast arg9
  let c128_126 : Index := 128#32
  let c0_127 : Index := 0#32
  ![v264.toNat, 128, 0]
def k0_off5 (k0_t1 : Fin k0_t1_loop.trips) : Fin 3 → Nat :=
  let c0_128 : Index := 0#32
  let c0_i32_114 : BitVec 32 := 0#32
  let c1_i32_115 : BitVec 32 := 1#32
  let arg9 : BitVec 32 := Scf.iv c0_i32_114 c1_i32_115 k0_t1
  let c256_i32_117 : BitVec 32 := 256#32
  let v248 : BitVec 32 := Scalar.muli arg9 c256_i32_117
  let v249 : BitVec 32 := v248
  let v268 : Index := Scalar.indexCast v249
  let c256_129 : Index := 256#32
  ![0, v268.toNat, 256]
def k0_off6 (k0_t1 : Fin k0_t1_loop.trips) : Fin 3 → Nat :=
  let c0_i32_114 : BitVec 32 := 0#32
  let c1_i32_115 : BitVec 32 := 1#32
  let arg9 : BitVec 32 := Scf.iv c0_i32_114 c1_i32_115 k0_t1
  let v273 : Index := Scalar.indexCast arg9
  let c256_131 : Index := 256#32
  let c0_132 : Index := 0#32
  ![v273.toNat, 256, 0]
def k0_off7 (k0_t1 : Fin k0_t1_loop.trips) : Fin 3 → Nat :=
  let c0_133 : Index := 0#32
  let c0_i32_114 : BitVec 32 := 0#32
  let c1_i32_115 : BitVec 32 := 1#32
  let arg9 : BitVec 32 := Scf.iv c0_i32_114 c1_i32_115 k0_t1
  let c256_i32_117 : BitVec 32 := 256#32
  let v248 : BitVec 32 := Scalar.muli arg9 c256_i32_117
  let v249 : BitVec 32 := v248
  let v277 : Index := Scalar.indexCast v249
  let c384_134 : Index := 384#32
  ![0, v277.toNat, 384]
def k0_off8 (k0_t1 : Fin k0_t1_loop.trips) : Fin 3 → Nat :=
  let c0_i32_114 : BitVec 32 := 0#32
  let c1_i32_115 : BitVec 32 := 1#32
  let arg9 : BitVec 32 := Scf.iv c0_i32_114 c1_i32_115 k0_t1
  let v282 : Index := Scalar.indexCast arg9
  let c384_136 : Index := 384#32
  let c0_137 : Index := 0#32
  ![v282.toNat, 384, 0]
def k0_mult2 (i : grid0.Coords) : BitVec 32 :=
  let arg2 : BitVec 32 := BitVec.ofNat 32 (i 2).val
  let c256_i32 : BitVec 32 := 256#32
  let v12 : BitVec 32 := Scalar.muli arg2 c256_i32
  v12
def k0_off9 (i : grid0.Coords) : Fin 3 → Nat :=
  let c0 : Index := 0#32
  let arg2 : BitVec 32 := BitVec.ofNat 32 (i 2).val
  let c256_i32 : BitVec 32 := 256#32
  let v12 : BitVec 32 := Scalar.muli arg2 c256_i32
  let v13 : BitVec 32 := v12
  let v14 : Index := Scalar.indexCast v13
  let c0_1 : Index := 0#32
  ![0, v14.toNat, 0]
def k0_off10 (i : grid0.Coords) : Fin 3 → Nat :=
  let c0_7 : Index := 0#32
  let arg2 : BitVec 32 := BitVec.ofNat 32 (i 2).val
  let c256_i32 : BitVec 32 := 256#32
  let v12 : BitVec 32 := Scalar.muli arg2 c256_i32
  let v13 : BitVec 32 := v12
  let v24 : Index := Scalar.indexCast v13
  let c128 : Index := 128#32
  ![0, v24.toNat, 128]
def k0_off11 (i : grid0.Coords) : Fin 3 → Nat :=
  let c0_13 : Index := 0#32
  let arg2 : BitVec 32 := BitVec.ofNat 32 (i 2).val
  let c256_i32 : BitVec 32 := 256#32
  let v12 : BitVec 32 := Scalar.muli arg2 c256_i32
  let v13 : BitVec 32 := v12
  let v34 : Index := Scalar.indexCast v13
  let c256 : Index := 256#32
  ![0, v34.toNat, 256]
def k0_off12 (i : grid0.Coords) : Fin 3 → Nat :=
  let c0_19 : Index := 0#32
  let arg2 : BitVec 32 := BitVec.ofNat 32 (i 2).val
  let c256_i32 : BitVec 32 := 256#32
  let v12 : BitVec 32 := Scalar.muli arg2 c256_i32
  let v13 : BitVec 32 := v12
  let v44 : Index := Scalar.indexCast v13
  let c384 : Index := 384#32
  ![0, v44.toNat, 384]
@[reducible] def k0_t2_loop (i : grid0.Coords) : Scf.Loop 32 :=
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_71 : BitVec 32 := 1#32
  ⟨c0_i32_70, v173, c1_i32_71⟩
def k0_mult3 (i : grid0.Coords) (k0_t2 : Fin (k0_t2_loop i).trips) : BitVec 32 :=
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c256_i32_116 : BitVec 32 := 256#32
  let v244 : BitVec 32 := Scalar.muli v243 c256_i32_116
  v244
def k0_off13 (i : grid0.Coords) (k0_t2 : Fin (k0_t2_loop i).trips) : Fin 3 → Nat :=
  let c0_117 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c256_i32_116 : BitVec 32 := 256#32
  let v244 : BitVec 32 := Scalar.muli v243 c256_i32_116
  let v245 : BitVec 32 := v244
  let v246 : Index := Scalar.indexCast v245
  let c0_118 : Index := 0#32
  ![0, v246.toNat, 0]
def k0_off14 (i : grid0.Coords) (k0_t2 : Fin (k0_t2_loop i).trips) : Fin 3 → Nat :=
  let c0_124 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c256_i32_116 : BitVec 32 := 256#32
  let v244 : BitVec 32 := Scalar.muli v243 c256_i32_116
  let v245 : BitVec 32 := v244
  let v256 : Index := Scalar.indexCast v245
  let c128_125 : Index := 128#32
  ![0, v256.toNat, 128]
def k0_off15 (i : grid0.Coords) (k0_t2 : Fin (k0_t2_loop i).trips) : Fin 3 → Nat :=
  let c0_131 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c256_i32_116 : BitVec 32 := 256#32
  let v244 : BitVec 32 := Scalar.muli v243 c256_i32_116
  let v245 : BitVec 32 := v244
  let v266 : Index := Scalar.indexCast v245
  let c256_132 : Index := 256#32
  ![0, v266.toNat, 256]
def k0_off16 (i : grid0.Coords) (k0_t2 : Fin (k0_t2_loop i).trips) : Fin 3 → Nat :=
  let c0_138 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c256_i32_116 : BitVec 32 := 256#32
  let v244 : BitVec 32 := Scalar.muli v243 c256_i32_116
  let v245 : BitVec 32 := v244
  let v276 : Index := Scalar.indexCast v245
  let c384_139 : Index := 384#32
  ![0, v276.toNat, 384]
def k0_off17 (i : grid0.Coords) (k0_t2 : Fin (k0_t2_loop i).trips) : Fin 4 → Nat :=
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v287 : Index := Scalar.indexCast v241
  let c0_146 : Index := 0#32
  let c0_147 : Index := 0#32
  let c0_148 : Index := 0#32
  ![v287.toNat, 0, 0, 0]
def k0_off18 (i : grid0.Coords) (k0_t2 : Fin (k0_t2_loop i).trips) : Fin 4 → Nat :=
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v294 : Index := Scalar.indexCast v241
  let c1_149 : Index := 1#32
  let c0_150 : Index := 0#32
  let c0_151 : Index := 0#32
  ![v294.toNat, 1, 0, 0]
def k0_off19 (i : grid0.Coords) (k0_t2 : Fin (k0_t2_loop i).trips) : Fin 4 → Nat :=
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v301 : Index := Scalar.indexCast v241
  let c2_152 : Index := 2#32
  let c0_153 : Index := 0#32
  let c0_154 : Index := 0#32
  ![v301.toNat, 2, 0, 0]
def k0_off20 (i : grid0.Coords) (k0_t2 : Fin (k0_t2_loop i).trips) : Fin 4 → Nat :=
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v308 : Index := Scalar.indexCast v241
  let c3_155 : Index := 3#32
  let c0_156 : Index := 0#32
  let c0_157 : Index := 0#32
  ![v308.toNat, 3, 0, 0]
def k0_off21 (i : grid0.Coords) (k0_t2 : Fin (k0_t2_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c1_i32_145 : BitVec 32 := 1#32
  let v286 : BitVec 32 := Scalar.addi v243 c1_i32_145
  let v315 : Index := Scalar.indexCast v286
  let c0_158 : Index := 0#32
  let c0_159 : Index := 0#32
  ![v315.toNat, 0, 0]
def k0_off22 (i : grid0.Coords) (k0_t2 : Fin (k0_t2_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c1_i32_145 : BitVec 32 := 1#32
  let v286 : BitVec 32 := Scalar.addi v243 c1_i32_145
  let v319 : Index := Scalar.indexCast v286
  let c128_161 : Index := 128#32
  let c0_162 : Index := 0#32
  ![v319.toNat, 128, 0]
def k0_off23 (i : grid0.Coords) (k0_t2 : Fin (k0_t2_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c1_i32_145 : BitVec 32 := 1#32
  let v286 : BitVec 32 := Scalar.addi v243 c1_i32_145
  let v323 : Index := Scalar.indexCast v286
  let c256_164 : Index := 256#32
  let c0_165 : Index := 0#32
  ![v323.toNat, 256, 0]
def k0_off24 (i : grid0.Coords) (k0_t2 : Fin (k0_t2_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let c1_i32_71 : BitVec 32 := 1#32
  let arg9 : BitVec 32 := Scf.iv c0_i32_70 c1_i32_71 k0_t2
  let v243 : BitVec 32 := Scalar.subi v242 arg9
  let c1_i32_145 : BitVec 32 := 1#32
  let v286 : BitVec 32 := Scalar.addi v243 c1_i32_145
  let v327 : Index := Scalar.indexCast v286
  let c384_167 : Index := 384#32
  let c0_168 : Index := 0#32
  ![v327.toNat, 384, 0]
def k0_off25 (i : grid0.Coords) (k0_t2 : Fin (k0_t2_loop i).trips) : Fin 4 → Nat :=
  let c1_i32_170 : BitVec 32 := 1#32
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v331 : BitVec 32 := Scalar.subi c1_i32_170 v241
  let v402 : Index := Scalar.indexCast v331
  let c0_188 : Index := 0#32
  let c0_189 : Index := 0#32
  let c0_190 : Index := 0#32
  ![v402.toNat, 0, 0, 0]
def k0_off26 (i : grid0.Coords) (k0_t2 : Fin (k0_t2_loop i).trips) : Fin 4 → Nat :=
  let c1_i32_170 : BitVec 32 := 1#32
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v331 : BitVec 32 := Scalar.subi c1_i32_170 v241
  let v409 : Index := Scalar.indexCast v331
  let c1_192 : Index := 1#32
  let c0_193 : Index := 0#32
  let c0_194 : Index := 0#32
  ![v409.toNat, 1, 0, 0]
def k0_off27 (i : grid0.Coords) (k0_t2 : Fin (k0_t2_loop i).trips) : Fin 4 → Nat :=
  let c1_i32_170 : BitVec 32 := 1#32
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v331 : BitVec 32 := Scalar.subi c1_i32_170 v241
  let v416 : Index := Scalar.indexCast v331
  let c2_196 : Index := 2#32
  let c0_197 : Index := 0#32
  let c0_198 : Index := 0#32
  ![v416.toNat, 2, 0, 0]
def k0_off28 (i : grid0.Coords) (k0_t2 : Fin (k0_t2_loop i).trips) : Fin 4 → Nat :=
  let c1_i32_170 : BitVec 32 := 1#32
  let c0_i32_70 : BitVec 32 := 0#32
  let c1_i32_71 : BitVec 32 := 1#32
  let arg9 : BitVec 32 := Scf.iv c0_i32_70 c1_i32_71 k0_t2
  let c1_i32_114 : BitVec 32 := 1#32
  let v241 : BitVec 32 := Scalar.andi arg9 c1_i32_114
  let v331 : BitVec 32 := Scalar.subi c1_i32_170 v241
  let v423 : Index := Scalar.indexCast v331
  let c3_200 : Index := 3#32
  let c0_201 : Index := 0#32
  let c0_202 : Index := 0#32
  ![v423.toNat, 3, 0, 0]
@[reducible] def k0_t3_loop (i : grid0.Coords) : Scf.Loop 32 :=
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let v170 : BitVec 32 := Scalar.addi c0_i32_70 v169
  let c1_i32_72 : BitVec 32 := 1#32
  ⟨v173, v170, c1_i32_72⟩
def k0_mult4 (i : grid0.Coords) (k0_t3 : Fin (k0_t3_loop i).trips) : BitVec 32 :=
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c256_i32_116 : BitVec 32 := 256#32
  let v244 : BitVec 32 := Scalar.muli v243 c256_i32_116
  v244
def k0_off29 (i : grid0.Coords) (k0_t3 : Fin (k0_t3_loop i).trips) : Fin 3 → Nat :=
  let c0_117 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c256_i32_116 : BitVec 32 := 256#32
  let v244 : BitVec 32 := Scalar.muli v243 c256_i32_116
  let v245 : BitVec 32 := v244
  let v246 : Index := Scalar.indexCast v245
  let c0_118 : Index := 0#32
  ![0, v246.toNat, 0]
def k0_off30 (i : grid0.Coords) (k0_t3 : Fin (k0_t3_loop i).trips) : Fin 3 → Nat :=
  let c0_124 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c256_i32_116 : BitVec 32 := 256#32
  let v244 : BitVec 32 := Scalar.muli v243 c256_i32_116
  let v245 : BitVec 32 := v244
  let v256 : Index := Scalar.indexCast v245
  let c128_125 : Index := 128#32
  ![0, v256.toNat, 128]
def k0_off31 (i : grid0.Coords) (k0_t3 : Fin (k0_t3_loop i).trips) : Fin 3 → Nat :=
  let c0_131 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c256_i32_116 : BitVec 32 := 256#32
  let v244 : BitVec 32 := Scalar.muli v243 c256_i32_116
  let v245 : BitVec 32 := v244
  let v266 : Index := Scalar.indexCast v245
  let c256_132 : Index := 256#32
  ![0, v266.toNat, 256]
def k0_off32 (i : grid0.Coords) (k0_t3 : Fin (k0_t3_loop i).trips) : Fin 3 → Nat :=
  let c0_138 : Index := 0#32
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c256_i32_116 : BitVec 32 := 256#32
  let v244 : BitVec 32 := Scalar.muli v243 c256_i32_116
  let v245 : BitVec 32 := v244
  let v276 : Index := Scalar.indexCast v245
  let c384_139 : Index := 384#32
  ![0, v276.toNat, 384]
def k0_off33 (i : grid0.Coords) (k0_t3 : Fin (k0_t3_loop i).trips) : Fin 4 → Nat :=
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v287 : Index := Scalar.indexCast v241
  let c0_146 : Index := 0#32
  let c0_147 : Index := 0#32
  let c0_148 : Index := 0#32
  ![v287.toNat, 0, 0, 0]
def k0_off34 (i : grid0.Coords) (k0_t3 : Fin (k0_t3_loop i).trips) : Fin 4 → Nat :=
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v294 : Index := Scalar.indexCast v241
  let c1_149 : Index := 1#32
  let c0_150 : Index := 0#32
  let c0_151 : Index := 0#32
  ![v294.toNat, 1, 0, 0]
def k0_off35 (i : grid0.Coords) (k0_t3 : Fin (k0_t3_loop i).trips) : Fin 4 → Nat :=
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v301 : Index := Scalar.indexCast v241
  let c2_152 : Index := 2#32
  let c0_153 : Index := 0#32
  let c0_154 : Index := 0#32
  ![v301.toNat, 2, 0, 0]
def k0_off36 (i : grid0.Coords) (k0_t3 : Fin (k0_t3_loop i).trips) : Fin 4 → Nat :=
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v308 : Index := Scalar.indexCast v241
  let c3_155 : Index := 3#32
  let c0_156 : Index := 0#32
  let c0_157 : Index := 0#32
  ![v308.toNat, 3, 0, 0]
def k0_off37 (i : grid0.Coords) (k0_t3 : Fin (k0_t3_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c1_i32_145 : BitVec 32 := 1#32
  let v286 : BitVec 32 := Scalar.addi v243 c1_i32_145
  let v315 : Index := Scalar.indexCast v286
  let c0_158 : Index := 0#32
  let c0_159 : Index := 0#32
  ![v315.toNat, 0, 0]
def k0_off38 (i : grid0.Coords) (k0_t3 : Fin (k0_t3_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c1_i32_145 : BitVec 32 := 1#32
  let v286 : BitVec 32 := Scalar.addi v243 c1_i32_145
  let v319 : Index := Scalar.indexCast v286
  let c128_161 : Index := 128#32
  let c0_162 : Index := 0#32
  ![v319.toNat, 128, 0]
def k0_off39 (i : grid0.Coords) (k0_t3 : Fin (k0_t3_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c1_i32_145 : BitVec 32 := 1#32
  let v286 : BitVec 32 := Scalar.addi v243 c1_i32_145
  let v323 : Index := Scalar.indexCast v286
  let c256_164 : Index := 256#32
  let c0_165 : Index := 0#32
  ![v323.toNat, 256, 0]
def k0_off40 (i : grid0.Coords) (k0_t3 : Fin (k0_t3_loop i).trips) : Fin 3 → Nat :=
  let arg2 : BitVec 32 := BitVec.ofNat 32 (i 2).val
  let c1_i32_115 : BitVec 32 := 1#32
  let v242 : BitVec 32 := Scalar.subi arg2 c1_i32_115
  let c0_i32_70 : BitVec 32 := 0#32
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let v243 : BitVec 32 := Scalar.subi v242 arg9
  let c1_i32_145 : BitVec 32 := 1#32
  let v286 : BitVec 32 := Scalar.addi v243 c1_i32_145
  let v327 : Index := Scalar.indexCast v286
  let c384_167 : Index := 384#32
  let c0_168 : Index := 0#32
  ![v327.toNat, 384, 0]
def k0_off41 (i : grid0.Coords) (k0_t3 : Fin (k0_t3_loop i).trips) : Fin 4 → Nat :=
  let c1_i32_170 : BitVec 32 := 1#32
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v331 : BitVec 32 := Scalar.subi c1_i32_170 v241
  let v402 : Index := Scalar.indexCast v331
  let c0_188 : Index := 0#32
  let c0_189 : Index := 0#32
  let c0_190 : Index := 0#32
  ![v402.toNat, 0, 0, 0]
def k0_off42 (i : grid0.Coords) (k0_t3 : Fin (k0_t3_loop i).trips) : Fin 4 → Nat :=
  let c1_i32_170 : BitVec 32 := 1#32
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v331 : BitVec 32 := Scalar.subi c1_i32_170 v241
  let v409 : Index := Scalar.indexCast v331
  let c1_192 : Index := 1#32
  let c0_193 : Index := 0#32
  let c0_194 : Index := 0#32
  ![v409.toNat, 1, 0, 0]
def k0_off43 (i : grid0.Coords) (k0_t3 : Fin (k0_t3_loop i).trips) : Fin 4 → Nat :=
  let c1_i32_170 : BitVec 32 := 1#32
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v331 : BitVec 32 := Scalar.subi c1_i32_170 v241
  let v416 : Index := Scalar.indexCast v331
  let c2_196 : Index := 2#32
  let c0_197 : Index := 0#32
  let c0_198 : Index := 0#32
  ![v416.toNat, 2, 0, 0]
def k0_off44 (i : grid0.Coords) (k0_t3 : Fin (k0_t3_loop i).trips) : Fin 4 → Nat :=
  let c1_i32_170 : BitVec 32 := 1#32
  let c0_i32_70 : BitVec 32 := 0#32
  let arg2 : BitVec 32 := BitVec.ofNat 32 (i 2).val
  let v169 : BitVec 32 := Scalar.subi arg2 c0_i32_70
  let c1_i32 : BitVec 32 := 1#32
  let v171 : BitVec 32 := Scalar.divsi v169 c1_i32
  let v172 : BitVec 32 := Scalar.muli v171 c1_i32
  let v173 : BitVec 32 := Scalar.addi c0_i32_70 v172
  let c1_i32_72 : BitVec 32 := 1#32
  let arg9 : BitVec 32 := Scf.iv v173 c1_i32_72 k0_t3
  let c1_i32_114 : BitVec 32 := 1#32
  let v241 : BitVec 32 := Scalar.andi arg9 c1_i32_114
  let v331 : BitVec 32 := Scalar.subi c1_i32_170 v241
  let v423 : Index := Scalar.indexCast v331
  let c3_200 : Index := 3#32
  let c0_201 : Index := 0#32
  let c0_202 : Index := 0#32
  ![v423.toNat, 3, 0, 0]
def k0_off45 (i : grid0.Coords) : Fin 4 → Nat :=
  let arg2 : BitVec 32 := BitVec.ofNat 32 (i 2).val
  let c1_i32_73 : BitVec 32 := 1#32
  let v176 : BitVec 32 := Scalar.andi arg2 c1_i32_73
  let v177 : Index := Scalar.indexCast v176
  let c0_74 : Index := 0#32
  let c0_75 : Index := 0#32
  let c0_76 : Index := 0#32
  ![v177.toNat, 0, 0, 0]
def k0_off46 (i : grid0.Coords) : Fin 4 → Nat :=
  let arg2 : BitVec 32 := BitVec.ofNat 32 (i 2).val
  let c1_i32_73 : BitVec 32 := 1#32
  let v176 : BitVec 32 := Scalar.andi arg2 c1_i32_73
  let v184 : Index := Scalar.indexCast v176
  let c1_77 : Index := 1#32
  let c0_78 : Index := 0#32
  let c0_79 : Index := 0#32
  ![v184.toNat, 1, 0, 0]
def k0_off47 (i : grid0.Coords) : Fin 4 → Nat :=
  let arg2 : BitVec 32 := BitVec.ofNat 32 (i 2).val
  let c1_i32_73 : BitVec 32 := 1#32
  let v176 : BitVec 32 := Scalar.andi arg2 c1_i32_73
  let v191 : Index := Scalar.indexCast v176
  let c2_80 : Index := 2#32
  let c0_81 : Index := 0#32
  let c0_82 : Index := 0#32
  ![v191.toNat, 2, 0, 0]
def k0_off48 (i : grid0.Coords) : Fin 4 → Nat :=
  let arg2 : BitVec 32 := BitVec.ofNat 32 (i 2).val
  let c1_i32_73 : BitVec 32 := 1#32
  let v176 : BitVec 32 := Scalar.andi arg2 c1_i32_73
  let v198 : Index := Scalar.indexCast v176
  let c3_83 : Index := 3#32
  let c0_84 : Index := 0#32
  let c0_85 : Index := 0#32
  ![v198.toNat, 3, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "q_scale" => some (((11863283 / 134217728) * (Real.log 2)⁻¹ : ℝ) : EReal)
  | _ => none
-- ==== ReferenceIdeal.lean ====
abbrev S4x4096x10240 : Shape := ⟨3, ![4, 4096, 10240]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x10240, .f32⟩
  | .hbm, ⟨1, _⟩ => ⟨S4x4096x1024, .f32⟩
  | .hbm, ⟨2, _⟩ => ⟨S4x4096x8x128, .f32⟩
  | .hbm, ⟨3, _⟩ => ⟨S4x8x4096x128, .f32⟩
  | .hbm, ⟨4, _⟩ => ⟨S4x4096x1024, .f32⟩
  | .hbm, ⟨5, _⟩ => ⟨S4x4096x8x128, .f32⟩
  | .hbm, ⟨6, _⟩ => ⟨S4x8x4096x128, .f32⟩
  | .hbm, ⟨7, _⟩ => ⟨S4x4096x1024, .f32⟩
  | .hbm, ⟨8, _⟩ => ⟨S4x4096x8x128, .f32⟩
  | .hbm, ⟨9, _⟩ => ⟨S4x8x4096x128, .f32⟩
  | .hbm, ⟨10, _⟩ => ⟨S4096, .i32⟩
  | .hbm, ⟨11, _⟩ => ⟨S4x8x4096x4096, .f32⟩
  | .hbm, ⟨12, _⟩ => ⟨S_, .f32⟩
  | .hbm, ⟨13, _⟩ => ⟨S4x8x4096x4096, .f32⟩
  | .hbm, ⟨14, _⟩ => ⟨S4x8x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4x8x4096x4096, .f32⟩
  | .hbm, ⟨21, _⟩ => ⟨S_, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .i1⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S_, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .i1⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S_, .f32⟩
  | .hbm, ⟨54, _⟩ => ⟨S_, .f32⟩
  | .hbm, ⟨55, _⟩ => ⟨S4x8x4096x4096, .i1⟩
  | .hbm, ⟨56, _⟩ => ⟨S4x8x4096x4096, .f32⟩
  | .hbm, ⟨57, _⟩ => ⟨S4x8x4096x4096, .f32⟩
  | .hbm, ⟨58, _⟩ => ⟨S_, .f32⟩
  | .hbm, ⟨59, _⟩ => ⟨S_, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S_, .f32⟩
  | .hbm, ⟨65, _⟩ => ⟨S_, .f32⟩
  | .hbm, ⟨66, _⟩ => ⟨S4x8x4096x4096, .i1⟩
  | .hbm, ⟨67, _⟩ => ⟨S4x8x4096x4096, .f32⟩
  | .hbm, ⟨68, _⟩ => ⟨S4x8x4096x4096, .f32⟩
  | .hbm, ⟨69, _⟩ => ⟨S4x8x4096x128, .f32⟩
  | .hbm, ⟨70, _⟩ => ⟨S4x4096x8x128, .f32⟩
  | .hbm, ⟨71, _⟩ => ⟨S4x4096x1024, .f32⟩
  | .hbm, ⟨72, _⟩ => ⟨S4x4096x1024, .bf16⟩
  | _, _ => ⟨S4x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048x5632 : Shape := ⟨2, ![2048, 5632]⟩
abbrev S5632x2048 : Shape := ⟨2, ![5632, 2048]⟩
abbrev S16384x2048 : Shape := ⟨2, ![16384, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x4096x2048 : Shape := ⟨3, ![4, 4096, 2048]⟩
abbrev S2048x5632 : Shape := ⟨2, ![2048, 5632]⟩
abbrev S5632x2048 : Shape := ⟨2, ![5632, 2048]⟩
abbrev S4x4096x5632 : Shape := ⟨3, ![4, 4096, 5632]⟩
abbrev S_ : Shape := ⟨0, ![]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4x4096x5632, .f32⟩
  | .hbm, ⟨6, _⟩ => ⟨S4x4096x5632, .f32⟩
  | .hbm, ⟨7, _⟩ => ⟨S4x4096x5632, .f32⟩
  | .hbm, ⟨8, _⟩ => ⟨S_, .f32⟩
  | .hbm, ⟨9, _⟩ => ⟨S4x4096x5632, .f32⟩
  | .hbm, ⟨10, _⟩ => ⟨S4x4096x5632, .f32⟩
  | .hbm, ⟨11, _⟩ => ⟨S_, .f32⟩
  | .hbm, ⟨12, _⟩ => ⟨S4x4096x5632, .f32⟩
  | .hbm, ⟨13, _⟩ => ⟨S4x4096x5632, .f32⟩
  | .hbm, ⟨14, _⟩ => ⟨S4x4096x5632, .f32⟩
  | .hbm, ⟨15, _⟩ => ⟨S4x4096x5632, .f32⟩
  | .hbm, ⟨16, _⟩ => ⟨S4x4096x5632, .f32⟩
  | .hbm, ⟨17, _⟩ => ⟨S4x4096x2048, .f32⟩
  | .hbm, ⟨18, _⟩ => ⟨S4x4096x2048, .f32⟩
  | .hbm, ⟨19, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel3.lean ====
abbrev S4x4096x2048 : Shape := ⟨3, ![4, 4096, 2048]⟩
abbrev S2048 : Shape := ⟨1, ![2048]⟩
abbrev S2048x10240 : Shape := ⟨2, ![2048, 10240]⟩
abbrev S128 : Shape := ⟨1, ![128]⟩
abbrev S16384x2048 : Shape := ⟨2, ![16384, 2048]⟩
abbrev S1x2048 : Shape := ⟨2, ![1, 2048]⟩
abbrev S1x128 : Shape := ⟨2, ![1, 128]⟩
abbrev S16384x10240 : Shape := ⟨2, ![16384, 10240]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x10240, .f32⟩
  | .hbm, ⟨3, _⟩ => ⟨S128, .f32⟩
  | .hbm, ⟨4, _⟩ => ⟨S128, .f32⟩
  | .hbm, ⟨5, _⟩ => ⟨S16384x2048, .f32⟩
  | .hbm, ⟨6, _⟩ => ⟨S1x2048, .f32⟩
  | .hbm, ⟨7, _⟩ => ⟨S2048x10240, .bf16⟩
  | .hbm, ⟨8, _⟩ => ⟨S1x128, .f32⟩
  | .hbm, ⟨9, _⟩ => ⟨S1x128, .f32⟩
  | .hbm, ⟨10, _⟩ => ⟨S16384x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S1x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c3_i32 : BitVec 32 := 3#32
  let v7 : BitVec 1 := Scalar.cmpi .eq arg1 c3_i32
  let v10 : BitVec 32 := Scalar.extui v7
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c4_i32 : BitVec 32 := 4#32
  let v8 : BitVec 1 := Scalar.cmpi .eq arg1 c4_i32
  let v12 : BitVec 32 := Scalar.extui v8
  let c0_i32_5 : BitVec 32 := 0#32
  let v13 : BitVec 1 := Scalar.cmpi .ne v12 c0_i32_5
  v13

def k0_cond4 (i : grid0.Coords) : BitVec 1 :=
  let arg1 : BitVec 32 := BitVec.ofNat 32 (i 1).val
  let c6_i32 : BitVec 32 := 6#32
  let v9 : BitVec 1 := Scalar.cmpi .sge arg1 c6_i32
  let v14 : BitVec 32 := Scalar.extui v9
  let c0_i32_6 : BitVec 32 := 0#32
  let v15 : BitVec 1 := Scalar.cmpi .ne v14 c0_i32_6
  v15

def k0_cond5 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v16 : BitVec 1 := Scalar.ori v7 v8
  let c6_i32 : BitVec 32 := 6#32
  let v9 : BitVec 1 := Scalar.cmpi .sge arg1 c6_i32
  let v17 : BitVec 1 := Scalar.ori v16 v9
  let v_true : BitVec 1 := 1#1
  let v18 : BitVec 1 := Scalar.xori v17 v_true
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x4096x2048 : Shape := ⟨3, ![4, 4096, 2048]⟩
abbrev S2048 : Shape := ⟨1, ![2048]⟩
abbrev S2048x10240 : Shape := ⟨2, ![2048, 10240]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x10240 : Shape := ⟨3, ![4, 4096, 10240]⟩
abbrev S4x4096x1024 : Shape := ⟨3, ![4, 4096, 1024]⟩
abbrev S4x4096x4x2x128 : Shape := ⟨5, ![4, 4096, 4, 2, 128]⟩
abbrev S4x4096x4x2 : Shape := ⟨4, ![4, 4096, 4, 2]⟩
abbrev S4x4096x4x2x1 : Shape := ⟨5, ![4, 4096, 4, 2, 1]⟩
abbrev S1x1x1x1x128 : Shape := ⟨5, ![1, 1, 1, 1, 128]⟩
abbrev S4x4096x4096 : Shape := ⟨3, ![4, 4096, 4096]⟩
abbrev S4x4096x3072 : Shape := ⟨3, ![4, 4096, 3072]⟩
abbrev S16384x10240 : Shape := ⟨2, ![16384, 10240]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x10240, .f32⟩
  | .hbm, ⟨3, _⟩ => ⟨S128, .f32⟩
  | .hbm, ⟨4, _⟩ => ⟨S128, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x4096x10240, .f32⟩
  | .hbm, ⟨22, _⟩ => ⟨S4x4096x1024, .f32⟩
  | .hbm, ⟨23, _⟩ => ⟨S4x4096x4x2x128, .f32⟩
  | .hbm, ⟨24, _⟩ => ⟨S4x4096x1024, .f32⟩
  | .hbm, ⟨25, _⟩ => ⟨S4x4096x4x2x128, .f32⟩
  | .hbm, ⟨26, _⟩ => ⟨S4x4096x4x2x128, .f32⟩
  | .hbm, ⟨27, _⟩ => ⟨S_, .f32⟩
  | .hbm, ⟨28, _⟩ => ⟨S4x4096x4x2, .f32⟩
  | .hbm, ⟨29, _⟩ => ⟨S4x4096x4x2x1, .f32⟩
  | .hbm, ⟨30, _⟩ => ⟨S_, .f32⟩
  | .hbm, ⟨31, _⟩ => ⟨S4x4096x4x2x1, .f32⟩
  | .hbm, ⟨32, _⟩ => ⟨S4x4096x4x2x1, .f32⟩
  | .hbm, ⟨33, _⟩ => ⟨S_, .f32⟩
  | .hbm, ⟨34, _⟩ => ⟨S4x4096x4x2x1, .f32⟩
  | .hbm, ⟨35, _⟩ => ⟨S4x4096x4x2x1, .f32⟩
  | .hbm, ⟨36, _⟩ => ⟨S4x4096x4x2x1, .f32⟩
  | .hbm, ⟨37, _⟩ => ⟨S4x4096x4x2x128, .f32⟩
  | .hbm, ⟨38, _⟩ => ⟨S4x4096x4x2x128, .f32⟩
  | .hbm, ⟨39, _⟩ => ⟨S1x1x1x1x128, .f32⟩
  | .hbm, ⟨40, _⟩ => ⟨S4x4096x4x2x128, .f32⟩
  | .hbm, ⟨41, _⟩ => ⟨S4x4096x4x2x128, .f32⟩
  | .hbm, ⟨42, _⟩ => ⟨S4x4096x1024, .f32⟩
  | .hbm, ⟨43, _⟩ => ⟨S4x4096x4x2x128, .f32⟩
  | .hbm, ⟨44, _⟩ => ⟨S_, .f32⟩
  | .hbm, ⟨45, _⟩ => ⟨S4x4096x4x2, .f32⟩
  | .hbm, ⟨46, _⟩ => ⟨S4x4096x4x2x1, .f32⟩
  | .hbm, ⟨47, _⟩ => ⟨S_, .f32⟩
  | .hbm, ⟨48, _⟩ => ⟨S4x4096x4x2x1, .f32⟩
  | .hbm, ⟨49, _⟩ => ⟨S4x4096x4x2x1, .f32⟩
  | .hbm, ⟨50, _⟩ => ⟨S_, .f32⟩
  | .hbm, ⟨51, _⟩ => ⟨S4x4096x4x2x1, .f32⟩
  | .hbm, ⟨52, _⟩ => ⟨S4x4096x4x2x1, .f32⟩
  | .hbm, ⟨53, _⟩ => ⟨S4x4096x4x2x1, .f32⟩
  | .hbm, ⟨54, _⟩ => ⟨S4x4096x4x2x128, .f32⟩
  | .hbm, ⟨55, _⟩ => ⟨S4x4096x4x2x128, .f32⟩
  | .hbm, ⟨56, _⟩ => ⟨S1x1x1x1x128, .f32⟩
  | .hbm, ⟨57, _⟩ => ⟨S4x4096x4x2x128, .f32⟩
  | .hbm, ⟨58, _⟩ => ⟨S4x4096x4x2x128, .f32⟩
  | .hbm, ⟨59, _⟩ => ⟨S4x4096x1024, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S_, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096x4096, .f32⟩
  | .hbm, ⟨68, _⟩ => ⟨S4x4096x4096, .f32⟩
  | .hbm, ⟨69, _⟩ => ⟨S4x4096x3072, .f32⟩
  | .hbm, ⟨70, _⟩ => ⟨S4x4096x1024, .f32⟩
  | .hbm, ⟨71, _⟩ => ⟨S4x4096x10240, .f32⟩
  | .hbm, ⟨72, _⟩ => ⟨S16384x10240, .f32⟩
  | .hbm, ⟨73, _⟩ => ⟨S16384x10240, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024x2048 : Shape := ⟨2, ![1024, 2048]⟩
abbrev S4x4096x10240 : Shape := ⟨3, ![4, 4096, 10240]⟩
abbrev S16384x1024 : Shape := ⟨2, ![16384, 1024]⟩
abbrev S16384x10240 : Shape := ⟨2, ![16384, 10240]⟩
abbrev S16384x2048 : Shape := ⟨2, ![16384, 2048]⟩
abbrev S1024x1024 : Shape := ⟨2, ![1024, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024x2048, .f32⟩
  | .hbm, ⟨2, _⟩ => ⟨S4x4096x1024, .f32⟩
  | .hbm, ⟨3, _⟩ => ⟨S1024x2048, .f32⟩
  | .hbm, ⟨4, _⟩ => ⟨S4x4096x10240, .f32⟩
  | .hbm, ⟨5, _⟩ => ⟨S16384x1024, .f32⟩
  | .hbm, ⟨6, _⟩ => ⟨S16384x1024, .bf16⟩
  | .hbm, ⟨7, _⟩ => ⟨S1024x2048, .bf16⟩
  | .hbm, ⟨8, _⟩ => ⟨S16384x1024, .f32⟩
  | .hbm, ⟨9, _⟩ => ⟨S16384x1024, .bf16⟩
  | .hbm, ⟨10, _⟩ => ⟨S1024x2048, .bf16⟩
  | .hbm, ⟨11, _⟩ => ⟨S16384x10240, .f32⟩
  | .hbm, ⟨12, _⟩ => ⟨S16384x10240, .bf16⟩
  | .hbm, ⟨13, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x4096x1024 : Shape := ⟨3, ![4, 4096, 1024]⟩
abbrev S1024x2048 : Shape := ⟨2, ![1024, 2048]⟩
abbrev S4x4096x10240 : Shape := ⟨3, ![4, 4096, 10240]⟩
abbrev S4x4096x2048 : Shape := ⟨3, ![4, 4096, 2048]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2048, .f32⟩
  | .hbm, ⟨2, _⟩ => ⟨S4x4096x1024, .f32⟩
  | .hbm, ⟨3, _⟩ => ⟨S1024x2048, .f32⟩
  | .hbm, ⟨4, _⟩ => ⟨S4x4096x10240, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | .hbm, ⟨13, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S16384x2048, .f32⟩
  | .hbm, ⟨5, _⟩ => ⟨S16384x2048, .bf16⟩
  | .hbm, ⟨6, _⟩ => ⟨S2048x2048, .bf16⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x4096x2048 : Shape := ⟨3, ![4, 4096, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S2048, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S16384x2048, .f32⟩
  | .hbm, ⟨23, _⟩ => ⟨S16384x2048, .f32⟩
  | .hbm, ⟨24, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.RunIdeal.lean ====
/-
  The body of the attention's kernel, run once at symbolic operands: in the point that first fills the transposed
  values' scratch (`runA`), and in the points that find it filled (`runB`). The lists of writes are the run's finds.
-/
module

public import proofs.«01_k».proof.Proof.Gen.KernelIdeal.Loops
public import proofs.«01_k».proof.Proof.Gen.KernelIdeal.Frame

@[expose] public section

set_option maxRecDepth 8192

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Memref `M` on core `c`, held whole at the contents `X`. -/
abbrev pt (c : Dev nD) {sp : Space} {S : Shape} {e : EltTy} (M : Memref sig .tc sp S e)
    (X : BufTy.Contents (Elt F) M.view.ty) : sProp 𝕄 :=
  M.view.loc (c : Thread nD τ) ↦[M.view.set]{fullShare} X

/-- A point that finds the scratch filled: what it writes into the output's buffer and into the tiles' scratch. -/
@[irreducible] def runB (c : Dev nD) (i : grid0.Coords) (arg3 : Memref sig .tc .vmem S1x256x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x256x512 .bf16) (harg6 : arg6.IsWhole) (arg7 : Memref sig .tc .vmem S16x512x256 .bf16) (harg7 : arg7.IsWhole) (arg8 : Memref sig .tc .vmem S2x4x256x256 .f32) (harg8 : arg8.IsWhole)
    (hc : k0_cond1 i ≠ 1#1) (X3 : BufTy.Contents (Elt F) arg3.view.ty) (X4 : BufTy.Contents (Elt F) arg4.view.ty) (X7 : BufTy.Contents (Elt F) arg7.view.ty) (X8 : BufTy.Contents (Elt F) arg8.view.ty) :
    { L6 : List (View.Piece (Elt F) S1x256x512 .bf16) // ∀ (E : Set ℕ) (f5 : BufTy.Contents (Elt F) arg5.view.ty) (f6 : BufTy.Contents (Elt F) arg6.view.ty),
      iprop(pt c arg3 X3 ∗ pt c arg4 X4 ∗ pt c arg5 f5 ∗ pt c arg6 f6 ∗ pt c arg7 X7 ∗ pt c arg8 X8)
      ⊢ wp frame (wpE (defs₀ (F := F)) Variants.none (c : Thread nD τ) none) E (cc0_sb_attn (F := F) i arg3 harg3 arg4 harg4 arg5 harg5 arg6 harg6 arg7 harg7 arg8 harg8)
        (fun _ => iprop(pt c arg3 X3 ∗ pt c arg4 X4 ∗ pt c arg5 f5 ∗ pt c arg6 (arg6.view.writes (Elt F) f6 L6)
          ∗ pt c arg7 X7 ∗ ∃ f8, pt c arg8 f8)) } := by
  refine ⟨?_, fun E f5 f6 => ?run⟩
  case run =>
    iintro ⟨H3, H4, H5, H6, H7, H8⟩
    sl_exec
    sl_step
    isplitl [H3]; · iexact H3
    isplitl [H4]; · iexact H4
    isplitl [H5]; · iexact H5
    isplitl [H6]; · iexact H6
    isplitl [H7]; · iexact H7
    iexists _; iexact H8

/-- A point that fills the scratch: what it writes into the transposed values' scratch too. -/
@[irreducible] def runA (c : Dev nD) (i : grid0.Coords) (arg3 : Memref sig .tc .vmem S1x256x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x256x512 .bf16) (harg6 : arg6.IsWhole) (arg7 : Memref sig .tc .vmem S16x512x256 .bf16) (harg7 : arg7.IsWhole) (arg8 : Memref sig .tc .vmem S2x4x256x256 .f32) (harg8 : arg8.IsWhole)
    (hc : k0_cond1 i = 1#1) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) :
    Σ' (L7 : List (View.Piece (Elt F) S16x512x256 .bf16)), { L6 : List (View.Piece (Elt F) S1x256x512 .bf16) // ∀ (E : Set ℕ) (f6 : BufTy.Contents (Elt F) arg6.view.ty),
      iprop(pt c arg3 X3 ∗ pt c arg4 X4 ∗ pt c arg5 X5 ∗ pt c arg6 f6 ∗ pt c arg7 X7 ∗ pt c arg8 X8)
      ⊢ wp frame (wpE (defs₀ (F := F)) Variants.none (c : Thread nD τ) none) E (cc0_sb_attn (F := F) i arg3 harg3 arg4 harg4 arg5 harg5 arg6 harg6 arg7 harg7 arg8 harg8)
        (fun _ => iprop(pt c arg3 X3 ∗ pt c arg4 X4 ∗ pt c arg5 X5 ∗ pt c arg6 (arg6.view.writes (Elt F) f6 L6)
          ∗ pt c arg7 (arg7.view.writes (Elt F) X7 L7) ∗ ∃ f8, pt c arg8 f8)) } := by
  refine ⟨?_, ?_, fun E f6 => ?run⟩
  case run =>
    iintro ⟨H3, H4, H5, H6, H7, H8⟩
    sl_exec
    sl_step
    isplitl [H3]; · iexact H3
    isplitl [H4]; · iexact H4
    isplitl [H5]; · iexact H5
    isplitl [H6]; · iexact H6
    isplitl [H7]; · iexact H7
    iexists _; iexact H8

end Cert.Proof.KernelIdeal

end
-- ==== Proof.FrameIdeal.lean ====
/-
  The frame of the attention's program over the extended reals: every point's body by the runs of `RunIdeal`, the output's blocks at whatever the
  body leaves there, the launch by the pipeline library.
-/
module

public import proofs.«01_k».proof.Proof.RunIdeal

@[expose] public section

set_option maxRecDepth 8192

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole buffer held whole, as the runs name it. -/
theorem pt_whole (c : Dev nD) (b : Ref sig .tc) (f : b.ty.Contents (Elt F)) :
    (pt c (Memref.whole b) f : sProp 𝕄) = ((c : Thread nD τ).loc b ↦{fullShare} f) := by
  unfold pt
  simp only [Memref.view_whole, View.set_whole]

/-- The body at a point, from the buffers at any contents to the inputs as found. -/
theorem body_run (c : Dev nD) (t : Fin cfg0.N) (f3 : BufTy.Contents (Elt F) (st0_0 t).view.ty)
    (f4 : BufTy.Contents (Elt F) (st0_1 t).view.ty) (f5 : BufTy.Contents (Elt F) (st0_2 t).view.ty)
    (f6 : BufTy.Contents (Elt F) (st0_3 t).view.ty) (f7 : BufTy.Contents (Elt F) (Memref.whole cc0_scratch0).view.ty)
    (f8 : BufTy.Contents (Elt F) (Memref.whole cc0_scratch1).view.ty) :
    iprop(pt c (st0_0 t) f3 ∗ pt c (st0_1 t) f4 ∗ pt c (st0_2 t) f5 ∗ pt c (st0_3 t) f6
      ∗ pt c (Memref.whole cc0_scratch0) f7 ∗ pt c (Memref.whole cc0_scratch1) f8)
    ⊢ wp frame (wpE (defs₀ (F := F)) Variants.none (c : Thread nD τ) none) Set.univ (bodyAt0 (F := F) t)
      (fun _ => iprop(pt c (st0_0 t) f3 ∗ pt c (st0_1 t) f4 ∗ pt c (st0_2 t) f5 ∗ (∃ f, pt c (st0_3 t) f)
        ∗ (∃ f, pt c (Memref.whole cc0_scratch0) f) ∗ ∃ f, pt c (Memref.whole cc0_scratch1) f)) := by
  unfold bodyAt0
  by_cases hc : k0_cond1 (grid0.coords t) = 1#1
  · refine ((runA c (grid0.coords t) _ _ _ _ _ _ _ _ _ _ _ _ hc f3 f4 f5 f7 f8).2.2 Set.univ f6).trans (wp_mono _ _ _ fun _ => ?_)
    iintro ⟨H3, H4, H5, H6, H7, H8⟩
    isplitl [H3]; · iexact H3
    isplitl [H4]; · iexact H4
    isplitl [H5]; · iexact H5
    isplitl [H6]; · iexists _; iexact H6
    isplitl [H7]; · iexists _; iexact H7
    iexact H8
  · refine ((runB c (grid0.coords t) _ _ _ _ _ _ _ _ _ _ _ _ hc f3 f4 f7 f8).2 Set.univ f5 f6).trans (wp_mono _ _ _ fun _ => ?_)
    iintro ⟨H3, H4, H5, H6, H7, H8⟩
    isplitl [H3]; · iexact H3
    isplitl [H4]; · iexact H4
    isplitl [H5]; · iexact H5
    isplitl [H6]; · iexists _; iexact H6
    isplitl [H7]; · iexists _; iexact H7
    iexact H8

/-- The pipeline's proof data: the inputs' blocks stay in place, nothing is said of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
  Φ _ := Pipeline.ΦA spec0 c
  q w := Pipeline.shareOf spec0 w
  owed _ := 0

/-- The output's window is the one whose contents are not said. -/
def fgt (w : Fin cfg0.W) : Bool := decide (w.val = 3)

theorem fgt_0 : fgt 0 = false := rfl
theorem fgt_1 : fgt 1 = false := rfl
theorem fgt_2 : fgt 2 = false := rfl
theorem fgt_3 : fgt 3 = true := rfl

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d

set_option backward.isDefEq.respectTransparency.types false in
/-- What the pipeline asks of the body at every point. -/
theorem body_obligation (c : Dev nD) : BodyObligationLoose (dats m 0 c) (defs₀ (F := F)) Variants.none () Set.univ fgt := fun t => by
  rw [bigSep_W0, bigSep_W0]
  simp only [fgt_0, fgt_1, fgt_2, fgt_3, before_0, before_1, before_2]
  rw [show (dats m 0 c).Φ t.castSucc = Pipeline.ΦA spec0 c from rfl, show (dats m 0 c).Φ t.succ = Pipeline.ΦA spec0 c from rfl]
  unfold Pipeline.ΦA Dat.owesAt Pipeline.owesWithin owns; rw [scopedRest0_eq]
  rw [show (dats m 0 c).owed t.castSucc = 0 from rfl, show (dats m 0 c).owed t.succ = 0 from rfl]
  simp only [← pt_whole]
  iintro ⟨⟨⟨⟨%f7, H7⟩, ⟨%f8, H8⟩⟩, ⟨%r, Hr⟩⟩, ⟨%W, %hW, HO⟩, ⟨%d0, %f3, %h3, H3⟩, ⟨%d1, %f4, %h4, H4⟩, ⟨%d2, %f5, %h5, H5⟩, ⟨%X, %f6, %h6, H6⟩⟩
  iapply (wp_wand_r Idealize.ShloMosaic.frame (wpE (defs₀ (F := F)) Variants.none (c : Thread nD τ) none) Set.univ)
  isplitl [H3 H4 H5 H6 H7 H8]
  · iapply (body_run c t f3 f4 f5 f6 f7 f8)
    isplitl [H3]; · iexact H3
    isplitl [H4]; · iexact H4
    isplitl [H5]; · iexact H5
    isplitl [H6]; · iexact H6
    isplitl [H7]; · iexact H7
    iexact H8
  iintro %_ ⟨H3, H4, H5, ⟨%f6', H6⟩, H7, H8⟩
  isplitl [H7 H8 Hr]
  · isplitl [H7 H8]
    · isplitl [H7]; · iexact H7
      iexact H8
    · iexists r; iexact Hr
  isplitl [HO]
  · iexists W; isplitr; · ipureintro; exact fun _ _ => Or.inl trivial
    iexact HO
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  iexists _; iexists f6'; isplitr; · ipureintro; rfl
  iexact H6

set_option backward.isDefEq.respectTransparency.types false in
/-- The frame run, every counter at zero at the end. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared cfgs (dats m) 0 launch₀0 defs₀ Variants.none fgt m ρ main
    (body_obligation m) (fun _ _ _ => rfl) (fun _ _ => rfl) (V m) (hmain m Variants.none) (A_eq m) (fun _ _ => rfl)
    _ (fun _ h => h)

/-- The argument is as launched at the end, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).2 main_arg0 (Pipeline.mem_restRefs_of main_arg0 (by decide) (by decide))).trans (V_main_arg0 m c), h.2⟩) (run_main m ρ)

end Cert.Proof.KernelIdeal

end
-- ==== Proof.Claims.lean ====
/-
  The frames and the constants' conjuncts of the claim.
-/
module

public import proofs.«01_k».proof.Defs
public import proofs.«01_k».proof.Proof.FrameKernel
public import proofs.«01_k».proof.Proof.FrameIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_k : Cert.quiescent_Kernel := fun m ρ _ => Cert.Proof.Kernel.frame m ρ

theorem frame_ki : Cert.quiescent_KernelIdeal := fun m ρ _ => Cert.Proof.KernelIdeal.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem preserves : Cert.preserves_Kernel_KernelIdeal :=
  ⟨IdealRules.named_const.statement Cert.KernelIdeal.κ "q_scale" .f32 0x3E0293EE#32 (((11863283 / 134217728) * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

end Cert.Proof

end
-- ==== Proof.Tiles.lean ====
/-
  The tiles of the attention's kernel, head by head: the scores of one block of keys against the point's block of
  queries, the softplus sums within the tile, the weights, and one block's product with the transposed values.
  The loads and the stores of the kernel's loop are read at these tiles, whatever float values mean.
-/
module

public import proofs.«01_k».proof.Proof.RunIdeal
public import Idealize.ShloMosaic.Lib.VecWindow
public import Idealize.ShloMosaic.Lib.ValueIdx

@[expose] public section

set_option maxRecDepth 8192

noncomputable section

namespace Cert.Proof.KernelIdeal

open Cert.KernelIdeal Cert.KernelIdeal.Gen
open Idealize.ShloMosaic Idealize.ShloMosaic.ValueIdx

variable {F : FTy → Type} [FloatOps F] [Named F]

/-- One block of 256 rows of one head's 128 columns, out of all the rows. -/
def rows (X : Vec F S1x4096x512 .bf16) (n g : ℕ) : Vec F S1x256x128 .bf16 := fun x =>
  X (ix3 0 ⟨(256 * n + (x 1).val) % 4096, Nat.mod_lt _ (by decide)⟩ ⟨(128 * g + (x 2).val) % 512, Nat.mod_lt _ (by decide)⟩)

/-- One head's 128 columns of the block of queries. -/
def cols (X : Vec F S1x256x512 .bf16) (g : ℕ) : Vec F S1x256x128 .bf16 := fun x =>
  X (ix3 0 (x 1) ⟨(128 * g + (x 2).val) % 512, Nat.mod_lt _ (by decide)⟩)

/-- One head's 128 lanes of one block of the transposed values. -/
def lanes (X : Vec F S16x512x256 .bf16) (n g : ℕ) : Vec F S1x128x256 .bf16 := fun x =>
  X (ix3 ⟨n % 16, Nat.mod_lt _ (by decide)⟩ ⟨(128 * g + (x 1).val) % 512, Nat.mod_lt _ (by decide)⟩ (x 2))

/-- One head's tile in one of the two slots. -/
def slot (X : Vec F S2x4x256x256 .f32) (s g : ℕ) : Vec F S1x1x256x256 .f32 := fun x =>
  X (ix4 ⟨s % 2, Nat.mod_lt _ (by decide)⟩ ⟨g % 4, Nat.mod_lt _ (by decide)⟩ (x 2) (x 3))

theorem readAt_rows {sp : Space} (v : View sig .tc sp S1x4096x512 .bf16) (f : v.ty.Contents (Elt F)) {off : Fin 3 → ℕ} (inb) (n g : ℕ)
    (hn : n < 16) (hg : g < 4) (h : off = ![0, 256 * n, 128 * g]) :
    v.readAt (Elt F) (Rect.unit (s := S1x4096x512) off S1x256x128.size inb).toLoadRect f = rows (v.read (Elt F) f) n g := by
  subst h; funext x
  have h1 : (x 1).val < 256 := (x 1).isLt
  have h2 : (x 2).val < 128 := (x 2).isLt
  refine congrArg (v.read (Elt F) f) (funext fun a => Fin.ext ?_)
  match a with
  | ⟨0, _⟩ => have h0 : (x 0).val < 1 := (x 0).isLt; show 0 + 1 * (x 0).val = 0; omega
  | ⟨1, _⟩ => show 256 * n + 1 * (x 1).val = (256 * n + (x 1).val) % 4096; omega
  | ⟨2, _⟩ => show 128 * g + 1 * (x 2).val = (128 * g + (x 2).val) % 512; omega

theorem readAt_cols {sp : Space} (v : View sig .tc sp S1x256x512 .bf16) (f : v.ty.Contents (Elt F)) {off : Fin 3 → ℕ} (inb) (g : ℕ)
    (hg : g < 4) (h : off = ![0, 0, 128 * g]) :
    v.readAt (Elt F) (Rect.unit (s := S1x256x512) off S1x256x128.size inb).toLoadRect f = cols (v.read (Elt F) f) g := by
  subst h; funext x
  have h2 : (x 2).val < 128 := (x 2).isLt
  refine congrArg (v.read (Elt F) f) (funext fun a => Fin.ext ?_)
  match a with
  | ⟨0, _⟩ => have h0 : (x 0).val < 1 := (x 0).isLt; show 0 + 1 * (x 0).val = 0; omega
  | ⟨1, _⟩ => show 0 + 1 * (x 1).val = (x 1).val; omega
  | ⟨2, _⟩ => show 128 * g + 1 * (x 2).val = (128 * g + (x 2).val) % 512; omega

theorem readAt_lanes {sp : Space} (v : View sig .tc sp S16x512x256 .bf16) (f : v.ty.Contents (Elt F)) {off : Fin 3 → ℕ} (inb) (n g : ℕ)
    (hn : n < 16) (hg : g < 4) (h : off = ![n, 128 * g, 0]) :
    v.readAt (Elt F) (Rect.unit (s := S16x512x256) off S1x128x256.size inb).toLoadRect f = lanes (v.read (Elt F) f) n g := by
  subst h; funext x
  have h1 : (x 1).val < 128 := (x 1).isLt
  refine congrArg (v.read (Elt F) f) (funext fun a => Fin.ext ?_)
  match a with
  | ⟨0, _⟩ => have h0 : (x 0).val < 1 := (x 0).isLt; show n + 1 * (x 0).val = n % 16; omega
  | ⟨1, _⟩ => show 128 * g + 1 * (x 1).val = (128 * g + (x 1).val) % 512; omega
  | ⟨2, _⟩ => show 0 + 1 * (x 2).val = (x 2).val; omega

theorem slot_window (X : Vec F S2x4x256x256 .f32) (s g : ℕ) (hs : s < 2) (hg : g < 4) (inb) :
    slot X s g = VecWindow.window X ![s, g, 0, 0] S1x1x256x256.size inb := by
  funext x
  refine congrArg X (funext fun a => Fin.ext ?_)
  match a with
  | ⟨0, _⟩ => have h0 : (x 0).val < 1 := (x 0).isLt; show s % 2 = s + 1 * (x 0).val; omega
  | ⟨1, _⟩ => have h0 : (x 1).val < 1 := (x 1).isLt; show g % 4 = g + 1 * (x 1).val; omega
  | ⟨2, _⟩ => show (x 2).val = 0 + 1 * (x 2).val; omega
  | ⟨3, _⟩ => show (x 3).val = 0 + 1 * (x 3).val; omega

theorem slot_inb {s g : ℕ} (hs : s < 2) (hg : g < 4) : ∀ a, (![s, g, 0, 0] : Fin 4 → ℕ) a + S1x1x256x256.size a ≤ S2x4x256x256.size a := by
  intro a
  match a with
  | ⟨0, _⟩ => show s + 1 ≤ 2; omega
  | ⟨1, _⟩ => show g + 1 ≤ 4; omega
  | ⟨2, _⟩ => show 0 + 256 ≤ 256; omega
  | ⟨3, _⟩ => show 0 + 256 ≤ 256; omega

theorem readAt_slot {sp : Space} (v : View sig .tc sp S2x4x256x256 .f32) (f : v.ty.Contents (Elt F)) {off : Fin 4 → ℕ} (inb) (s g : ℕ)
    (hs : s < 2) (hg : g < 4) (h : off = ![s, g, 0, 0]) :
    v.readAt (Elt F) (Rect.unit (s := S2x4x256x256) off S1x1x256x256.size inb).toLoadRect f = slot (v.read (Elt F) f) s g := by
  subst h; rw [slot_window _ s g hs hg inb]; rfl

/-- A store to a head's tile of a slot leaves it there; -/
theorem slot_same {sp : Space} (v : View sig .tc sp S2x4x256x256 .f32) (f : v.ty.Contents (Elt F)) {off : Fin 4 → ℕ} (inb)
    (w : Vec F S1x1x256x256 .f32) (L : List (View.Piece (Elt F) S2x4x256x256 .f32)) (s g : ℕ) (hs : s < 2) (hg : g < 4) (h : off = ![s, g, 0, 0]) :
    slot (v.read (Elt F) (v.writes (Elt F) f (⟨Rect.unit (s := S2x4x256x256) off S1x1x256x256.size inb, w⟩ :: L))) s g = w := by
  rw [View.read_writes_cons_put v f inb w L h, slot_window _ s g hs hg (slot_inb hs hg)]
  exact VecWindow.window_put_same (s := S2x4x256x256) _ ![s, g, 0, 0] S1x1x256x256.size (slot_inb hs hg) w

/-- and the other tiles as they were. -/
theorem slot_other {sp : Space} (v : View sig .tc sp S2x4x256x256 .f32) (f : v.ty.Contents (Elt F)) {off : Fin 4 → ℕ} (inb)
    (w : Vec F S1x1x256x256 .f32) (L : List (View.Piece (Elt F) S2x4x256x256 .f32)) (s s' g g' : ℕ) (hs : s < 2) (hg : g < 4)
    (h : off = ![s', g', 0, 0]) (hne : g ≠ g') :
    slot (v.read (Elt F) (v.writes (Elt F) f (⟨Rect.unit (s := S2x4x256x256) off S1x1x256x256.size inb, w⟩ :: L))) s g
      = slot (v.read (Elt F) (v.writes (Elt F) f L)) s g := by
  rw [View.read_writes_cons_put v f inb w L h, slot_window _ s g hs hg (slot_inb hs hg), slot_window _ s g hs hg (slot_inb hs hg)]
  refine VecWindow.window_put_of_disjoint (s := S2x4x256x256) _ ![s', g', 0, 0] S1x1x256x256.size ![s, g, 0, 0] S1x1x256x256.size (slot_inb hs hg) w 1 ?_
  show g + 1 ≤ g' ∨ g' + 1 ≤ g
  omega

/-- Four stores, one per head, to one slot: each head's tile is what was stored last. -/
theorem slot_four {sp : Space} (v : View sig .tc sp S2x4x256x256 .f32) (f : v.ty.Contents (Elt F)) {o3 o2 o1 o0 : Fin 4 → ℕ} (i3 i2 i1 i0)
    (w : Fin 4 → Vec F S1x1x256x256 .f32) (L : List (View.Piece (Elt F) S2x4x256x256 .f32)) (s : ℕ) (hs : s < 2)
    (h3 : o3 = ![s, 3, 0, 0]) (h2 : o2 = ![s, 2, 0, 0]) (h1 : o1 = ![s, 1, 0, 0]) (h0 : o0 = ![s, 0, 0, 0]) (g : Fin 4) :
    slot (v.read (Elt F) (v.writes (Elt F) f (⟨Rect.unit (s := S2x4x256x256) o3 S1x1x256x256.size i3, w 3⟩
      :: ⟨Rect.unit (s := S2x4x256x256) o2 S1x1x256x256.size i2, w 2⟩ :: ⟨Rect.unit (s := S2x4x256x256) o1 S1x1x256x256.size i1, w 1⟩
      :: ⟨Rect.unit (s := S2x4x256x256) o0 S1x1x256x256.size i0, w 0⟩ :: L))) s g.val = w g := by
  match g with
  | ⟨3, _⟩ => exact slot_same v f i3 _ _ s 3 hs (by decide) h3
  | ⟨2, _⟩ =>
    rw [slot_other v f i3 _ _ s s 2 3 hs (by decide) h3 (by decide)]
    exact slot_same v f i2 _ _ s 2 hs (by decide) h2
  | ⟨1, _⟩ =>
    rw [slot_other v f i3 _ _ s s 1 3 hs (by decide) h3 (by decide), slot_other v f i2 _ _ s s 1 2 hs (by decide) h2 (by decide)]
    exact slot_same v f i1 _ _ s 1 hs (by decide) h1
  | ⟨0, _⟩ =>
    rw [slot_other v f i3 _ _ s s 0 3 hs (by decide) h3 (by decide), slot_other v f i2 _ _ s s 0 2 hs (by decide) h2 (by decide),
      slot_other v f i1 _ _ s s 0 1 hs (by decide) h1 (by decide)]
    exact slot_same v f i0 _ _ s 0 hs (by decide) h0

/-! ## The tiles -/

/-- The scores of a block of keys against the block of queries, in base-two units. -/
abbrev score (k q : Vec F S1x256x128 .bf16) : FVec F S256x256 .f32 := k0_pay7 k q
/-- The sums of the softplus from each key to the end of its block. -/
abbrev cum (a : FVec F S256x256 .f32) : FVec F S256x256 .f32 := k0_pay26 k0_pay51 (k0_pay19 a)
/-- The same in the block on the diagonal, where only the keys before the query count. -/
abbrev cumM (a : FVec F S256x256 .f32) : FVec F S256x256 .f32 := k0_pay26 k0_pay51 (k0_pay58 a)
/-- The exponents of the weights, less what the blocks after this one take off. -/
abbrev tile (a : FVec F S256x256 .f32) : Vec F S1x1x256x256 .f32 := k0_pay83 (subf a (cum a))
/-- The same in the block on the diagonal. -/
abbrev tileM (a : FVec F S256x256 .f32) : Vec F S1x1x256x256 .f32 := k0_pay83 (select k0_pay57 (subf a (cumM a)) k0_pay76)
/-- A block's product: the weights its exponents and the carried sums give, times the transposed values. -/
abbrev prod (C : FVec F S1x256 .f32) (e : Vec F S1x1x256x256 .f32) (vt : Vec F S1x128x256 .bf16) : FVec F S128x256 .f32 :=
  k0_pay15 (k0_pay11 C e) vt

/-- The carried values of the four heads in the order the loop carries them. -/
abbrev tup (A : Fin 4 → FVec F S128x256 .f32) (C S : Fin 4 → FVec F S1x256 .f32) : FVec F S128x256 .f32 × FVec F S128x256 .f32 × FVec F S128x256 .f32 × FVec F S128x256 .f32 × FVec F S1x256 .f32 × FVec F S1x256 .f32 × FVec F S1x256 .f32 × FVec F S1x256 .f32 × FVec F S1x256 .f32 × FVec F S1x256 .f32 × FVec F S1x256 .f32 × FVec F S1x256 .f32 :=
  (A 0, A 1, A 2, A 3, C 0, C 1, C 2, C 3, S 0, S 1, S 2, S 3)

section state

variable (qi : ℕ) (Q : Vec F S1x256x512 .bf16) (K : Vec F S1x4096x512 .bf16) (VT : Vec F S16x512x256 .bf16)

/-- The scores of the `n`-th block of keys visited: the block on the diagonal first, then the ones before it. -/
def scoreN (n : ℕ) (g : Fin 4) : FVec F S256x256 .f32 := score (rows K (qi - n) g) (cols Q g)

/-- The exponents of the `n`-th block visited. -/
def E : ℕ → Fin 4 → Vec F S1x1x256x256 .f32
  | 0, g => tileM (scoreN qi Q K 0 g)
  | n + 1, g => tile (scoreN qi Q K (n + 1) g)

/-- The sums over the `n`-th block visited. -/
def S : ℕ → Fin 4 → FVec F S1x256 .f32
  | 0, g => k0_pay84 (cumM (scoreN qi Q K 0 g))
  | n + 1, g => k0_pay84 (cum (scoreN qi Q K (n + 1) g))

/-- The sums over the blocks visited before the `n`-th. -/
def C : ℕ → Fin 4 → FVec F S1x256 .f32
  | 0, _ => k0_pay52
  | n + 1, g => addf (C n g) (S qi Q K n g)

/-- The weighted values of the blocks visited before the `n`-th. -/
def A : ℕ → Fin 4 → FVec F S128x256 .f32
  | 0, _ => k0_pay79
  | n + 1, g => addf (A n g) (prod (C qi Q K n g) (E qi Q K n g) (lanes VT (qi - n) g))

end state

/-! ## Where the loads and the stores lie -/

theorem t2_trips : ∀ i : grid0.Coords, (k0_t2_loop i).trips = (i 2).val := by decide +kernel

theorem t3_trips : ∀ i : grid0.Coords, (k0_t3_loop i).trips = 0 := by decide +kernel

theorem off13_eq : ∀ (i : grid0.Coords) (k : Fin (k0_t2_loop i).trips), k0_off13 i k = ![0, 256 * ((i 2).val - (k.val + 1)), 128 * 0] := by decide +kernel

theorem off17_eq : ∀ (i : grid0.Coords) (k : Fin (k0_t2_loop i).trips), k0_off17 i k = ![k.val % 2, 0, 0, 0] := by decide +kernel

theorem off21_eq : ∀ (i : grid0.Coords) (k : Fin (k0_t2_loop i).trips), k0_off21 i k = ![(i 2).val - k.val, 128 * 0, 0] := by decide +kernel

theorem off25_eq : ∀ (i : grid0.Coords) (k : Fin (k0_t2_loop i).trips), k0_off25 i k = ![(k.val + 1) % 2, 0, 0, 0] := by decide +kernel

theorem off9_eq : ∀ (i : grid0.Coords), k0_off9 i = ![0, 256 * (i 2).val, 128 * 0] := by decide +kernel

theorem off45_eq : ∀ (i : grid0.Coords), k0_off45 i = ![(i 2).val % 2, 0, 0, 0] := by decide +kernel

theorem off14_eq : ∀ (i : grid0.Coords) (k : Fin (k0_t2_loop i).trips), k0_off14 i k = ![0, 256 * ((i 2).val - (k.val + 1)), 128 * 1] := by decide +kernel

theorem off18_eq : ∀ (i : grid0.Coords) (k : Fin (k0_t2_loop i).trips), k0_off18 i k = ![k.val % 2, 1, 0, 0] := by decide +kernel

theorem off22_eq : ∀ (i : grid0.Coords) (k : Fin (k0_t2_loop i).trips), k0_off22 i k = ![(i 2).val - k.val, 128 * 1, 0] := by decide +kernel

theorem off26_eq : ∀ (i : grid0.Coords) (k : Fin (k0_t2_loop i).trips), k0_off26 i k = ![(k.val + 1) % 2, 1, 0, 0] := by decide +kernel

theorem off10_eq : ∀ (i : grid0.Coords), k0_off10 i = ![0, 256 * (i 2).val, 128 * 1] := by decide +kernel

theorem off46_eq : ∀ (i : grid0.Coords), k0_off46 i = ![(i 2).val % 2, 1, 0, 0] := by decide +kernel

theorem off15_eq : ∀ (i : grid0.Coords) (k : Fin (k0_t2_loop i).trips), k0_off15 i k = ![0, 256 * ((i 2).val - (k.val + 1)), 128 * 2] := by decide +kernel

theorem off19_eq : ∀ (i : grid0.Coords) (k : Fin (k0_t2_loop i).trips), k0_off19 i k = ![k.val % 2, 2, 0, 0] := by decide +kernel

theorem off23_eq : ∀ (i : grid0.Coords) (k : Fin (k0_t2_loop i).trips), k0_off23 i k = ![(i 2).val - k.val, 128 * 2, 0] := by decide +kernel

theorem off27_eq : ∀ (i : grid0.Coords) (k : Fin (k0_t2_loop i).trips), k0_off27 i k = ![(k.val + 1) % 2, 2, 0, 0] := by decide +kernel

theorem off11_eq : ∀ (i : grid0.Coords), k0_off11 i = ![0, 256 * (i 2).val, 128 * 2] := by decide +kernel

theorem off47_eq : ∀ (i : grid0.Coords), k0_off47 i = ![(i 2).val % 2, 2, 0, 0] := by decide +kernel

theorem off16_eq : ∀ (i : grid0.Coords) (k : Fin (k0_t2_loop i).trips), k0_off16 i k = ![0, 256 * ((i 2).val - (k.val + 1)), 128 * 3] := by decide +kernel

theorem off20_eq : ∀ (i : grid0.Coords) (k : Fin (k0_t2_loop i).trips), k0_off20 i k = ![k.val % 2, 3, 0, 0] := by decide +kernel

theorem off24_eq : ∀ (i : grid0.Coords) (k : Fin (k0_t2_loop i).trips), k0_off24 i k = ![(i 2).val - k.val, 128 * 3, 0] := by decide +kernel

theorem off28_eq : ∀ (i : grid0.Coords) (k : Fin (k0_t2_loop i).trips), k0_off28 i k = ![(k.val + 1) % 2, 3, 0, 0] := by decide +kernel

theorem off12_eq : ∀ (i : grid0.Coords), k0_off12 i = ![0, 256 * (i 2).val, 128 * 3] := by decide +kernel

theorem off48_eq : ∀ (i : grid0.Coords), k0_off48 i = ![(i 2).val % 2, 3, 0, 0] := by decide +kernel

section loop

variable (c : Dev nD) (i : grid0.Coords) (arg3 : Memref sig .tc .vmem S1x256x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x256x512 .bf16) (harg6 : arg6.IsWhole) (arg7 : Memref sig .tc .vmem S16x512x256 .bf16) (harg7 : arg7.IsWhole) (arg8 : Memref sig .tc .vmem S2x4x256x256 .f32) (harg8 : arg8.IsWhole) (arg2 : BitVec 32) (v11 : FVec F S1x256 .f32) (v56 : IVec S256x256 1) (v140 v148 v156 : FVec F S1x256 .f32) (v157 v158 v159 : FVec F S256x256 .f32) (X3 : BufTy.Contents (Elt F) arg3.view.ty) (X4 : BufTy.Contents (Elt F) arg4.view.ty) (X7 : BufTy.Contents (Elt F) arg7.view.ty)

/-- What one trip carries on, from what it was given. -/
theorem trip_result (k : Fin (k0_t2_loop i).trips) (A' : Fin 4 → FVec F S128x256 .f32) (C' S' : Fin 4 → FVec F S1x256 .f32)
    (f : BufTy.Contents (Elt F) arg8.view.ty) :
    tripR_k0_t2 (F := F) Variants.none c none i arg3 harg3 arg4 harg4 arg5 harg5 arg6 harg6 arg7 harg7 arg8 harg8 arg2 k0_pay51 v11 v56 v140 v148 v156 v157 v158 v159 X3 X4 X7 k (tup A' C' S') f
      = tup (fun g => addf (A' g) (prod (C' g) (slot (arg8.view.read (Elt F) f) (k.val % 2) g)
              (lanes (arg7.view.read (Elt F) X7) ((i 2).val - k.val) g)))
          (fun g => addf (C' g) (S' g))
          (fun g => S (i 2).val (arg3.view.read (Elt F) X3) (arg4.view.read (Elt F) X4) (k.val + 1) g) := by
  have hd : (i 2).val - (k.val + 1) < 16 := by have : (i 2).val < 16 := (i 2).isLt; omega
  have hd' : (i 2).val - k.val < 16 := by have : (i 2).val < 16 := (i 2).isLt; omega
  have hp : k.val % 2 < 2 := Nat.mod_lt _ (by decide)
  unfold tripR_k0_t2 trip_k0_t2
  dsimp only
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19]
  rw [readAt_rows arg4.view X4 (k0_off13_inb i k) ((i 2).val - (k.val + 1)) 0 hd (by decide) (off13_eq i k),
    readAt_cols arg3.view X3 (off := ![0, 0, 0]) _ 0 (by decide) rfl,
    readAt_slot arg8.view f (k0_off17_inb i k) (k.val % 2) 0 hp (by decide) (off17_eq i k),
    readAt_lanes arg7.view X7 (k0_off21_inb i k) ((i 2).val - k.val) 0 hd' (by decide) (off21_eq i k),
    readAt_rows arg4.view X4 (k0_off14_inb i k) ((i 2).val - (k.val + 1)) 1 hd (by decide) (off14_eq i k),
    readAt_cols arg3.view X3 (off := ![0, 0, 128]) _ 1 (by decide) rfl,
    readAt_slot arg8.view f (k0_off18_inb i k) (k.val % 2) 1 hp (by decide) (off18_eq i k),
    readAt_lanes arg7.view X7 (k0_off22_inb i k) ((i 2).val - k.val) 1 hd' (by decide) (off22_eq i k),
    readAt_rows arg4.view X4 (k0_off15_inb i k) ((i 2).val - (k.val + 1)) 2 hd (by decide) (off15_eq i k),
    readAt_cols arg3.view X3 (off := ![0, 0, 256]) _ 2 (by decide) rfl,
    readAt_slot arg8.view f (k0_off19_inb i k) (k.val % 2) 2 hp (by decide) (off19_eq i k),
    readAt_lanes arg7.view X7 (k0_off23_inb i k) ((i 2).val - k.val) 2 hd' (by decide) (off23_eq i k),
    readAt_rows arg4.view X4 (k0_off16_inb i k) ((i 2).val - (k.val + 1)) 3 hd (by decide) (off16_eq i k),
    readAt_cols arg3.view X3 (off := ![0, 0, 384]) _ 3 (by decide) rfl,
    readAt_slot arg8.view f (k0_off20_inb i k) (k.val % 2) 3 hp (by decide) (off20_eq i k),
    readAt_lanes arg7.view X7 (k0_off24_inb i k) ((i 2).val - k.val) 3 hd' (by decide) (off24_eq i k)]
  rfl

/-- What one trip stores: the next block's exponents, in the other slot. -/
theorem trip_tiles (k : Fin (k0_t2_loop i).trips) (acc : FVec F S128x256 .f32 × FVec F S128x256 .f32 × FVec F S128x256 .f32 × FVec F S128x256 .f32 × FVec F S1x256 .f32 × FVec F S1x256 .f32 × FVec F S1x256 .f32 × FVec F S1x256 .f32 × FVec F S1x256 .f32 × FVec F S1x256 .f32 × FVec F S1x256 .f32 × FVec F S1x256 .f32) (f G : BufTy.Contents (Elt F) arg8.view.ty)
    (L : List (View.Piece (Elt F) S2x4x256x256 .f32)) (g : Fin 4) :
    slot (arg8.view.read (Elt F) (arg8.view.writes (Elt F) G
      (tripL_k0_t2 (F := F) Variants.none c none i arg3 harg3 arg4 harg4 arg5 harg5 arg6 harg6 arg7 harg7 arg8 harg8 arg2 k0_pay51 v11 v56 v140 v148 v156 v157 v158 v159 X3 X4 X7 k acc f ++ L))) ((k.val + 1) % 2) g
      = E (i 2).val (arg3.view.read (Elt F) X3) (arg4.view.read (Elt F) X4) (k.val + 1) g := by
  have hd : (i 2).val - (k.val + 1) < 16 := by have : (i 2).val < 16 := (i 2).isLt; omega
  have hp : (k.val + 1) % 2 < 2 := Nat.mod_lt _ (by decide)
  unfold tripL_k0_t2 trip_k0_t2
  dsimp only
  simp only [trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19]
  rw [readAt_rows arg4.view X4 (k0_off13_inb i k) ((i 2).val - (k.val + 1)) 0 hd (by decide) (off13_eq i k),
    readAt_cols arg3.view X3 (off := ![0, 0, 0]) _ 0 (by decide) rfl,
    readAt_rows arg4.view X4 (k0_off14_inb i k) ((i 2).val - (k.val + 1)) 1 hd (by decide) (off14_eq i k),
    readAt_cols arg3.view X3 (off := ![0, 0, 128]) _ 1 (by decide) rfl,
    readAt_rows arg4.view X4 (k0_off15_inb i k) ((i 2).val - (k.val + 1)) 2 hd (by decide) (off15_eq i k),
    readAt_cols arg3.view X3 (off := ![0, 0, 256]) _ 2 (by decide) rfl,
    readAt_rows arg4.view X4 (k0_off16_inb i k) ((i 2).val - (k.val + 1)) 3 hd (by decide) (off16_eq i k),
    readAt_cols arg3.view X3 (off := ![0, 0, 384]) _ 3 (by decide) rfl]
  exact slot_four arg8.view G _ _ _ _
    (fun g => E (i 2).val (arg3.view.read (Elt F) X3) (arg4.view.read (Elt F) X4) (k.val + 1) g) L _ hp
    (off28_eq i k) (off27_eq i k) (off26_eq i k) (off25_eq i k) g

/-- THE LOOP: before trip `k` the carried values and the slot's tiles are those of the blocks visited. -/
theorem loop_state (G : BufTy.Contents (Elt F) arg8.view.ty)
    (hG : ∀ g : Fin 4, slot (arg8.view.read (Elt F) G) 0 g = E (i 2).val (arg3.view.read (Elt F) X3) (arg4.view.read (Elt F) X4) 0 g) :
    ∀ k : ℕ, k ≤ (k0_t2_loop i).trips →
      (st_k0_t2 (F := F) Variants.none c none i arg3 harg3 arg4 harg4 arg5 harg5 arg6 harg6 arg7 harg7 arg8 harg8 arg2 k0_pay51 v11 v56 v140 v148 v156 v157 v158 v159 X3 X4 X7 G
          (tup (A (i 2).val (arg3.view.read (Elt F) X3) (arg4.view.read (Elt F) X4) (arg7.view.read (Elt F) X7) 0)
            (C (i 2).val (arg3.view.read (Elt F) X3) (arg4.view.read (Elt F) X4) 0)
            (S (i 2).val (arg3.view.read (Elt F) X3) (arg4.view.read (Elt F) X4) 0)) k).1
        = tup (A (i 2).val (arg3.view.read (Elt F) X3) (arg4.view.read (Elt F) X4) (arg7.view.read (Elt F) X7) k)
            (C (i 2).val (arg3.view.read (Elt F) X3) (arg4.view.read (Elt F) X4) k)
            (S (i 2).val (arg3.view.read (Elt F) X3) (arg4.view.read (Elt F) X4) k)
      ∧ ∀ g : Fin 4, slot (arg8.view.read (Elt F) (arg8.view.writes (Elt F) G
          (st_k0_t2 (F := F) Variants.none c none i arg3 harg3 arg4 harg4 arg5 harg5 arg6 harg6 arg7 harg7 arg8 harg8 arg2 k0_pay51 v11 v56 v140 v148 v156 v157 v158 v159 X3 X4 X7 G
          (tup (A (i 2).val (arg3.view.read (Elt F) X3) (arg4.view.read (Elt F) X4) (arg7.view.read (Elt F) X7) 0)
            (C (i 2).val (arg3.view.read (Elt F) X3) (arg4.view.read (Elt F) X4) 0)
            (S (i 2).val (arg3.view.read (Elt F) X3) (arg4.view.read (Elt F) X4) 0)) k).2)) (k % 2) g
        = E (i 2).val (arg3.view.read (Elt F) X3) (arg4.view.read (Elt F) X4) k g
  | 0, _ => ⟨rfl, fun g => hG g⟩
  | k + 1, hk => by
    obtain ⟨h1, h2⟩ := loop_state G hG k (by omega)
    have e := st_k0_t2_succ (F := F) Variants.none c none i arg3 harg3 arg4 harg4 arg5 harg5 arg6 harg6 arg7 harg7 arg8 harg8 arg2 k0_pay51 v11 v56 v140 v148 v156 v157 v158 v159 X3 X4 X7 G
      (tup (A (i 2).val (arg3.view.read (Elt F) X3) (arg4.view.read (Elt F) X4) (arg7.view.read (Elt F) X7) 0)
            (C (i 2).val (arg3.view.read (Elt F) X3) (arg4.view.read (Elt F) X4) 0)
            (S (i 2).val (arg3.view.read (Elt F) X3) (arg4.view.read (Elt F) X4) 0)) ⟨k, by omega⟩
    dsimp only at e
    rw [e]
    dsimp only
    constructor
    · rw [h1, trip_result c i arg3 harg3 arg4 harg4 arg5 harg5 arg6 harg6 arg7 harg7 arg8 harg8 arg2 v11 v56 v140 v148 v156 v157 v158 v159 X3 X4 X7]
      simp only [h2]
      rfl
    · intro g
      exact trip_tiles c i arg3 harg3 arg4 harg4 arg5 harg5 arg6 harg6 arg7 harg7 arg8 harg8 arg2 v11 v56 v140 v148 v156 v157 v158 v159 X3 X4 X7 ⟨k, by omega⟩ _ _ G _ g

end loop

end Cert.Proof.KernelIdeal

end
-- ==== Proof.Block.lean ====
/-
  One grid point of the attention's kernel: the transposed values' scratch as the filling points leave it, and the
  block of outputs the point leaves, whatever float values mean.
-/
module

public import proofs.«01_k».proof.Proof.Tiles

@[expose] public section

set_option maxRecDepth 8192
set_option maxHeartbeats 400000

noncomputable section

namespace Cert.Proof.KernelIdeal

open Cert.KernelIdeal Cert.KernelIdeal.Gen
open Idealize.ShloMosaic Idealize.ShloMosaic.ValueIdx

variable {F : FTy → Type} [FloatOps F] [Named F]

/-! ## Windows of the values' scratch and of the output's block -/

theorem lanes_inb {n g : ℕ} (hn : n < 16) (hg : g < 4) : ∀ a, (![n, 128 * g, 0] : Fin 3 → ℕ) a + S1x128x256.size a ≤ S16x512x256.size a := by
  intro a
  match a with
  | ⟨0, _⟩ => show n + 1 ≤ 16; omega
  | ⟨1, _⟩ => show 128 * g + 128 ≤ 512; omega
  | ⟨2, _⟩ => show 0 + 256 ≤ 256; omega

theorem lanes_window (X : Vec F S16x512x256 .bf16) (n g : ℕ) (hn : n < 16) (hg : g < 4) (inb) :
    lanes X n g = VecWindow.window X ![n, 128 * g, 0] S1x128x256.size inb := by
  funext x
  have h1 : (x 1).val < 128 := (x 1).isLt
  refine congrArg X (funext fun a => Fin.ext ?_)
  match a with
  | ⟨0, _⟩ => have h0 : (x 0).val < 1 := (x 0).isLt; show n % 16 = n + 1 * (x 0).val; omega
  | ⟨1, _⟩ => show (128 * g + (x 1).val) % 512 = 128 * g + 1 * (x 1).val; omega
  | ⟨2, _⟩ => show (x 2).val = 0 + 1 * (x 2).val; omega

theorem lanes_same {sp : Space} (v : View sig .tc sp S16x512x256 .bf16) (f : v.ty.Contents (Elt F)) {off : Fin 3 → ℕ} (inb)
    (w : Vec F S1x128x256 .bf16) (L : List (View.Piece (Elt F) S16x512x256 .bf16)) (n g : ℕ) (hn : n < 16) (hg : g < 4) (h : off = ![n, 128 * g, 0]) :
    lanes (v.read (Elt F) (v.writes (Elt F) f (⟨Rect.unit (s := S16x512x256) off S1x128x256.size inb, w⟩ :: L))) n g = w := by
  rw [View.read_writes_cons_put v f inb w L h, lanes_window _ n g hn hg (lanes_inb hn hg)]
  exact VecWindow.window_put_same (s := S16x512x256) _ ![n, 128 * g, 0] S1x128x256.size (lanes_inb hn hg) w

theorem lanes_other {sp : Space} (v : View sig .tc sp S16x512x256 .bf16) (f : v.ty.Contents (Elt F)) {off : Fin 3 → ℕ} (inb)
    (w : Vec F S1x128x256 .bf16) (L : List (View.Piece (Elt F) S16x512x256 .bf16)) (n g n' g' : ℕ) (hn : n < 16) (hg : g < 4)
    (h : off = ![n', 128 * g', 0]) (hne : n ≠ n' ∨ g ≠ g') :
    lanes (v.read (Elt F) (v.writes (Elt F) f (⟨Rect.unit (s := S16x512x256) off S1x128x256.size inb, w⟩ :: L))) n g
      = lanes (v.read (Elt F) (v.writes (Elt F) f L)) n g := by
  rw [View.read_writes_cons_put v f inb w L h, lanes_window _ n g hn hg (lanes_inb hn hg), lanes_window _ n g hn hg (lanes_inb hn hg)]
  rcases hne with hne | hne
  · refine VecWindow.window_put_of_disjoint (s := S16x512x256) _ ![n', 128 * g', 0] S1x128x256.size ![n, 128 * g, 0] S1x128x256.size (lanes_inb hn hg) w 0 ?_
    show n + 1 ≤ n' ∨ n' + 1 ≤ n
    omega
  · refine VecWindow.window_put_of_disjoint (s := S16x512x256) _ ![n', 128 * g', 0] S1x128x256.size ![n, 128 * g, 0] S1x128x256.size (lanes_inb hn hg) w 1 ?_
    show 128 * g + 128 ≤ 128 * g' ∨ 128 * g' + 128 ≤ 128 * g
    omega

theorem cols_inb {g : ℕ} (hg : g < 4) : ∀ a, (![0, 0, 128 * g] : Fin 3 → ℕ) a + S1x256x128.size a ≤ S1x256x512.size a := by
  intro a
  match a with
  | ⟨0, _⟩ => show 0 + 1 ≤ 1; omega
  | ⟨1, _⟩ => show 0 + 256 ≤ 256; omega
  | ⟨2, _⟩ => show 128 * g + 128 ≤ 512; omega

theorem cols_window (X : Vec F S1x256x512 .bf16) (g : ℕ) (hg : g < 4) (inb) :
    cols X g = VecWindow.window X ![0, 0, 128 * g] S1x256x128.size inb := by
  funext x
  have h2 : (x 2).val < 128 := (x 2).isLt
  refine congrArg X (funext fun a => Fin.ext ?_)
  match a with
  | ⟨0, _⟩ => have h0 : (x 0).val < 1 := (x 0).isLt; show 0 = 0 + 1 * (x 0).val; omega
  | ⟨1, _⟩ => show (x 1).val = 0 + 1 * (x 1).val; omega
  | ⟨2, _⟩ => show (128 * g + (x 2).val) % 512 = 128 * g + 1 * (x 2).val; omega

theorem cols_same {sp : Space} (v : View sig .tc sp S1x256x512 .bf16) (f : v.ty.Contents (Elt F)) {off : Fin 3 → ℕ} (inb)
    (w : Vec F S1x256x128 .bf16) (L : List (View.Piece (Elt F) S1x256x512 .bf16)) (g : ℕ) (hg : g < 4) (h : off = ![0, 0, 128 * g]) :
    cols (v.read (Elt F) (v.writes (Elt F) f (⟨Rect.unit (s := S1x256x512) off S1x256x128.size inb, w⟩ :: L))) g = w := by
  rw [View.read_writes_cons_put v f inb w L h, cols_window _ g hg (cols_inb hg)]
  exact VecWindow.window_put_same (s := S1x256x512) _ ![0, 0, 128 * g] S1x256x128.size (cols_inb hg) w

theorem cols_other {sp : Space} (v : View sig .tc sp S1x256x512 .bf16) (f : v.ty.Contents (Elt F)) {off : Fin 3 → ℕ} (inb)
    (w : Vec F S1x256x128 .bf16) (L : List (View.Piece (Elt F) S1x256x512 .bf16)) (g g' : ℕ) (hg : g < 4)
    (h : off = ![0, 0, 128 * g']) (hne : g ≠ g') :
    cols (v.read (Elt F) (v.writes (Elt F) f (⟨Rect.unit (s := S1x256x512) off S1x256x128.size inb, w⟩ :: L))) g
      = cols (v.read (Elt F) (v.writes (Elt F) f L)) g := by
  rw [View.read_writes_cons_put v f inb w L h, cols_window _ g hg (cols_inb hg), cols_window _ g hg (cols_inb hg)]
  refine VecWindow.window_put_of_disjoint (s := S1x256x512) _ ![0, 0, 128 * g'] S1x256x128.size ![0, 0, 128 * g] S1x256x128.size (cols_inb hg) w 2 ?_
  show 128 * g + 128 ≤ 128 * g' ∨ 128 * g' + 128 ≤ 128 * g
  omega

/-- The block whose heads' columns are `w`. -/
def heads (w : Fin 4 → Vec F S1x256x128 .bf16) : Vec F S1x256x512 .bf16 := fun x =>
  w ⟨(x 2).val / 128, by have h : (x 2).val < 512 := (x 2).isLt; omega⟩ (ix3 0 (x 1) ⟨(x 2).val % 128, Nat.mod_lt _ (by decide)⟩)

theorem eq_heads (X : Vec F S1x256x512 .bf16) (w : Fin 4 → Vec F S1x256x128 .bf16) (h : ∀ g : Fin 4, cols X g.val = w g) : X = heads w := by
  funext x
  have h2 : (x 2).val < 512 := (x 2).isLt
  have h0 : (x 0).val < 1 := (x 0).isLt
  unfold heads
  rw [← h]
  refine congrArg X (funext fun a => Fin.ext ?_)
  match a with
  | ⟨0, _⟩ => show (x 0).val = 0; omega
  | ⟨1, _⟩ => rfl
  | ⟨2, _⟩ => show (x 2).val = (128 * ((x 2).val / 128) + (x 2).val % 128) % 512; omega

/-- Four stores, one per head, over the output's block. -/
theorem heads_four {sp : Space} (v : View sig .tc sp S1x256x512 .bf16) (f : v.ty.Contents (Elt F)) {o3 o2 o1 o0 : Fin 3 → ℕ} (i3 i2 i1 i0)
    (w : Fin 4 → Vec F S1x256x128 .bf16) (L : List (View.Piece (Elt F) S1x256x512 .bf16))
    (h3 : o3 = ![0, 0, 384]) (h2 : o2 = ![0, 0, 256]) (h1 : o1 = ![0, 0, 128]) (h0 : o0 = ![0, 0, 0]) :
    v.read (Elt F) (v.writes (Elt F) f (⟨Rect.unit (s := S1x256x512) o3 S1x256x128.size i3, w 3⟩
      :: ⟨Rect.unit (s := S1x256x512) o2 S1x256x128.size i2, w 2⟩ :: ⟨Rect.unit (s := S1x256x512) o1 S1x256x128.size i1, w 1⟩
      :: ⟨Rect.unit (s := S1x256x512) o0 S1x256x128.size i0, w 0⟩ :: L)) = heads w := by
  refine eq_heads _ _ fun g => ?_
  match g with
  | ⟨3, _⟩ => exact cols_same v f i3 _ _ 3 (by decide) h3
  | ⟨2, _⟩ =>
    rw [cols_other v f i3 _ _ 2 3 (by decide) h3 (by decide)]
    exact cols_same v f i2 _ _ 2 (by decide) h2
  | ⟨1, _⟩ =>
    rw [cols_other v f i3 _ _ 1 3 (by decide) h3 (by decide), cols_other v f i2 _ _ 1 2 (by decide) h2 (by decide)]
    exact cols_same v f i1 _ _ 1 (by decide) h1
  | ⟨0, _⟩ =>
    rw [cols_other v f i3 _ _ 0 3 (by decide) h3 (by decide), cols_other v f i2 _ _ 0 2 (by decide) h2 (by decide),
      cols_other v f i1 _ _ 0 1 (by decide) h1 (by decide)]
    exact cols_same v f i0 _ _ 0 (by decide) h0

/-! ## The transposed values -/

/-- One head's transposed block of values, as the kernel turns it: a product with the identity. -/
abbrev fill (V : Vec F S1x4096x512 .bf16) (n g : ℕ) : Vec F S1x128x256 .bf16 := k0_pay3 k0_pay49 (rows V n g)

/-- All the transposed values. -/
def turned (V : Vec F S1x4096x512 .bf16) : Vec F S16x512x256 .bf16 := fun x =>
  fill V (x 0).val ((x 1).val / 128) (ix3 0 ⟨(x 1).val % 128, Nat.mod_lt _ (by decide)⟩ (x 2))

theorem eq_turned (X : Vec F S16x512x256 .bf16) (V : Vec F S1x4096x512 .bf16) (h : ∀ n < 16, ∀ g < 4, lanes X n g = fill V n g) : X = turned V := by
  funext x
  have h0 : (x 0).val < 16 := (x 0).isLt
  have h1 : (x 1).val < 512 := (x 1).isLt
  unfold turned
  rw [← h (x 0).val h0 ((x 1).val / 128) (by omega)]
  refine congrArg X (funext fun a => Fin.ext ?_)
  match a with
  | ⟨0, _⟩ => show (x 0).val = (x 0).val % 16; omega
  | ⟨1, _⟩ => show (x 1).val = (128 * ((x 1).val / 128) + (x 1).val % 128) % 512; omega
  | ⟨2, _⟩ => rfl

theorem lanes_turned (V : Vec F S1x4096x512 .bf16) (n g : ℕ) (hn : n < 16) (hg : g < 4) : lanes (turned V) n g = fill V n g := by
  funext x
  have h1 : (x 1).val < 128 := (x 1).isLt
  have h0 : (x 0).val < 1 := (x 0).isLt
  have e1 : n % 16 = n := by omega
  have e2 : ((128 * g + (x 1).val) % 512) / 128 = g := by omega
  have e3 : ((128 * g + (x 1).val) % 512) % 128 = (x 1).val := by omega
  have key : ∀ (n' g' : ℕ) (y : S1x128x256.Idx), n' = n → g' = g → y = x → fill V n' g' y = fill V n g x := by
    rintro _ _ _ rfl rfl rfl; rfl
  refine key _ _ _ e1 e2 (funext fun a => Fin.ext ?_)
  match a with
  | ⟨0, _⟩ => show 0 = (x 0).val; omega
  | ⟨1, _⟩ => exact e3
  | ⟨2, _⟩ => rfl

/-! ## The output's block -/

/-- One head's block of outputs, from the point's queries and the keys and transposed values up to it. -/
def outN (qi : ℕ) (Q : Vec F S1x256x512 .bf16) (K : Vec F S1x4096x512 .bf16) (VT : Vec F S16x512x256 .bf16) (g : Fin 4) : Vec F S1x256x128 .bf16 :=
  k0_pay2 (A qi Q K VT qi g) (prod (C qi Q K qi g) (E qi Q K qi g) (lanes VT 0 g))

theorem t1_trips : k0_t1_loop.trips = 16 := by decide +kernel

section fill

variable (c : Dev nD) (i : grid0.Coords) (arg3 : Memref sig .tc .vmem S1x256x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x256x512 .bf16) (harg6 : arg6.IsWhole) (arg7 : Memref sig .tc .vmem S16x512x256 .bf16) (harg7 : arg7.IsWhole) (arg8 : Memref sig .tc .vmem S2x4x256x256 .f32) (harg8 : arg8.IsWhole) (hc : k0_cond1 i = 1#1) (X5 : BufTy.Contents (Elt F) arg5.view.ty)

/-- The scratch after the trips before `k`: the blocks before `k` turned. -/
theorem fill_state (G : BufTy.Contents (Elt F) arg7.view.ty) :
    ∀ k : ℕ, k ≤ k0_t1_loop.trips → ∀ n < k, ∀ g < 4,
      lanes (arg7.view.read (Elt F) (arg7.view.writes (Elt F) G (pb_k0_t1 (F := F) Variants.none c none i arg3 harg3 arg4 harg4 arg5 harg5 arg6 harg6 arg7 harg7 arg8 harg8 hc X5 k))) n g
        = fill (arg5.view.read (Elt F) X5) n g
  | 0, _, n, hn, _, _ => absurd hn (Nat.not_lt_zero n)
  | k + 1, hk, n, hn, g, hg => by
    have e := pb_k0_t1_succ (F := F) Variants.none c none i arg3 harg3 arg4 harg4 arg5 harg5 arg6 harg6 arg7 harg7 arg8 harg8 hc X5 ⟨k, by omega⟩
    have h16 := t1_trips
    have hk' : k < 16 := by omega
    have hn' : n < 16 := by omega
    dsimp only at e
    rw [e]
    unfold tripL_k0_t1 trip_k0_t1
    dsimp only
    simp only [trip_k0_t1.sl.v281, trip_k0_t1.sl.v280, trip_k0_t1.sl.v279, trip_k0_t1.sl.v276, trip_k0_t1.sl.v272, trip_k0_t1.sl.v271, trip_k0_t1.sl.v270, trip_k0_t1.sl.v267, trip_k0_t1.sl.v263, trip_k0_t1.sl.v262, trip_k0_t1.sl.v261, trip_k0_t1.sl.v258, trip_k0_t1.sl.v254, trip_k0_t1.sl.v253, trip_k0_t1.sl.v252, trip_k0_t1.sl.cst_120]
    rw [readAt_rows arg5.view X5 (k0_off1_inb i ⟨k, by omega⟩ hc) k 0 hk' (by decide) (k0_off1_eq ⟨k, by omega⟩),
      readAt_rows arg5.view X5 (k0_off3_inb i ⟨k, by omega⟩ hc) k 1 hk' (by decide) (k0_off3_eq ⟨k, by omega⟩),
      readAt_rows arg5.view X5 (k0_off5_inb i ⟨k, by omega⟩ hc) k 2 hk' (by decide) (k0_off5_eq ⟨k, by omega⟩),
      readAt_rows arg5.view X5 (k0_off7_inb i ⟨k, by omega⟩ hc) k 3 hk' (by decide) (k0_off7_eq ⟨k, by omega⟩)]
    simp only [List.cons_append, List.nil_append]
    have h2 := k0_off2_eq ⟨k, by omega⟩
    have h4 := k0_off4_eq ⟨k, by omega⟩
    have h6 := k0_off6_eq ⟨k, by omega⟩
    have h8 := k0_off8_eq ⟨k, by omega⟩
    rcases Nat.lt_succ_iff_lt_or_eq.mp hn with hlt | rfl
    · refine (lanes_other arg7.view G _ _ _ n g k 3 hn' hg h8 (Or.inl (by omega))).trans ?_
      refine (lanes_other arg7.view G _ _ _ n g k 2 hn' hg h6 (Or.inl (by omega))).trans ?_
      refine (lanes_other arg7.view G _ _ _ n g k 1 hn' hg h4 (Or.inl (by omega))).trans ?_
      refine (lanes_other arg7.view G _ _ _ n g k 0 hn' hg h2 (Or.inl (by omega))).trans ?_
      exact fill_state G k (by omega) n hlt g hg
    · rcases (by omega : g = 3 ∨ g = 2 ∨ g = 1 ∨ g = 0) with rfl | rfl | rfl | rfl
      · exact lanes_same arg7.view G _ _ _ n 3 hn' hg h8
      · refine (lanes_other arg7.view G _ _ _ n 2 n 3 hn' hg h8 (Or.inr (by omega))).trans ?_
        exact lanes_same arg7.view G _ _ _ n 2 hn' hg h6
      · refine (lanes_other arg7.view G _ _ _ n 1 n 3 hn' hg h8 (Or.inr (by omega))).trans ?_
        refine (lanes_other arg7.view G _ _ _ n 1 n 2 hn' hg h6 (Or.inr (by omega))).trans ?_
        exact lanes_same arg7.view G _ _ _ n 1 hn' hg h4
      · refine (lanes_other arg7.view G _ _ _ n 0 n 3 hn' hg h8 (Or.inr (by omega))).trans ?_
        refine (lanes_other arg7.view G _ _ _ n 0 n 2 hn' hg h6 (Or.inr (by omega))).trans ?_
        refine (lanes_other arg7.view G _ _ _ n 0 n 1 hn' hg h4 (Or.inr (by omega))).trans ?_
        exact lanes_same arg7.view G _ _ _ n 0 hn' hg h2

/-- The scratch after the whole filling loop: the values turned. -/
theorem fill_all (G : BufTy.Contents (Elt F) arg7.view.ty) (n : ℕ) (hn : n = k0_t1_loop.trips) :
    arg7.view.read (Elt F) (arg7.view.writes (Elt F) G (pb_k0_t1 (F := F) Variants.none c none i arg3 harg3 arg4 harg4 arg5 harg5 arg6 harg6 arg7 harg7 arg8 harg8 hc X5 n))
      = turned (arg5.view.read (Elt F) X5) := by
  subst hn
  refine eq_turned _ _ fun n hn g hg => fill_state c i arg3 harg3 arg4 harg4 arg5 harg5 arg6 harg6 arg7 harg7 arg8 harg8 hc X5 G _ le_rfl n ?_ g hg
  have := t1_trips
  omega

end fill

section out

variable (c : Dev nD) (i : grid0.Coords) (arg3 : Memref sig .tc .vmem S1x256x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x256x512 .bf16) (harg6 : arg6.IsWhole) (arg7 : Memref sig .tc .vmem S16x512x256 .bf16) (harg7 : arg7.IsWhole) (arg8 : Memref sig .tc .vmem S2x4x256x256 .f32) (harg8 : arg8.IsWhole)

section ends

variable (arg2 : BitVec 32) (v11 : FVec F S1x256 .f32) (v56 : IVec S256x256 1) (v140 v148 v156 : FVec F S1x256 .f32) (v157 v158 v159 : FVec F S256x256 .f32)
  (X3 : BufTy.Contents (Elt F) arg3.view.ty) (X4 : BufTy.Contents (Elt F) arg4.view.ty) (X7 : BufTy.Contents (Elt F) arg7.view.ty)

/-- The loop that makes no trip leaves what it was given. -/
theorem t3_end  (v10 : FVec F S256x512 .bf16) (v11 : FVec F S1x256 .f32) (v56 : IVec S256x256 1) (v140 : FVec F S1x256 .f32) (v148 : FVec F S1x256 .f32) (v156 : FVec F S1x256 .f32) (v157 : FVec F S256x256 .f32) (v158 : FVec F S256x256 .f32) (v159 : FVec F S256x256 .f32) (v173 : BitVec 32)  (G : BufTy.Contents (Elt F) arg8.view.ty) (init : FVec F S128x256 .f32 × FVec F S128x256 .f32 × FVec F S128x256 .f32 × FVec F S128x256 .f32 × FVec F S1x256 .f32 × FVec F S1x256 .f32 × FVec F S1x256 .f32 × FVec F S1x256 .f32 × FVec F S1x256 .f32 × FVec F S1x256 .f32 × FVec F S1x256 .f32 × FVec F S1x256 .f32) (n : ℕ) (hn : n = 0) :
    st_k0_t3 (F := F) Variants.none c none i arg3 harg3 arg4 harg4 arg5 harg5 arg6 harg6 arg7 harg7 arg8 harg8 arg2 v10 v11 v56 v140 v148 v156 v157 v158 v159 v173 X3 X4 X7 G init n = (init, []) := by
  subst hn; rfl

/-- The loop over the blocks before the diagonal at its end: what it carries, -/
theorem t2_end (G : BufTy.Contents (Elt F) arg8.view.ty) (init : FVec F S128x256 .f32 × FVec F S128x256 .f32 × FVec F S128x256 .f32 × FVec F S128x256 .f32 × FVec F S1x256 .f32 × FVec F S1x256 .f32 × FVec F S1x256 .f32 × FVec F S1x256 .f32 × FVec F S1x256 .f32 × FVec F S1x256 .f32 × FVec F S1x256 .f32 × FVec F S1x256 .f32) (n : ℕ) (hn : n = (i 2).val) (hinit : init = (tup (A (i 2).val (arg3.view.read (Elt F) X3) (arg4.view.read (Elt F) X4) (arg7.view.read (Elt F) X7) 0) (C (i 2).val (arg3.view.read (Elt F) X3) (arg4.view.read (Elt F) X4) 0) (S (i 2).val (arg3.view.read (Elt F) X3) (arg4.view.read (Elt F) X4) 0)))
    (hG : ∀ g : Fin 4, slot (arg8.view.read (Elt F) G) 0 g = E (i 2).val (arg3.view.read (Elt F) X3) (arg4.view.read (Elt F) X4) 0 g) :
    (st_k0_t2 (F := F) Variants.none c none i arg3 harg3 arg4 harg4 arg5 harg5 arg6 harg6 arg7 harg7 arg8 harg8 arg2 k0_pay51 v11 v56 v140 v148 v156 v157 v158 v159 X3 X4 X7 G init n)
      = (tup (A (i 2).val (arg3.view.read (Elt F) X3) (arg4.view.read (Elt F) X4) (arg7.view.read (Elt F) X7) (i 2).val) (C (i 2).val (arg3.view.read (Elt F) X3) (arg4.view.read (Elt F) X4) (i 2).val) (S (i 2).val (arg3.view.read (Elt F) X3) (arg4.view.read (Elt F) X4) (i 2).val),
        (st_k0_t2 (F := F) Variants.none c none i arg3 harg3 arg4 harg4 arg5 harg5 arg6 harg6 arg7 harg7 arg8 harg8 arg2 k0_pay51 v11 v56 v140 v148 v156 v157 v158 v159 X3 X4 X7 G init n).2) := by
  subst hinit hn
  exact Prod.ext ((loop_state c i arg3 harg3 arg4 harg4 arg5 harg5 arg6 harg6 arg7 harg7 arg8 harg8 arg2 v11 v56 v140 v148 v156 v157 v158 v159 X3 X4 X7 G hG _ (t2_trips i).ge).1) rfl

/-- and the tiles it leaves in the slot the epilogue reads. -/
theorem t2_tiles (G : BufTy.Contents (Elt F) arg8.view.ty) (init : FVec F S128x256 .f32 × FVec F S128x256 .f32 × FVec F S128x256 .f32 × FVec F S128x256 .f32 × FVec F S1x256 .f32 × FVec F S1x256 .f32 × FVec F S1x256 .f32 × FVec F S1x256 .f32 × FVec F S1x256 .f32 × FVec F S1x256 .f32 × FVec F S1x256 .f32 × FVec F S1x256 .f32) (n : ℕ) (g : Fin 4) (k : ℕ) (hk : g.val = k) (hn : n = (i 2).val) (hinit : init = (tup (A (i 2).val (arg3.view.read (Elt F) X3) (arg4.view.read (Elt F) X4) (arg7.view.read (Elt F) X7) 0) (C (i 2).val (arg3.view.read (Elt F) X3) (arg4.view.read (Elt F) X4) 0) (S (i 2).val (arg3.view.read (Elt F) X3) (arg4.view.read (Elt F) X4) 0)))
    (hG : ∀ g : Fin 4, slot (arg8.view.read (Elt F) G) 0 g = E (i 2).val (arg3.view.read (Elt F) X3) (arg4.view.read (Elt F) X4) 0 g) :
    slot (arg8.view.read (Elt F) (arg8.view.writes (Elt F) G
      (st_k0_t2 (F := F) Variants.none c none i arg3 harg3 arg4 harg4 arg5 harg5 arg6 harg6 arg7 harg7 arg8 harg8 arg2 k0_pay51 v11 v56 v140 v148 v156 v157 v158 v159 X3 X4 X7 G init n).2))
      ((i 2).val % 2) k = E (i 2).val (arg3.view.read (Elt F) X3) (arg4.view.read (Elt F) X4) (i 2).val g := by
  subst hinit hn hk
  exact (loop_state c i arg3 harg3 arg4 harg4 arg5 harg5 arg6 harg6 arg7 harg7 arg8 harg8 arg2 v11 v56 v140 v148 v156 v157 v158 v159 X3 X4 X7 G hG _ (t2_trips i).ge).2 g

end ends

theorem runB_score0 (X3 : BufTy.Contents (Elt F) arg3.view.ty) (X4 : BufTy.Contents (Elt F) arg4.view.ty) : runB.sl.r (F := F) i arg3 arg4 X3 X4 = scoreN (i 2).val (arg3.view.read (Elt F) X3) (arg4.view.read (Elt F) X4) 0 0 := by
  have hq : (i 2).val < 16 := (i 2).isLt
  unfold runB.sl.r
  rw [readAt_rows arg4.view X4 (k0_off9_inb i) (i 2).val 0 hq (by decide) (off9_eq i), readAt_cols arg3.view X3 (off := ![0, 0, 0]) _ 0 (by decide) rfl]
  rfl

theorem runB_sum0 (X3 : BufTy.Contents (Elt F) arg3.view.ty) (X4 : BufTy.Contents (Elt F) arg4.view.ty) : runB.sl.r_9 (F := F) i arg3 arg4 X3 X4 = S (i 2).val (arg3.view.read (Elt F) X3) (arg4.view.read (Elt F) X4) 0 0 := by
  simp only [runB.sl.r_9, runB.sl.r_4, runB_score0]
  rfl

theorem runB_tile0 (X3 : BufTy.Contents (Elt F) arg3.view.ty) (X4 : BufTy.Contents (Elt F) arg4.view.ty) : k0_pay66 k0_pay51 (runB.sl.r (F := F) i arg3 arg4 X3 X4) k0_pay57 (runB.sl.r_4 i arg3 arg4 X3 X4) = E (i 2).val (arg3.view.read (Elt F) X3) (arg4.view.read (Elt F) X4) 0 0 := by
  simp only [runB.sl.r_4, runB_score0]
  rfl

theorem runB_score1 (X3 : BufTy.Contents (Elt F) arg3.view.ty) (X4 : BufTy.Contents (Elt F) arg4.view.ty) : runB.sl.r_1 (F := F) i arg3 arg4 X3 X4 = scoreN (i 2).val (arg3.view.read (Elt F) X3) (arg4.view.read (Elt F) X4) 0 1 := by
  have hq : (i 2).val < 16 := (i 2).isLt
  unfold runB.sl.r_1
  rw [readAt_rows arg4.view X4 (k0_off10_inb i) (i 2).val 1 hq (by decide) (off10_eq i), readAt_cols arg3.view X3 (off := ![0, 0, 128]) _ 1 (by decide) rfl]
  rfl

theorem runB_sum1 (X3 : BufTy.Contents (Elt F) arg3.view.ty) (X4 : BufTy.Contents (Elt F) arg4.view.ty) : runB.sl.r_10 (F := F) i arg3 arg4 X3 X4 = S (i 2).val (arg3.view.read (Elt F) X3) (arg4.view.read (Elt F) X4) 0 1 := by
  simp only [runB.sl.r_10, runB.sl.r_5, runB_score1]
  rfl

theorem runB_tile1 (X3 : BufTy.Contents (Elt F) arg3.view.ty) (X4 : BufTy.Contents (Elt F) arg4.view.ty) : k0_pay69 k0_pay51 (runB.sl.r_1 (F := F) i arg3 arg4 X3 X4) k0_pay57 (runB.sl.r_5 i arg3 arg4 X3 X4) = E (i 2).val (arg3.view.read (Elt F) X3) (arg4.view.read (Elt F) X4) 0 1 := by
  simp only [runB.sl.r_5, runB_score1]
  rfl

theorem runB_score2 (X3 : BufTy.Contents (Elt F) arg3.view.ty) (X4 : BufTy.Contents (Elt F) arg4.view.ty) : runB.sl.r_2 (F := F) i arg3 arg4 X3 X4 = scoreN (i 2).val (arg3.view.read (Elt F) X3) (arg4.view.read (Elt F) X4) 0 2 := by
  have hq : (i 2).val < 16 := (i 2).isLt
  unfold runB.sl.r_2
  rw [readAt_rows arg4.view X4 (k0_off11_inb i) (i 2).val 2 hq (by decide) (off11_eq i), readAt_cols arg3.view X3 (off := ![0, 0, 256]) _ 2 (by decide) rfl]
  rfl

theorem runB_sum2 (X3 : BufTy.Contents (Elt F) arg3.view.ty) (X4 : BufTy.Contents (Elt F) arg4.view.ty) : runB.sl.r_11 (F := F) i arg3 arg4 X3 X4 = S (i 2).val (arg3.view.read (Elt F) X3) (arg4.view.read (Elt F) X4) 0 2 := by
  simp only [runB.sl.r_11, runB.sl.r_6, runB_score2]
  rfl

theorem runB_tile2 (X3 : BufTy.Contents (Elt F) arg3.view.ty) (X4 : BufTy.Contents (Elt F) arg4.view.ty) : k0_pay72 k0_pay51 (runB.sl.r_2 (F := F) i arg3 arg4 X3 X4) k0_pay57 (runB.sl.r_6 i arg3 arg4 X3 X4) = E (i 2).val (arg3.view.read (Elt F) X3) (arg4.view.read (Elt F) X4) 0 2 := by
  simp only [runB.sl.r_6, runB_score2]
  rfl

theorem runB_score3 (X3 : BufTy.Contents (Elt F) arg3.view.ty) (X4 : BufTy.Contents (Elt F) arg4.view.ty) : runB.sl.r_3 (F := F) i arg3 arg4 X3 X4 = scoreN (i 2).val (arg3.view.read (Elt F) X3) (arg4.view.read (Elt F) X4) 0 3 := by
  have hq : (i 2).val < 16 := (i 2).isLt
  unfold runB.sl.r_3
  rw [readAt_rows arg4.view X4 (k0_off12_inb i) (i 2).val 3 hq (by decide) (off12_eq i), readAt_cols arg3.view X3 (off := ![0, 0, 384]) _ 3 (by decide) rfl]
  rfl

theorem runB_sum3 (X3 : BufTy.Contents (Elt F) arg3.view.ty) (X4 : BufTy.Contents (Elt F) arg4.view.ty) : k0_pay78 (runB.sl.r_12 (F := F) i arg3 arg4 X3 X4) = S (i 2).val (arg3.view.read (Elt F) X3) (arg4.view.read (Elt F) X4) 0 3 := by
  simp only [runB.sl.r_12, runB.sl.r_7, runB.sl.r_8, runB_score3]
  rfl

theorem runB_tile3 (X3 : BufTy.Contents (Elt F) arg3.view.ty) (X4 : BufTy.Contents (Elt F) arg4.view.ty) : k0_pay77 k0_pay57 (runB.sl.r_13 (F := F) i arg3 arg4 X3 X4) k0_pay76 = E (i 2).val (arg3.view.read (Elt F) X3) (arg4.view.read (Elt F) X4) 0 3 := by
  simp only [runB.sl.r_13, runB.sl.r_7, runB.sl.r_8, runB_score3]
  rfl

/-- The prologue's stores: the diagonal block's tiles, in slot zero. -/
theorem runB_first (X3 : BufTy.Contents (Elt F) arg3.view.ty) (X4 : BufTy.Contents (Elt F) arg4.view.ty) (X8 : BufTy.Contents (Elt F) arg8.view.ty) (g : Fin 4) :
    slot (arg8.view.read (Elt F) (arg8.view.writes (Elt F) X8 [⟨Rect.unit (s := S2x4x256x256) ![0, 3, 0, 0] S1x1x256x256.size inb_S2x4x256x256_S1x1x256x256_0_3_0_0, E (i 2).val (arg3.view.read (Elt F) X3) (arg4.view.read (Elt F) X4) 0 3⟩, ⟨Rect.unit (s := S2x4x256x256) ![0, 2, 0, 0] S1x1x256x256.size inb_S2x4x256x256_S1x1x256x256_0_2_0_0, E (i 2).val (arg3.view.read (Elt F) X3) (arg4.view.read (Elt F) X4) 0 2⟩, ⟨Rect.unit (s := S2x4x256x256) ![0, 1, 0, 0] S1x1x256x256.size inb_S2x4x256x256_S1x1x256x256_0_1_0_0, E (i 2).val (arg3.view.read (Elt F) X3) (arg4.view.read (Elt F) X4) 0 1⟩, ⟨Rect.unit (s := S2x4x256x256) ![0, 0, 0, 0] S1x1x256x256.size inb_S2x4x256x256_S1x1x256x256_0_0_0_0, E (i 2).val (arg3.view.read (Elt F) X3) (arg4.view.read (Elt F) X4) 0 0⟩])) 0 g = E (i 2).val (arg3.view.read (Elt F) X3) (arg4.view.read (Elt F) X4) 0 g :=
  slot_four arg8.view X8 _ _ _ _ (fun g => E (i 2).val (arg3.view.read (Elt F) X3) (arg4.view.read (Elt F) X4) 0 g) [] 0 (by decide) rfl rfl rfl rfl g

/-- The block a point leaves that finds the values turned. -/
theorem runB_out (hc : k0_cond1 i ≠ 1#1) (X3 : BufTy.Contents (Elt F) arg3.view.ty) (X4 : BufTy.Contents (Elt F) arg4.view.ty) (X7 : BufTy.Contents (Elt F) arg7.view.ty) (X8 : BufTy.Contents (Elt F) arg8.view.ty) (f6 : BufTy.Contents (Elt F) arg6.view.ty) :
    arg6.view.read (Elt F) (arg6.view.writes (Elt F) f6 (runB (F := F) c i arg3 harg3 arg4 harg4 arg5 harg5 arg6 harg6 arg7 harg7 arg8 harg8 hc X3 X4 X7 X8).1)
      = heads (outN (i 2).val (arg3.view.read (Elt F) X3) (arg4.view.read (Elt F) X4) (arg7.view.read (Elt F) X7)) := by
  have hp : (i 2).val % 2 < 2 := Nat.mod_lt _ (by decide)
  unfold runB
  dsimp only
  simp only [runB.sl.r_14, runB.sl.r_15, runB.sl.r_16, runB.sl.r_17, runB.sl.r_18, runB.sl.r_19, runB.sl.r_20, runB.sl.r_21, runB.sl.v178, runB.sl.v185, runB.sl.v192, runB.sl.v197, runB.sl.v199, runB.sl.v200, runB.sl.v201, runB.sl.v202, runB.sl.v203, runB.sl.v204, runB.sl.v206, runB.sl.v207, runB.sl.v209, runB.sl.v210, runB.sl.v212, runB.sl.v213, runB.sl.v215, runB.sl.v216, runB.sl.v217, runB.sl.v218, runB.sl.v219, runB.sl.v222, runB.sl.v223, runB.sl.v224, runB.sl.v225, runB.sl.v228, runB.sl.v229]
  rw [t3_end c i arg3 harg3 arg4 harg4 arg5 harg5 arg6 harg6 arg7 harg7 arg8 harg8]
  case hn => exact t3_trips i
  simp only [List.nil_append, View.writes_append]
  simp only [runB_tile0, runB_tile1, runB_tile2, runB_tile3, runB_sum0, runB_sum1, runB_sum2, runB_sum3]
  rw [readAt_slot arg8.view _ (k0_off45_inb i) ((i 2).val % 2) 0 hp (by decide) (off45_eq i), readAt_lanes arg7.view _ (off := ![0, 0, 0]) _ 0 0 (by decide) (by decide) rfl,
    readAt_slot arg8.view _ (k0_off46_inb i) ((i 2).val % 2) 1 hp (by decide) (off46_eq i), readAt_lanes arg7.view _ (off := ![0, 128, 0]) _ 0 1 (by decide) (by decide) rfl,
    readAt_slot arg8.view _ (k0_off47_inb i) ((i 2).val % 2) 2 hp (by decide) (off47_eq i), readAt_lanes arg7.view _ (off := ![0, 256, 0]) _ 0 2 (by decide) (by decide) rfl,
    readAt_slot arg8.view _ (k0_off48_inb i) ((i 2).val % 2) 3 hp (by decide) (off48_eq i), readAt_lanes arg7.view _ (off := ![0, 384, 0]) _ 0 3 (by decide) (by decide) rfl]
  rw [t2_end c i arg3 harg3 arg4 harg4 arg5 harg5 arg6 harg6 arg7 harg7 arg8 harg8]
  case hn => exact t2_trips i
  case hinit => rfl
  case hG => exact runB_first i arg3 arg4 arg8 X3 X4 X8
  dsimp only
  rw [t2_tiles c i arg3 harg3 arg4 harg4 arg5 harg5 arg6 harg6 arg7 harg7 arg8 harg8 _ _ _ _ _ _ _ _ _ _ _ _ _ _ _ 0 0 rfl]
  case hn => exact t2_trips i
  case hinit => rfl
  case hG => exact runB_first i arg3 arg4 arg8 X3 X4 X8
  rw [t2_tiles c i arg3 harg3 arg4 harg4 arg5 harg5 arg6 harg6 arg7 harg7 arg8 harg8 _ _ _ _ _ _ _ _ _ _ _ _ _ _ _ 1 1 rfl]
  case hn => exact t2_trips i
  case hinit => rfl
  case hG => exact runB_first i arg3 arg4 arg8 X3 X4 X8
  rw [t2_tiles c i arg3 harg3 arg4 harg4 arg5 harg5 arg6 harg6 arg7 harg7 arg8 harg8 _ _ _ _ _ _ _ _ _ _ _ _ _ _ _ 2 2 rfl]
  case hn => exact t2_trips i
  case hinit => rfl
  case hG => exact runB_first i arg3 arg4 arg8 X3 X4 X8
  rw [t2_tiles c i arg3 harg3 arg4 harg4 arg5 harg5 arg6 harg6 arg7 harg7 arg8 harg8 _ _ _ _ _ _ _ _ _ _ _ _ _ _ _ 3 3 rfl]
  case hn => exact t2_trips i
  case hinit => rfl
  case hG => exact runB_first i arg3 arg4 arg8 X3 X4 X8

  exact heads_four arg6.view f6 _ _ _ _ (outN (i 2).val (arg3.view.read (Elt F) X3) (arg4.view.read (Elt F) X4) (arg7.view.read (Elt F) X7)) [] rfl rfl rfl rfl

theorem runA_score0 (X3 : BufTy.Contents (Elt F) arg3.view.ty) (X4 : BufTy.Contents (Elt F) arg4.view.ty) : runA.sl.r (F := F) i arg3 arg4 X3 X4 = scoreN (i 2).val (arg3.view.read (Elt F) X3) (arg4.view.read (Elt F) X4) 0 0 := by
  have hq : (i 2).val < 16 := (i 2).isLt
  unfold runA.sl.r
  rw [readAt_rows arg4.view X4 (k0_off9_inb i) (i 2).val 0 hq (by decide) (off9_eq i), readAt_cols arg3.view X3 (off := ![0, 0, 0]) _ 0 (by decide) rfl]
  rfl

theorem runA_sum0 (X3 : BufTy.Contents (Elt F) arg3.view.ty) (X4 : BufTy.Contents (Elt F) arg4.view.ty) : runA.sl.r_9 (F := F) i arg3 arg4 X3 X4 = S (i 2).val (arg3.view.read (Elt F) X3) (arg4.view.read (Elt F) X4) 0 0 := by
  simp only [runA.sl.r_9, runA.sl.r_4, runA_score0]
  rfl

theorem runA_tile0 (X3 : BufTy.Contents (Elt F) arg3.view.ty) (X4 : BufTy.Contents (Elt F) arg4.view.ty) : k0_pay66 k0_pay51 (runA.sl.r (F := F) i arg3 arg4 X3 X4) k0_pay57 (runA.sl.r_4 i arg3 arg4 X3 X4) = E (i 2).val (arg3.view.read (Elt F) X3) (arg4.view.read (Elt F) X4) 0 0 := by
  simp only [runA.sl.r_4, runA_score0]
  rfl

theorem runA_score1 (X3 : BufTy.Contents (Elt F) arg3.view.ty) (X4 : BufTy.Contents (Elt F) arg4.view.ty) : runA.sl.r_1 (F := F) i arg3 arg4 X3 X4 = scoreN (i 2).val (arg3.view.read (Elt F) X3) (arg4.view.read (Elt F) X4) 0 1 := by
  have hq : (i 2).val < 16 := (i 2).isLt
  unfold runA.sl.r_1
  rw [readAt_rows arg4.view X4 (k0_off10_inb i) (i 2).val 1 hq (by decide) (off10_eq i), readAt_cols arg3.view X3 (off := ![0, 0, 128]) _ 1 (by decide) rfl]
  rfl

theorem runA_sum1 (X3 : BufTy.Contents (Elt F) arg3.view.ty) (X4 : BufTy.Contents (Elt F) arg4.view.ty) : runA.sl.r_10 (F := F) i arg3 arg4 X3 X4 = S (i 2).val (arg3.view.read (Elt F) X3) (arg4.view.read (Elt F) X4) 0 1 := by
  simp only [runA.sl.r_10, runA.sl.r_5, runA_score1]
  rfl

theorem runA_tile1 (X3 : BufTy.Contents (Elt F) arg3.view.ty) (X4 : BufTy.Contents (Elt F) arg4.view.ty) : k0_pay69 k0_pay51 (runA.sl.r_1 (F := F) i arg3 arg4 X3 X4) k0_pay57 (runA.sl.r_5 i arg3 arg4 X3 X4) = E (i 2).val (arg3.view.read (Elt F) X3) (arg4.view.read (Elt F) X4) 0 1 := by
  simp only [runA.sl.r_5, runA_score1]
  rfl

theorem runA_score2 (X3 : BufTy.Contents (Elt F) arg3.view.ty) (X4 : BufTy.Contents (Elt F) arg4.view.ty) : runA.sl.r_2 (F := F) i arg3 arg4 X3 X4 = scoreN (i 2).val (arg3.view.read (Elt F) X3) (arg4.view.read (Elt F) X4) 0 2 := by
  have hq : (i 2).val < 16 := (i 2).isLt
  unfold runA.sl.r_2
  rw [readAt_rows arg4.view X4 (k0_off11_inb i) (i 2).val 2 hq (by decide) (off11_eq i), readAt_cols arg3.view X3 (off := ![0, 0, 256]) _ 2 (by decide) rfl]
  rfl

theorem runA_sum2 (X3 : BufTy.Contents (Elt F) arg3.view.ty) (X4 : BufTy.Contents (Elt F) arg4.view.ty) : runA.sl.r_11 (F := F) i arg3 arg4 X3 X4 = S (i 2).val (arg3.view.read (Elt F) X3) (arg4.view.read (Elt F) X4) 0 2 := by
  simp only [runA.sl.r_11, runA.sl.r_6, runA_score2]
  rfl

theorem runA_tile2 (X3 : BufTy.Contents (Elt F) arg3.view.ty) (X4 : BufTy.Contents (Elt F) arg4.view.ty) : k0_pay72 k0_pay51 (runA.sl.r_2 (F := F) i arg3 arg4 X3 X4) k0_pay57 (runA.sl.r_6 i arg3 arg4 X3 X4) = E (i 2).val (arg3.view.read (Elt F) X3) (arg4.view.read (Elt F) X4) 0 2 := by
  simp only [runA.sl.r_6, runA_score2]
  rfl

theorem runA_score3 (X3 : BufTy.Contents (Elt F) arg3.view.ty) (X4 : BufTy.Contents (Elt F) arg4.view.ty) : runA.sl.r_3 (F := F) i arg3 arg4 X3 X4 = scoreN (i 2).val (arg3.view.read (Elt F) X3) (arg4.view.read (Elt F) X4) 0 3 := by
  have hq : (i 2).val < 16 := (i 2).isLt
  unfold runA.sl.r_3
  rw [readAt_rows arg4.view X4 (k0_off12_inb i) (i 2).val 3 hq (by decide) (off12_eq i), readAt_cols arg3.view X3 (off := ![0, 0, 384]) _ 3 (by decide) rfl]
  rfl

theorem runA_sum3 (X3 : BufTy.Contents (Elt F) arg3.view.ty) (X4 : BufTy.Contents (Elt F) arg4.view.ty) : k0_pay78 (runA.sl.r_12 (F := F) i arg3 arg4 X3 X4) = S (i 2).val (arg3.view.read (Elt F) X3) (arg4.view.read (Elt F) X4) 0 3 := by
  simp only [runA.sl.r_12, runA.sl.r_7, runA.sl.r_8, runA_score3]
  rfl

theorem runA_tile3 (X3 : BufTy.Contents (Elt F) arg3.view.ty) (X4 : BufTy.Contents (Elt F) arg4.view.ty) : k0_pay77 k0_pay57 (runA.sl.r_13 (F := F) i arg3 arg4 X3 X4) k0_pay76 = E (i 2).val (arg3.view.read (Elt F) X3) (arg4.view.read (Elt F) X4) 0 3 := by
  simp only [runA.sl.r_13, runA.sl.r_7, runA.sl.r_8, runA_score3]
  rfl

/-- The prologue's stores: the diagonal block's tiles, in slot zero. -/
theorem runA_first (X3 : BufTy.Contents (Elt F) arg3.view.ty) (X4 : BufTy.Contents (Elt F) arg4.view.ty) (X8 : BufTy.Contents (Elt F) arg8.view.ty) (g : Fin 4) :
    slot (arg8.view.read (Elt F) (arg8.view.writes (Elt F) X8 [⟨Rect.unit (s := S2x4x256x256) ![0, 3, 0, 0] S1x1x256x256.size inb_S2x4x256x256_S1x1x256x256_0_3_0_0, E (i 2).val (arg3.view.read (Elt F) X3) (arg4.view.read (Elt F) X4) 0 3⟩, ⟨Rect.unit (s := S2x4x256x256) ![0, 2, 0, 0] S1x1x256x256.size inb_S2x4x256x256_S1x1x256x256_0_2_0_0, E (i 2).val (arg3.view.read (Elt F) X3) (arg4.view.read (Elt F) X4) 0 2⟩, ⟨Rect.unit (s := S2x4x256x256) ![0, 1, 0, 0] S1x1x256x256.size inb_S2x4x256x256_S1x1x256x256_0_1_0_0, E (i 2).val (arg3.view.read (Elt F) X3) (arg4.view.read (Elt F) X4) 0 1⟩, ⟨Rect.unit (s := S2x4x256x256) ![0, 0, 0, 0] S1x1x256x256.size inb_S2x4x256x256_S1x1x256x256_0_0_0_0, E (i 2).val (arg3.view.read (Elt F) X3) (arg4.view.read (Elt F) X4) 0 0⟩])) 0 g = E (i 2).val (arg3.view.read (Elt F) X3) (arg4.view.read (Elt F) X4) 0 g :=
  slot_four arg8.view X8 _ _ _ _ (fun g => E (i 2).val (arg3.view.read (Elt F) X3) (arg4.view.read (Elt F) X4) 0 g) [] 0 (by decide) rfl rfl rfl rfl g

/-- The block a point leaves that turns the values first. -/
theorem runA_out (hc : k0_cond1 i = 1#1) (X3 : BufTy.Contents (Elt F) arg3.view.ty) (X4 : BufTy.Contents (Elt F) arg4.view.ty) (X5 : BufTy.Contents (Elt F) arg5.view.ty) (X7 : BufTy.Contents (Elt F) arg7.view.ty) (X8 : BufTy.Contents (Elt F) arg8.view.ty) (f6 : BufTy.Contents (Elt F) arg6.view.ty) :
    arg6.view.read (Elt F) (arg6.view.writes (Elt F) f6 (runA (F := F) c i arg3 harg3 arg4 harg4 arg5 harg5 arg6 harg6 arg7 harg7 arg8 harg8 hc X3 X4 X5 X7 X8).2.1)
      = heads (outN (i 2).val (arg3.view.read (Elt F) X3) (arg4.view.read (Elt F) X4) (turned (arg5.view.read (Elt F) X5))) := by
  have hp : (i 2).val % 2 < 2 := Nat.mod_lt _ (by decide)
  unfold runA
  dsimp only
  simp only [runA.sl.r_14, runA.sl.r_15, runA.sl.r_16, runA.sl.r_17, runA.sl.r_18, runA.sl.r_19, runA.sl.r_20, runA.sl.r_21, runA.sl.v178, runA.sl.v185, runA.sl.v192, runA.sl.v197, runA.sl.v199, runA.sl.v200, runA.sl.v201, runA.sl.v202, runA.sl.v203, runA.sl.v204, runA.sl.v206, runA.sl.v207, runA.sl.v209, runA.sl.v210, runA.sl.v212, runA.sl.v213, runA.sl.v215, runA.sl.v216, runA.sl.v217, runA.sl.v218, runA.sl.v219, runA.sl.v222, runA.sl.v223, runA.sl.v224, runA.sl.v225, runA.sl.v228, runA.sl.v229]
  rw [t3_end c i arg3 harg3 arg4 harg4 arg5 harg5 arg6 harg6 arg7 harg7 arg8 harg8]
  case hn => exact t3_trips i
  simp only [List.nil_append, View.writes_append]
  simp only [runA_tile0, runA_tile1, runA_tile2, runA_tile3, runA_sum0, runA_sum1, runA_sum2, runA_sum3]
  rw [readAt_slot arg8.view _ (k0_off45_inb i) ((i 2).val % 2) 0 hp (by decide) (off45_eq i), readAt_lanes arg7.view _ (off := ![0, 0, 0]) _ 0 0 (by decide) (by decide) rfl,
    readAt_slot arg8.view _ (k0_off46_inb i) ((i 2).val % 2) 1 hp (by decide) (off46_eq i), readAt_lanes arg7.view _ (off := ![0, 128, 0]) _ 0 1 (by decide) (by decide) rfl,
    readAt_slot arg8.view _ (k0_off47_inb i) ((i 2).val % 2) 2 hp (by decide) (off47_eq i), readAt_lanes arg7.view _ (off := ![0, 256, 0]) _ 0 2 (by decide) (by decide) rfl,
    readAt_slot arg8.view _ (k0_off48_inb i) ((i 2).val % 2) 3 hp (by decide) (off48_eq i), readAt_lanes arg7.view _ (off := ![0, 384, 0]) _ 0 3 (by decide) (by decide) rfl]
  rw [t2_end c i arg3 harg3 arg4 harg4 arg5 harg5 arg6 harg6 arg7 harg7 arg8 harg8]
  case hn => exact t2_trips i
  case hinit => rfl
  case hG => exact runA_first i arg3 arg4 arg8 X3 X4 X8
  dsimp only
  rw [t2_tiles c i arg3 harg3 arg4 harg4 arg5 harg5 arg6 harg6 arg7 harg7 arg8 harg8 _ _ _ _ _ _ _ _ _ _ _ _ _ _ _ 0 0 rfl]
  case hn => exact t2_trips i
  case hinit => rfl
  case hG => exact runA_first i arg3 arg4 arg8 X3 X4 X8
  rw [t2_tiles c i arg3 harg3 arg4 harg4 arg5 harg5 arg6 harg6 arg7 harg7 arg8 harg8 _ _ _ _ _ _ _ _ _ _ _ _ _ _ _ 1 1 rfl]
  case hn => exact t2_trips i
  case hinit => rfl
  case hG => exact runA_first i arg3 arg4 arg8 X3 X4 X8
  rw [t2_tiles c i arg3 harg3 arg4 harg4 arg5 harg5 arg6 harg6 arg7 harg7 arg8 harg8 _ _ _ _ _ _ _ _ _ _ _ _ _ _ _ 2 2 rfl]
  case hn => exact t2_trips i
  case hinit => rfl
  case hG => exact runA_first i arg3 arg4 arg8 X3 X4 X8
  rw [t2_tiles c i arg3 harg3 arg4 harg4 arg5 harg5 arg6 harg6 arg7 harg7 arg8 harg8 _ _ _ _ _ _ _ _ _ _ _ _ _ _ _ 3 3 rfl]
  case hn => exact t2_trips i
  case hinit => rfl
  case hG => exact runA_first i arg3 arg4 arg8 X3 X4 X8
  rw [fill_all c i arg3 harg3 arg4 harg4 arg5 harg5 arg6 harg6 arg7 harg7 arg8 harg8 hc X5 X7 _ rfl]
  exact heads_four arg6.view f6 _ _ _ _ (outN (i 2).val (arg3.view.read (Elt F) X3) (arg4.view.read (Elt F) X4) (turned (arg5.view.read (Elt F) X5))) [] rfl rfl rfl rfl

/-- The scratch a point leaves that turns the values. -/
theorem runA_fill (hc : k0_cond1 i = 1#1) (X3 : BufTy.Contents (Elt F) arg3.view.ty) (X4 : BufTy.Contents (Elt F) arg4.view.ty) (X5 : BufTy.Contents (Elt F) arg5.view.ty)
    (X7 : BufTy.Contents (Elt F) arg7.view.ty) (X8 : BufTy.Contents (Elt F) arg8.view.ty) :
    arg7.view.read (Elt F) (arg7.view.writes (Elt F) X7 (runA (F := F) c i arg3 harg3 arg4 harg4 arg5 harg5 arg6 harg6 arg7 harg7 arg8 harg8 hc X3 X4 X5 X7 X8).1) = turned (arg5.view.read (Elt F) X5) := by
  unfold runA
  dsimp only
  exact fill_all c i arg3 harg3 arg4 harg4 arg5 harg5 arg6 harg6 arg7 harg7 arg8 harg8 hc X5 X7 _ rfl

end out

end Cert.Proof.KernelIdeal

end
-- ==== Proof.ValueIdeal.lean ====
/-
  The attention's program over the extended reals, its output followed: the block every point leaves, the turned values the
  first scratch holds from a row of points' first to its last, and the array the launch ends with.
-/
module

public import proofs.«01_k».proof.Proof.FrameIdeal
public import proofs.«01_k».proof.Proof.Block
public import Idealize.ShloMosaic.Lib.Pipeline.Value

@[expose] public section

set_option maxRecDepth 8192

noncomputable section

namespace Cert.Proof.KernelIdeal

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The points that turn the values are the first of each sixteen. -/
theorem cond_iff : ∀ t : Fin cfg0.N, k0_cond1 (grid0.coords t) = 1#1 ↔ t.val % 16 = 0 :=
  (by decide +kernel : ∀ t : Fin grid0.N, k0_cond1 (grid0.coords t) = 1#1 ↔ t.val % 16 = 0)

/-- A point's query block. -/
theorem coord_2 : ∀ t : Fin cfg0.N, (grid0.coords t 2).val = t.val % 16 :=
  (by decide +kernel : ∀ t : Fin grid0.N, (grid0.coords t 2).val = t.val % 16)

theorem index_0 : ∀ t : Fin cfg0.N, win0_0.index t 0 = t.val / 32 ∧ win0_0.index t 1 = t.val % 16 ∧ win0_0.index t 2 = t.val / 16 % 2 :=
  (by decide +kernel : ∀ t : Fin grid0.N, win0_0.index t 0 = t.val / 32 ∧ win0_0.index t 1 = t.val % 16 ∧ win0_0.index t 2 = t.val / 16 % 2)
theorem index_1 : ∀ t : Fin cfg0.N, win0_1.index t 0 = t.val / 32 ∧ win0_1.index t 1 = 0 ∧ win0_1.index t 2 = 2 + t.val / 16 % 2 :=
  (by decide +kernel : ∀ t : Fin grid0.N, win0_1.index t 0 = t.val / 32 ∧ win0_1.index t 1 = 0 ∧ win0_1.index t 2 = 2 + t.val / 16 % 2)
theorem index_2 : ∀ t : Fin cfg0.N, win0_2.index t 0 = t.val / 32 ∧ win0_2.index t 1 = 0 ∧ win0_2.index t 2 = 4 + t.val / 16 % 2 :=
  (by decide +kernel : ∀ t : Fin grid0.N, win0_2.index t 0 = t.val / 32 ∧ win0_2.index t 1 = 0 ∧ win0_2.index t 2 = 4 + t.val / 16 % 2)
theorem index_3 : ∀ t : Fin cfg0.N, win0_3.index t 0 = t.val / 32 ∧ win0_3.index t 1 = t.val % 16 ∧ win0_3.index t 2 = t.val / 16 % 2 :=
  (by decide +kernel : ∀ t : Fin grid0.N, win0_3.index t 0 = t.val / 32 ∧ win0_3.index t 1 = t.val % 16 ∧ win0_3.index t 2 = t.val / 16 % 2)

theorem N_lt (t : Fin cfg0.N) : t.val < 128 := lt_of_lt_of_eq t.isLt N_0

/-- The projection, as the region finds it, by its rows and columns. -/
def proj (c : Dev nD) (b : Fin 4) (r : Fin 4096) (l : Fin 10240) : Elt F .bf16 := V m c main_v0 (ix3 b r l)

/-- The queries' block at a point. -/
theorem iblk_0 (c : Dev nD) (t : Fin cfg0.N) (x : S1x256x512.Idx) : iblk m c 0 t x
    = proj m c ⟨t.val / 32, by have := N_lt t; omega⟩ ⟨t.val % 16 * 256 + (x 1).val, by have : (x 1).val < 256 := (x 1).isLt; omega⟩
      ⟨t.val / 16 % 2 * 512 + (x 2).val, by have : (x 2).val < 512 := (x 2).isLt; omega⟩ := by
  unfold iblk proj
  rw [View.read_apply]
  show V m c main_v0 _ = V m c main_v0 _
  congr 1
  funext a
  apply Fin.ext
  have h0 : (x 0).val < 1 := (x 0).isLt
  match a with
  | ⟨0, _⟩ => show win0_0.index t 0 * 1 + 1 * (x 0).val = t.val / 32; rw [(index_0 t).1]; omega
  | ⟨1, _⟩ => show win0_0.index t 1 * 256 + 1 * (x 1).val = t.val % 16 * 256 + (x 1).val; rw [(index_0 t).2.1]; omega
  | ⟨2, _⟩ => show win0_0.index t 2 * 512 + 1 * (x 2).val = t.val / 16 % 2 * 512 + (x 2).val; rw [(index_0 t).2.2]; omega

/-- The keys' block at a point. -/
theorem iblk_1 (c : Dev nD) (t : Fin cfg0.N) (x : S1x4096x512.Idx) : iblk m c 1 t x
    = proj m c ⟨t.val / 32, by have := N_lt t; omega⟩ ⟨(x 1).val, (x 1).isLt⟩
      ⟨1024 + t.val / 16 % 2 * 512 + (x 2).val, by have : (x 2).val < 512 := (x 2).isLt; omega⟩ := by
  unfold iblk proj
  rw [View.read_apply]
  show V m c main_v0 _ = V m c main_v0 _
  congr 1
  funext a
  apply Fin.ext
  have h0 : (x 0).val < 1 := (x 0).isLt
  match a with
  | ⟨0, _⟩ => show win0_1.index t 0 * 1 + 1 * (x 0).val = t.val / 32; rw [(index_1 t).1]; omega
  | ⟨1, _⟩ => show win0_1.index t 1 * 4096 + 1 * (x 1).val = (x 1).val; rw [(index_1 t).2.1]; omega
  | ⟨2, _⟩ => show win0_1.index t 2 * 512 + 1 * (x 2).val = 1024 + t.val / 16 % 2 * 512 + (x 2).val; rw [(index_1 t).2.2]; omega

/-- The values' block at a point. -/
theorem iblk_2 (c : Dev nD) (t : Fin cfg0.N) (x : S1x4096x512.Idx) : iblk m c 2 t x
    = proj m c ⟨t.val / 32, by have := N_lt t; omega⟩ ⟨(x 1).val, (x 1).isLt⟩
      ⟨2048 + t.val / 16 % 2 * 512 + (x 2).val, by have : (x 2).val < 512 := (x 2).isLt; omega⟩ := by
  unfold iblk proj
  rw [View.read_apply]
  show V m c main_v0 _ = V m c main_v0 _
  congr 1
  funext a
  apply Fin.ext
  have h0 : (x 0).val < 1 := (x 0).isLt
  match a with
  | ⟨0, _⟩ => show win0_2.index t 0 * 1 + 1 * (x 0).val = t.val / 32; rw [(index_2 t).1]; omega
  | ⟨1, _⟩ => show win0_2.index t 1 * 4096 + 1 * (x 1).val = (x 1).val; rw [(index_2 t).2.1]; omega
  | ⟨2, _⟩ => show win0_2.index t 2 * 512 + 1 * (x 2).val = 2048 + t.val / 16 % 2 * 512 + (x 2).val; rw [(index_2 t).2.2]; omega

/-- From a point to the next that turns nothing, the values' block is the same. -/
theorem iblk_2_succ (c : Dev nD) (s t : Fin cfg0.N) (hst : s.val + 1 = t.val) (ht : t.val % 16 ≠ 0) : iblk m c 2 s = iblk m c 2 t := by
  refine funext fun x => (iblk_2 m c s x).trans (Eq.trans ?_ (iblk_2 m c t x).symm)
  have h1 : s.val / 32 = t.val / 32 := by omega
  have h2 : s.val / 16 % 2 = t.val / 16 % 2 := by omega
  simp only [h1, h2]

/-- The block a point leaves. -/
def left (c : Dev nD) (t : Fin cfg0.N) : Vec F S1x256x512 .bf16 :=
  heads (outN (t.val % 16) (iblk m c 0 t) (iblk m c 1 t) (turned (iblk m c 2 t)))

/-- The body at a point, from the inputs' blocks and, past a row's first, the turned values. -/
theorem body_run_value (c : Dev nD) (t : Fin cfg0.N) (f3 : BufTy.Contents (Elt F) (st0_0 t).view.ty)
    (f4 : BufTy.Contents (Elt F) (st0_1 t).view.ty) (f5 : BufTy.Contents (Elt F) (st0_2 t).view.ty)
    (f6 : BufTy.Contents (Elt F) (st0_3 t).view.ty) (f7 : BufTy.Contents (Elt F) (Memref.whole cc0_scratch0).view.ty)
    (f8 : BufTy.Contents (Elt F) (Memref.whole cc0_scratch1).view.ty)
    (h3 : (st0_0 t).view.read (Elt F) f3 = iblk m c 0 t) (h4 : (st0_1 t).view.read (Elt F) f4 = iblk m c 1 t)
    (h5 : (st0_2 t).view.read (Elt F) f5 = iblk m c 2 t)
    (h7 : t.val % 16 ≠ 0 → (Memref.whole cc0_scratch0).view.read (Elt F) f7 = turned (iblk m c 2 t)) :
    iprop(pt c (st0_0 t) f3 ∗ pt c (st0_1 t) f4 ∗ pt c (st0_2 t) f5 ∗ pt c (st0_3 t) f6
      ∗ pt c (Memref.whole cc0_scratch0) f7 ∗ pt c (Memref.whole cc0_scratch1) f8)
    ⊢ wp Idealize.ShloMosaic.frame (wpE (defs₀ (F := F)) Variants.none (c : Thread nD τ) none) Set.univ (bodyAt0 (F := F) t)
      (fun _ => iprop(pt c (st0_0 t) f3 ∗ pt c (st0_1 t) f4 ∗ pt c (st0_2 t) f5
        ∗ (∃ f, ⌜(st0_3 t).view.read (Elt F) f = left m c t⌝ ∗ pt c (st0_3 t) f)
        ∗ (∃ f, ⌜(Memref.whole cc0_scratch0).view.read (Elt F) f = turned (iblk m c 2 t)⌝ ∗ pt c (Memref.whole cc0_scratch0) f)
        ∗ ∃ f, pt c (Memref.whole cc0_scratch1) f)) := by
  unfold bodyAt0
  by_cases hc : k0_cond1 (grid0.coords t) = 1#1
  · have o := runA_out c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) hc f3 f4 f5 f7 f8 f6
    rw [h3, h4, h5, coord_2] at o
    have o' := runA_fill c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) hc f3 f4 f5 f7 f8
    rw [h5] at o'
    refine ((runA c (grid0.coords t) _ _ _ _ _ _ _ _ _ _ _ _ hc f3 f4 f5 f7 f8).2.2 Set.univ f6).trans (wp_mono _ _ _ fun _ => ?_)
    iintro ⟨H3, H4, H5, H6, H7, H8⟩
    isplitl [H3]; · iexact H3
    isplitl [H4]; · iexact H4
    isplitl [H5]; · iexact H5
    isplitl [H6]
    · iexists _; isplitr
      · ipureintro; exact o
      iexact H6
    isplitl [H7]
    · iexists _; isplitr
      · ipureintro; exact o'
      iexact H7
    iexact H8
  · have h7' := h7 fun e => hc ((cond_iff t).2 e)
    have o := runB_out c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (Memref.whole cc0_scratch0) (Memref.isWhole_whole _) (Memref.whole cc0_scratch1) (Memref.isWhole_whole _) hc f3 f4 f7 f8 f6
    rw [h3, h4, h7', coord_2] at o
    refine ((runB c (grid0.coords t) _ _ _ _ _ _ _ _ _ _ _ _ hc f3 f4 f7 f8).2 Set.univ f5 f6).trans (wp_mono _ _ _ fun _ => ?_)
    iintro ⟨H3, H4, H5, H6, H7, H8⟩
    isplitl [H3]; · iexact H3
    isplitl [H4]; · iexact H4
    isplitl [H5]; · iexact H5
    isplitl [H6]
    · iexists _; isplitr
      · ipureintro; exact o
      iexact H6
    isplitl [H7]
    · iexists _; isplitr
      · ipureintro; exact h7'
      iexact H7
    iexact H8

/-- What holds between points: the first scratch reads the turned values of the point before, the second anything. -/
def between (c : Dev nD) (k : Fin (cfg0.N + 1)) : sProp 𝕄 :=
  iprop(((∃ f7, ⌜∀ t : Fin cfg0.N, t.val + 1 = k.val → (Memref.whole cc0_scratch0).view.read (Elt F) f7 = turned (iblk m c 2 t)⌝
      ∗ pt c (Memref.whole cc0_scratch0) f7) ∗ ∃ f8, pt c (Memref.whole cc0_scratch1) f8) ∗ ∃ r, prngReg c r)

/-- The pipeline's proof data: the inputs' blocks stay in place, the output's is what the point leaves. -/
def datv (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ k := between m c k
  q w := Pipeline.shareOf spec0 w
  owed _ := 0

theorem datv_A (c : Dev nD) (w : Fin cfg0.W) : (datv m 0 c).A w = V m c (Pipeline.arrRef spec0 w) := by dsimp only [datv]
theorem datv_before_0 (c : Dev nD) (t : Fin cfg0.N) (d) : (datv m 0 c).before 0 t d = iblk m c 0 t :=
  before0_0_of m (datv m 0 c) (datv_A m c 0) (fun _ => by dsimp only [datv]) t d
theorem datv_before_1 (c : Dev nD) (t : Fin cfg0.N) (d) : (datv m 0 c).before 1 t d = iblk m c 1 t :=
  before0_1_of m (datv m 0 c) (datv_A m c 1) (fun _ => by dsimp only [datv]) t d
theorem datv_before_2 (c : Dev nD) (t : Fin cfg0.N) (d) : (datv m 0 c).before 2 t d = iblk m c 2 t :=
  before0_2_of m (datv m 0 c) (datv_A m c 2) (fun _ => by dsimp only [datv]) t d
theorem datv_after_0 (c : Dev nD) (t : Fin cfg0.N) : (datv m 0 c).after 0 t = iblk m c 0 t := by dsimp only [datv]
theorem datv_after_1 (c : Dev nD) (t : Fin cfg0.N) : (datv m 0 c).after 1 t = iblk m c 1 t := by dsimp only [datv]
theorem datv_after_2 (c : Dev nD) (t : Fin cfg0.N) : (datv m 0 c).after 2 t = iblk m c 2 t := by dsimp only [datv]
theorem datv_after_3 (c : Dev nD) (t : Fin cfg0.N) : (datv m 0 c).after 3 t = left m c t := by dsimp only [datv]

set_option backward.isDefEq.respectTransparency.types false in
/-- What the pipeline asks of the body at every point. -/
theorem body_obligation_value (c : Dev nD) : BodyObligationLoose (datv m 0 c) (defs₀ (F := F)) Variants.none () Set.univ := fun t => by
  rw [bigSep_W0, bigSep_W0]
  simp only [datv_before_0, datv_before_1, datv_before_2, datv_after_0, datv_after_1, datv_after_2, datv_after_3, Bool.false_eq_true, if_false]
  rw [show (datv m 0 c).Φ t.castSucc = between m c t.castSucc from rfl, show (datv m 0 c).Φ t.succ = between m c t.succ from rfl]
  unfold between Dat.owesAt Pipeline.owesWithin owns
  rw [show (datv m 0 c).owed t.castSucc = 0 from rfl, show (datv m 0 c).owed t.succ = 0 from rfl]
  iintro ⟨⟨⟨⟨%f7, %h7, H7⟩, ⟨%f8, H8⟩⟩, ⟨%r, Hr⟩⟩, ⟨%W, %hW, HO⟩, ⟨%d0, %f3, %h3, H3⟩, ⟨%d1, %f4, %h4, H4⟩, ⟨%d2, %f5, %h5, H5⟩, ⟨%d3, %f6, %h6, H6⟩⟩
  have h7' : t.val % 16 ≠ 0 → (Memref.whole cc0_scratch0).view.read (Elt F) f7 = turned (iblk m c 2 t) := fun ht => by
    have hp : 0 < t.val := Nat.pos_of_ne_zero fun e => ht (by rw [e])
    have hs : t.val - 1 + 1 = t.val := by omega
    rw [← iblk_2_succ m c ⟨t.val - 1, by have := t.isLt; omega⟩ t hs ht]
    exact h7 _ hs
  iapply (wp_wand_r Idealize.ShloMosaic.frame (wpE (defs₀ (F := F)) Variants.none (c : Thread nD τ) none) Set.univ)
  isplitl [H3 H4 H5 H6 H7 H8]
  · iapply (body_run_value m c t f3 f4 f5 f6 f7 f8 h3 h4 h5 h7')
    isplitl [H3]; · iexact H3
    isplitl [H4]; · iexact H4
    isplitl [H5]; · iexact H5
    isplitl [H6]; · iexact H6
    isplitl [H7]; · iexact H7
    iexact H8
  iintro %_ ⟨H3, H4, H5, ⟨%f6', %h6', H6⟩, ⟨%f7', %h7'', H7⟩, H8⟩
  isplitl [H7 H8 Hr]
  · isplitl [H7 H8]
    · isplitl [H7]
      · iexists f7'; isplitr
        · ipureintro; intro t' ht'
          have e : t' = t := Fin.ext (by have := ht'; simp only [Fin.val_succ] at this; omega)
          rw [e]; exact h7''
        iexact H7
      iexact H8
    · iexists r; iexact Hr
  isplitl [HO]
  · iexists W; isplitr; · ipureintro; exact fun _ _ => Or.inl trivial
    iexact HO
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  iexists f6'; isplitr; · ipureintro; exact h6'
  iexact H6

set_option backward.isDefEq.respectTransparency.types false in
theorem between_start (c : Dev nD) : Pipeline.ΦA spec0 c ⊢ between m c 0 := by
  unfold Pipeline.ΦA between; rw [scopedRest0_eq]; simp only [← pt_whole]
  iintro ⟨⟨⟨%f7, H7⟩, H8⟩, Hr⟩
  isplitl [H7 H8]
  · isplitl [H7]
    · iexists f7; isplitr; · ipureintro; intro t ht; exact absurd ht (by simp)
      iexact H7
    iexact H8
  iexact Hr

set_option backward.isDefEq.respectTransparency.types false in
theorem between_end (c : Dev nD) : between m c (Fin.last cfg0.N) ⊢ Pipeline.ΦA spec0 c := by
  unfold Pipeline.ΦA between; rw [scopedRest0_eq]; simp only [← pt_whole]
  iintro ⟨⟨⟨%f7, -, H7⟩, H8⟩, Hr⟩
  isplitl [H7 H8]
  · isplitl [H7]
    · iexists f7; iexact H7
    iexact H8
  iexact Hr

set_option backward.isDefEq.respectTransparency.types false in
/-- The run, the output's array at what the points leave. -/
theorem run_value : θ_run defs (onTc (τ := τ) (main (F := F))) (s₀ m ρ)
    (fun r => Pipeline.FramePost cfgs (datv m) 0 (V m) r ∧ r.2.sem = fun _ => 0) :=
  Pipeline.θ_run_frame_track_shared cfgs (datv m) 0 launch₀0 defs₀ Variants.none m ρ main
    (body_obligation_value m) (fun _ _ _ => rfl) (fun _ _ => rfl) (V m) (hmain m Variants.none) (datv_A m) (between_start m) (between_end m)
    _ (fun _ h => h)

/-- The point whose block an index of the result lies in. -/
def pointOf (i : S4x4096x1024.Idx) : Fin cfg0.N :=
  ⟨(i 0).val * 32 + (i 2).val / 512 * 16 + (i 1).val / 256, by
    have h0 : (i 0).val < 4 := (i 0).isLt
    have h1 : (i 1).val < 4096 := (i 1).isLt
    have h2 : (i 2).val < 1024 := (i 2).isLt
    have := N_0
    show _ < grid0.N
    omega⟩

/-- The result: every index at what its point leaves there. -/
def result (c : Dev nD) : S4x4096x1024.Idx → Elt F .bf16 := fun i =>
  left m c (pointOf i) (ix3 0 ⟨(i 1).val % 256, Nat.mod_lt _ (by decide)⟩ ⟨(i 2).val % 512, Nat.mod_lt _ (by decide)⟩)

theorem blk_3_val (t : Fin cfg0.N) (x : S1x256x512.Idx) :
    ((((cfg0.win 3).blk t).view.emb x : S4x4096x1024.Idx) 0).val = t.val / 32
    ∧ ((((cfg0.win 3).blk t).view.emb x : S4x4096x1024.Idx) 1).val = t.val % 16 * 256 + (x 1).val
    ∧ ((((cfg0.win 3).blk t).view.emb x : S4x4096x1024.Idx) 2).val = t.val / 16 % 2 * 512 + (x 2).val := by
  have h0 : (x 0).val < 1 := (x 0).isLt
  refine ⟨?_, ?_, ?_⟩
  · show win0_3.index t 0 * 1 + 1 * (x 0).val = t.val / 32; rw [(index_3 t).1]; omega
  · show win0_3.index t 1 * 256 + 1 * (x 1).val = _; rw [(index_3 t).2.1]; omega
  · show win0_3.index t 2 * 512 + 1 * (x 2).val = _; rw [(index_3 t).2.2]; omega

/-- What a point writes back is the result, read at its block. -/
theorem flushed_eq (c : Dev nD) (t : Fin cfg0.N) : (datv m 0 c).flushed 3 t = ((cfg0.win 3).blk t).view.read (Elt F) (result m c) := by
  show left m c t = _
  funext x
  rw [View.read_apply]
  obtain ⟨e0, e1, e2⟩ := blk_3_val t x
  have h0 : (x 0).val < 1 := (x 0).isLt
  have h1 : (x 1).val < 256 := (x 1).isLt
  have h2 : (x 2).val < 512 := (x 2).isLt
  have ht := N_lt t
  show left m c t x = result m c (((cfg0.win 3).blk t).view.emb x)
  unfold result
  have hp : pointOf (((cfg0.win 3).blk t).view.emb x) = t := Fin.ext (by show _ * 32 + _ / 512 * 16 + _ / 256 = _; rw [e0, e1, e2]; omega)
  rw [hp]
  congr 1
  funext a
  apply Fin.ext
  match a with
  | ⟨0, _⟩ => show (x 0).val = 0; omega
  | ⟨1, _⟩ => show (x 1).val = _ % 256; rw [e1]; omega
  | ⟨2, _⟩ => show (x 2).val = _ % 512; rw [e2]; omega

theorem point_val (i : S4x4096x1024.Idx) : (pointOf i).val / 32 = (i 0).val
    ∧ (pointOf i).val % 16 * 256 + (i 1).val % 256 = (i 1).val ∧ (pointOf i).val / 16 % 2 * 512 + (i 2).val % 512 = (i 2).val := by
  have h0 : (i 0).val < 4 := (i 0).isLt
  have h1 : (i 1).val < 4096 := (i 1).isLt
  have h2 : (i 2).val < 1024 := (i 2).isLt
  have hv : (pointOf i).val = (i 0).val * 32 + (i 2).val / 512 * 16 + (i 1).val / 256 := rfl
  rw [hv]
  generalize (i 0).val = a at *
  generalize (i 1).val = b at *
  generalize (i 2).val = d at *
  clear hv
  refine ⟨?_, ?_, ?_⟩ <;> omega

theorem emb_point (i : S4x4096x1024.Idx) : ((cfg0.win 3).blk (pointOf i)).view.emb
    (ix3 0 ⟨(i 1).val % 256, Nat.mod_lt _ (by decide)⟩ ⟨(i 2).val % 512, Nat.mod_lt _ (by decide)⟩ : S1x256x512.Idx) = i := by
  have e := blk_3_val (pointOf i) (ix3 0 ⟨(i 1).val % 256, Nat.mod_lt _ (by decide)⟩ ⟨(i 2).val % 512, Nat.mod_lt _ (by decide)⟩)
  have k := point_val i
  refine funext fun a => Fin.ext ?_
  match a with
  | ⟨0, _⟩ => exact e.1.trans k.1
  | ⟨1, _⟩ => exact e.2.1.trans k.2.1
  | ⟨2, _⟩ => exact e.2.2.trans k.2.2

theorem covers (i : S4x4096x1024.Idx) : ∃ t : Fin cfg0.N, (cfg0.win 3).flush t = true ∧ i ∈ ((cfg0.win 3).blk t).view.set :=
  ⟨pointOf i, flush0_3 _, (congrArg (· ∈ ((cfg0.win 3).blk (pointOf i)).view.set) (emb_point i)).mp (View.emb_mem_set _ _)⟩

/-- The run's result and argument. -/
theorem run_result : θ_run defs (onTc (τ := τ) (main (F := F))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0)) ∧ r.2.sem = fun _ => 0) :=
  (θ_run defs _ _).mono (fun _ h => ⟨fun c => ⟨((h.1 c).1 3).trans ((datv m 0 c).arrAt_eq_of_cover 3 (result m c) (fun t _ => flushed_eq m c t) covers),
    ((h.1 c).2 main_arg0 (Pipeline.mem_restRefs_of main_arg0 (by decide) (by decide))).trans (V_main_arg0 m c)⟩, h.2⟩) (run_value m ρ)

end Cert.Proof.KernelIdeal

end
-- ==== Proof.Elem.lean ====
/-
  What the block's operations are worth at an index over the extended reals.
-/
module

public import proofs.«01_k».proof.Proof.Tiles
public import Idealize.ShloMosaic.Lib.Pointwise
public import Idealize.ShloMosaic.Lib.Pointwise.IndexBridge
public import Idealize.ShloMosaic.Lib.WordCmp

@[expose] public section

noncomputable section

namespace Cert.Proof.KernelIdeal

open Cert.KernelIdeal Cert.KernelIdeal.Gen
open Idealize.ShloMosaic hiding ix0 ix1 ix2 ix3 ix4 ix5
open Idealize.ShloMosaic.ValueIdx
open scoped BigOperators

theorem nm_mask {φ : FTy} (b : BitVec φ.bits) : Named.named (F := Ideal) κ "mask" b = (⊥ : EReal) := rfl
theorem nm_scale {φ : FTy} (b : BitVec φ.bits) : Named.named (F := Ideal) κ "q_scale" b = (((11863283 / 134217728) * (Real.log 2)⁻¹ : ℝ) : EReal) := rfl
theorem nm_log2e {φ : FTy} (b : BitVec φ.bits) : Named.named (F := Ideal) κ "log2e" b = (((Real.log 2)⁻¹ : ℝ) : EReal) := rfl

theorem word_one : FloatOps.sitofp (F := Ideal) .f32 (BitVec.setWidth 32 (1#1)) = (1 : EReal) := by
  show ((((BitVec.setWidth 32 (1#1)).toInt : ℝ)) : EReal) = 1
  have h : (BitVec.setWidth 32 (1#1)).toInt = 1 := by decide
  rw [h]; simp
theorem word_zero : FloatOps.sitofp (F := Ideal) .f32 (BitVec.setWidth 32 (0#1)) = (0 : EReal) := by
  show ((((BitVec.setWidth 32 (0#1)).toInt : ℝ)) : EReal) = 0
  have h : (BitVec.setWidth 32 (0#1)).toInt = 0 := by decide
  rw [h]; simp

theorem score_apply (k q : Vec Ideal S1x256x128 .bf16) (r t : Fin 256) :
    score (F := Ideal) k q (ix2 r t) = ∑ d : Fin 128, k (ix3 0 r d) * (q (ix3 0 t d) * (((11863283 / 134217728) * (Real.log 2)⁻¹ : ℝ) : EReal)) := by
  unfold score k0_pay7
  pointwise [nm_mask, nm_scale, nm_log2e]
  simp only [ix3_eq_valueIdx]

theorem and_255 (c : ℕ) (hc : c < 512) : IntOp.andi (BitVec.ofNat 32 c) 255#32 = BitVec.ofNat 32 (c % 256) := by
  apply BitVec.eq_of_toNat_eq
  show (BitVec.ofNat 32 c &&& 255#32).toNat = _
  rw [BitVec.toNat_and, BitVec.toNat_ofNat, BitVec.toNat_ofNat, BitVec.toNat_ofNat]
  have h : c &&& 255 = c % 2 ^ 8 := Nat.and_two_pow_sub_one_eq_mod c 8
  have e1 : c % 2 ^ 32 = c := Nat.mod_eq_of_lt (by omega)
  have e2 : c % 256 % 2 ^ 32 = c % 256 := Nat.mod_eq_of_lt (by omega)
  rw [e1, e2]
  exact h

theorem tri_apply (r : Fin 256) (c : Fin 512) :
    k0_pay51 (F := Ideal) (ix2 r c) = if r.val ≤ c.val % 256 then 1 else 0 := by
  unfold k0_pay51
  pointwise
  show FloatOps.sitofp (F := Ideal) .f32 (BitVec.setWidth 32 (IntOp.cmpi .sge (IntOp.andi (BitVec.ofNat 32 c.val) 255#32) (BitVec.ofNat 32 r.val))) = _
  have hr := r.isLt
  have hc : c.val % 256 < 256 := Nat.mod_lt _ (by decide)
  rw [and_255 _ c.isLt, WordCmp.cmpi_sge_ofNat (by show _ < 2 ^ 31; omega) (by show _ < 2 ^ 31; omega)]
  by_cases h : r.val ≤ c.val % 256
  · rw [if_pos h, decide_eq_true h]; exact word_one
  · rw [if_neg h, decide_eq_false h]; exact word_zero

theorem mask_apply (r t : Fin 256) : k0_pay57 (ix2 r t) = if r.val < t.val then 1#1 else 0#1 := by
  unfold k0_pay57
  pointwise
  show IntOp.cmpi .slt (BitVec.ofNat 32 r.val) (BitVec.ofNat 32 t.val) = _
  have hr := r.isLt
  have ht := t.isLt
  rw [WordCmp.cmpi_slt_ofNat (by show _ < 2 ^ 31; omega) (by show _ < 2 ^ 31; omega)]
  by_cases h : r.val < t.val
  · rw [if_pos h, decide_eq_true h]; rfl
  · rw [if_neg h, decide_eq_false h]; rfl

/-- The softplus in the base-two scale, as the kernel writes it. -/
def sp2 (x : EReal) : EReal := max x 0 + Ideal.log (1 + Ideal.exp2 (min x (0 - x))) * (((Real.log 2)⁻¹ : ℝ) : EReal)

theorem pay19_apply (a : FVec Ideal S256x256 .f32) (c : Fin 512) (t : Fin 256) :
    k0_pay19 a (ix2 c t) = if h : c.val < 256 then sp2 (a (ix2 ⟨c.val, h⟩ t))
      else sp2 (a (ix2 ⟨c.val - 256, by have := c.isLt; omega⟩ t)) - sp2 (a (ix2 ⟨c.val - 256, by have := c.isLt; omega⟩ t)) := by
  unfold k0_pay19
  pointwise [nm_mask, nm_scale, nm_log2e]
  simp only [ix2_eq_valueIdx]
  rfl

theorem pay58_apply (a : FVec Ideal S256x256 .f32) (c : Fin 512) (t : Fin 256) :
    k0_pay58 a (ix2 c t) = if h : c.val < 256 then Scalar.select (k0_pay57 (ix2 ⟨c.val, h⟩ t)) (sp2 (a (ix2 ⟨c.val, h⟩ t))) (0 : EReal)
      else Scalar.select (k0_pay57 (ix2 ⟨c.val - 256, by have := c.isLt; omega⟩ t)) (sp2 (a (ix2 ⟨c.val - 256, by have := c.isLt; omega⟩ t))) (0 : EReal)
        - Scalar.select (k0_pay57 (ix2 ⟨c.val - 256, by have := c.isLt; omega⟩ t)) (sp2 (a (ix2 ⟨c.val - 256, by have := c.isLt; omega⟩ t))) (0 : EReal) := by
  unfold k0_pay58
  generalize k0_pay57 = mk
  pointwise [nm_mask, nm_scale, nm_log2e]
  simp only [ix2_eq_valueIdx]
  rfl

theorem pay26_apply (u : FVec Ideal S256x512 .bf16) (h : FVec Ideal S512x256 .bf16) (r t : Fin 256) :
    k0_pay26 u h (ix2 r t) = ∑ c : Fin 512, u (ix2 r c) * h (ix2 c t) := by
  unfold k0_pay26
  pointwise
  simp only [ix2_eq_valueIdx]

theorem pay15_apply (w : FVec Ideal S256x256 .bf16) (vt : Vec Ideal S1x128x256 .bf16) (d : Fin 128) (t : Fin 256) :
    k0_pay15 w vt (ix2 d t) = ∑ r : Fin 256, vt (ix3 0 d r) * w (ix2 r t) := by
  unfold k0_pay15
  pointwise
  simp only [ix2_eq_valueIdx, ix3_eq_valueIdx]

theorem pay11_apply (C : FVec Ideal S1x256 .f32) (e : Vec Ideal S1x1x256x256 .f32) (r t : Fin 256) :
    k0_pay11 C e (ix2 r t) = Ideal.exp2 (e (ix4 0 0 r t) - C (ix2 0 t)) := by
  unfold k0_pay11
  pointwise
  simp only [ix2_eq_valueIdx, ix4_eq_valueIdx]
  rfl

theorem pay83_apply (a : FVec Ideal S256x256 .f32) (r t : Fin 256) : k0_pay83 a (ix4 0 0 r t) = a (ix2 r t) := by
  unfold k0_pay83
  pointwise
  simp only [ix2_eq_valueIdx]

theorem pay84_apply (a : FVec Ideal S256x256 .f32) (t : Fin 256) : k0_pay84 a (ix2 0 t) = a (ix2 0 t) := by
  unfold k0_pay84
  pointwise
  simp only [ix2_eq_valueIdx]

theorem pay52_apply (t : Fin 256) : k0_pay52 (F := Ideal) (ix2 0 t) = (0 : EReal) := by
  unfold k0_pay52
  pointwise

theorem pay79_apply (d : Fin 128) (t : Fin 256) : k0_pay79 (F := Ideal) (ix2 d t) = (0 : EReal) := by
  unfold k0_pay79
  pointwise

theorem pay76_apply (r t : Fin 256) : k0_pay76 (F := Ideal) (ix2 r t) = (⊥ : EReal) := by
  unfold k0_pay76
  pointwise [nm_mask, nm_scale, nm_log2e]

theorem pay2_apply (a p : FVec Ideal S128x256 .f32) (t : Fin 256) (d : Fin 128) :
    k0_pay2 a p (ix3 0 t d) = a (ix2 d t) + p (ix2 d t) := by
  unfold k0_pay2
  pointwise
  simp only [ix2_eq_valueIdx]

theorem pay49_apply (d e : Fin 128) : k0_pay49 (F := Ideal) (ix2 d e) = if d = e then (1 : EReal) else 0 := by
  unfold k0_pay49
  pointwise
  show FloatOps.sitofp (F := Ideal) .f32 (BitVec.setWidth 32 (IntOp.cmpi .eq (BitVec.ofNat 32 d.val) (BitVec.ofNat 32 e.val))) = _
  have hd := d.isLt
  have he := e.isLt
  rw [WordCmp.cmpi_eq_ofNat (by omega) (by omega)]
  by_cases h : d = e
  · rw [if_pos h, decide_eq_true (congrArg Fin.val h)]; exact word_one
  · rw [if_neg h, decide_eq_false (fun k => h (Fin.ext k))]; exact word_zero

theorem pay3_apply (v : Vec Ideal S1x256x128 .bf16) (d : Fin 128) (r : Fin 256) :
    k0_pay3 k0_pay49 v (ix3 0 d r) = v (ix3 0 r d) := by
  have h : ∀ y : FVec Ideal S128x128 .bf16, k0_pay3 y v (ix3 0 d r) = ∑ e : Fin 128, y (ix2 d e) * v (ix3 0 r e) := by
    intro y
    unfold k0_pay3
    pointwise
    simp only [ix2_eq_valueIdx, ix3_eq_valueIdx]
  rw [h, Finset.sum_eq_single d]
  · rw [pay49_apply, if_pos rfl, one_mul]
  · intro e _ he
    rw [pay49_apply, if_neg (Ne.symm he), zero_mul]
  · intro h; exact absurd (Finset.mem_univ _) h

end Cert.Proof.KernelIdeal
-- ==== Proof.Weights.lean ====
/-
  The softplus and the stick-breaking weights over the reals.
-/
module

public import Idealize.ShloMosaic.PureOps.Ideal
public import Idealize.ShloMosaic.PureOps.Ideal.Laws
public import Idealize.ShloMosaic.Lib.ValueIdx

@[expose] public section

noncomputable section

namespace Cert.Proof.Weights

open Idealize.ShloMosaic
open scoped BigOperators

/-- The softplus, in the form that does not overflow. -/
def softplus (x : ℝ) : ℝ := max x 0 + Real.log (1 + Real.exp (-|x|))

theorem softplus_neg (x : ℝ) : -softplus (-x) = x - softplus x := by
  unfold softplus
  rw [abs_neg]
  rcases le_total x 0 with h | h
  · rw [max_eq_left (by linarith), max_eq_right h]; ring
  · rw [max_eq_right (by linarith), max_eq_left h]; ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem log2_pos : 0 < Real.log 2 := Real.log_pos (by norm_num)

theorem rpow_log2 (z : ℝ) : Real.rpow 2 (z * (Real.log 2)⁻¹) = Real.exp z := by
  show (2 : ℝ) ^ (z * (Real.log 2)⁻¹) = Real.exp z
  rw [Real.rpow_def_of_pos (by norm_num)]
  congr 1
  have := log2_pos.ne'
  field_simp

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

theorem log_one_add_exp (x : ℝ) : Ideal.log (1 + ((Real.exp x : ℝ) : EReal)) = ((Real.log (1 + Real.exp x) : ℝ) : EReal) := by
  have h : (1 : EReal) + ((Real.exp x : ℝ) : EReal) = ((1 + Real.exp x : ℝ) : EReal) := by rw [EReal.coe_add, EReal.coe_one]
  rw [h, Ideal.log_coe, if_neg]
  have := Real.exp_pos x
  linarith

theorem min_neg_abs (x : ℝ) : min x (0 - x) = -|x| := by
  rw [zero_sub]
  rcases le_total x 0 with h | h
  · rw [abs_of_nonpos h, min_eq_left (by linarith)]; ring
  · rw [abs_of_nonneg h, min_eq_right (by linarith)]

/-- The softplus of a score held in the base-two scale. -/
theorem base_two (z : ℝ) :
    max ((z * (Real.log 2)⁻¹ : ℝ) : EReal) 0 + Ideal.log (1 + Ideal.exp2 (min ((z * (Real.log 2)⁻¹ : ℝ) : EReal) (0 - ((z * (Real.log 2)⁻¹ : ℝ) : EReal))))
        * (((Real.log 2)⁻¹ : ℝ) : EReal)
      = ((softplus z * (Real.log 2)⁻¹ : ℝ) : EReal) := by
  have hL : 0 < (Real.log 2)⁻¹ := inv_pos.2 log2_pos
  rw [← EReal.coe_zero, ← EReal.coe_sub, ← coe_min, ← coe_max, min_neg_abs, Ideal.exp2_coe, abs_mul, abs_of_pos hL, ← neg_mul, rpow_log2,
    log_one_add_exp, ← EReal.coe_mul, ← EReal.coe_add]
  unfold softplus
  rw [add_mul]
  congr 2
  rcases le_total z 0 with h | h
  · rw [max_eq_right h, max_eq_right (mul_nonpos_of_nonpos_of_nonneg h hL.le)]; ring
  · rw [max_eq_left h, max_eq_left (mul_nonneg h hL.le)]

/-- The softplus the reference writes, of a real. -/
theorem base_e (z : ℝ) :
    max (z : EReal) 0 + Ideal.log1p (Ideal.exp (-(max ((z : EReal) - 0) (-((z : EReal) - 0))))) = ((softplus z : ℝ) : EReal) := by
  unfold Ideal.log1p
  rw [← EReal.coe_zero, ← EReal.coe_sub, ← EReal.coe_neg, ← coe_max, ← coe_max, ← EReal.coe_neg, Ideal.exp_coe, log_one_add_exp, ← EReal.coe_add]
  unfold softplus
  rw [sub_zero]
  rfl

/-- The sum of a real family over the keys not before `r`, as the triangle's product writes it. -/
theorem tri_sum (r : ℕ) (g : ℕ → ℝ) :
    ∑ c : Fin 512, (if r ≤ c.val % 256 then (1 : EReal) else 0) * (if c.val < 256 then ((g c.val : ℝ) : EReal) else 0)
      = ((∑ j ∈ Finset.Ico r 256, g j : ℝ) : EReal) := by
  have h1 : ∀ c : ℕ, (if r ≤ c % 256 then (1 : EReal) else 0) * (if c < 256 then ((g c : ℝ) : EReal) else 0)
      = ((if r ≤ c ∧ c < 256 then g c else 0 : ℝ) : EReal) := by
    intro c
    by_cases hc : c < 256
    · rw [Nat.mod_eq_of_lt hc]
      by_cases hr : r ≤ c
      · simp [hc, hr]
      · simp [hc, hr]
    · simp [hc]
  rw [Finset.sum_congr rfl (fun c _ => h1 c.val), ← coe_sum, Fin.sum_univ_eq_sum_range (fun c => if r ≤ c ∧ c < 256 then g c else 0), ← Finset.sum_filter]
  congr 1
  refine Finset.sum_congr ?_ fun _ _ => rfl
  ext j
  simp only [Finset.mem_filter, Finset.mem_range, Finset.mem_Ico]
  omega

/-- What the keys before the query take off: the softplus of a key's score, nothing from the query on. -/
def take (z : ℕ → ℝ) (T j : ℕ) : ℝ := if j < T then softplus (z j) else 0

/-- The stick-breaking weight of key `s` for query `T`. -/
def weight (z : ℕ → ℝ) (T s : ℕ) : ℝ := if s < T then Real.exp (z s - ∑ j ∈ Finset.Ico s T, take z T j) else 0

theorem sum_take (z : ℕ → ℝ) (T s M : ℕ) (hs : s < T) (hM : T ≤ M) : ∑ j ∈ Finset.Ico s M, take z T j = ∑ j ∈ Finset.Ico s T, take z T j := by
  rw [← Finset.sum_Ico_consecutive _ hs.le hM]
  rw [Finset.sum_eq_zero (s := Finset.Ico T M), add_zero]
  intro j hj
  unfold take
  rw [if_neg]
  have := (Finset.mem_Ico.1 hj).1
  omega

/-- The score of a query against a key. -/
def zed (qq kk : ℕ → ℕ → ℝ) (t s : ℕ) : ℝ := (∑ d : Fin 128, qq t d.val * kk s d.val) * (11863283 / 134217728)

/-- The projection's array at an index of naturals, zero outside it. -/
def total (X : (⟨3, ![4, 4096, 10240]⟩ : Shape).Idx → EReal) (b s l : ℕ) : EReal :=
  if h : b < 4 ∧ s < 4096 ∧ l < 10240 then X (ValueIdx.ix3 ⟨b, h.1⟩ ⟨s, h.2.1⟩ ⟨l, h.2.2⟩) else 0

/-- The queries and the keys are real numbers. -/
def Finite (X : (⟨3, ![4, 4096, 10240]⟩ : Shape).Idx → EReal) : Prop :=
  ∀ b s l : ℕ, l < 2048 → total X b s l = (((total X b s l).toReal : ℝ) : EReal)

/-- One element of the stick-breaking attention: batch `b`, head `h`, query `T`, lane `d`. -/
def attended (X : (⟨3, ![4, 4096, 10240]⟩ : Shape).Idx → EReal) (b h T d : ℕ) : EReal :=
  ∑ j ∈ Finset.range 4096,
    ((weight (zed (fun t d => (total X b t (h * 128 + d)).toReal) (fun s d => (total X b s (1024 + (h * 128 + d))).toReal) T) T j : ℝ) : EReal)
      * total X b j (2048 + (h * 128 + d))

end Cert.Proof.Weights
-- ==== Proof.Attn.lean ====
/-
  The block of outputs over the extended reals: the sum over the keys of the stick-breaking weights times the values.
-/
module

public import proofs.«01_k».proof.Proof.Elem
public import proofs.«01_k».proof.Proof.Weights
public import proofs.«01_k».proof.Proof.Block

@[expose] public section

noncomputable section

namespace Cert.Proof.KernelIdeal

open Cert.KernelIdeal Cert.KernelIdeal.Gen Cert.Proof.Weights
open Idealize.ShloMosaic hiding ix0 ix1 ix2 ix3 ix4 ix5
open Idealize.ShloMosaic.ValueIdx
open scoped BigOperators

theorem sp2_real (z : ℝ) : sp2 ((z * (Real.log 2)⁻¹ : ℝ) : EReal) = ((softplus z * (Real.log 2)⁻¹ : ℝ) : EReal) := base_two z

theorem cum_real (a : FVec Ideal S256x256 .f32) (f : ℕ → ℝ) (t : Fin 256)
    (ha : ∀ r : Fin 256, a (ix2 r t) = ((f r.val * (Real.log 2)⁻¹ : ℝ) : EReal)) (r : Fin 256) :
    cum a (ix2 r t) = (((∑ j ∈ Finset.Ico r.val 256, softplus (f j)) * (Real.log 2)⁻¹ : ℝ) : EReal) := by
  unfold cum
  rw [pay26_apply, Finset.sum_mul, ← tri_sum r.val]
  refine Finset.sum_congr rfl fun c _ => ?_
  rw [tri_apply, pay19_apply]
  congr 1
  by_cases h : c.val < 256
  · rw [dif_pos h, if_pos h, ha, sp2_real]
  · rw [dif_neg h, if_neg h, ha, sp2_real, ← EReal.coe_sub, sub_self, EReal.coe_zero]

theorem select_mask (r t : Fin 256) (x y : EReal) :
    Scalar.select (k0_pay57 (ix2 r t)) x y = if r.val < t.val then x else y := by
  rw [mask_apply]
  by_cases h : r.val < t.val
  · rw [if_pos h, if_pos h]; rfl
  · rw [if_neg h, if_neg h]; rfl

theorem cumM_real (a : FVec Ideal S256x256 .f32) (f : ℕ → ℝ) (t : Fin 256)
    (ha : ∀ r : Fin 256, a (ix2 r t) = ((f r.val * (Real.log 2)⁻¹ : ℝ) : EReal)) (r : Fin 256) :
    cumM a (ix2 r t) = (((∑ j ∈ Finset.Ico r.val 256, if j < t.val then softplus (f j) else 0) * (Real.log 2)⁻¹ : ℝ) : EReal) := by
  have e : ∀ c : Fin 256, Scalar.select (k0_pay57 (ix2 c t)) (sp2 (a (ix2 c t))) (0 : EReal)
      = (((if c.val < t.val then softplus (f c.val) else 0) * (Real.log 2)⁻¹ : ℝ) : EReal) := by
    intro c
    rw [select_mask, ha, sp2_real]
    by_cases h : c.val < t.val
    · rw [if_pos h, if_pos h]
    · rw [if_neg h, if_neg h, zero_mul, EReal.coe_zero]
  unfold cumM
  rw [pay26_apply, Finset.sum_mul, ← tri_sum r.val]
  refine Finset.sum_congr rfl fun c _ => ?_
  rw [tri_apply, pay58_apply]
  congr 1
  by_cases h : c.val < 256
  · rw [dif_pos h, if_pos h, e]
  · rw [dif_neg h, if_neg h, e, ← EReal.coe_sub, sub_self, EReal.coe_zero]

section block

variable (qi : ℕ) (hqi : qi < 16) (Q : Vec Ideal S1x256x512 .bf16) (K : Vec Ideal S1x4096x512 .bf16) (VT : Vec Ideal S16x512x256 .bf16) (g : Fin 4)
  (qq kk : ℕ → ℕ → ℝ) (vv : ℕ → ℕ → EReal)
  (hQ : ∀ (t : Fin 256) (d : Fin 128), cols Q g (ix3 0 t d) = ((qq (256 * qi + t.val) d.val : ℝ) : EReal))
  (hK : ∀ n < 16, ∀ (r : Fin 256) (d : Fin 128), rows K n g (ix3 0 r d) = ((kk (256 * n + r.val) d.val : ℝ) : EReal))
  (hV : ∀ n < 16, ∀ (d : Fin 128) (r : Fin 256), lanes VT n g (ix3 0 d r) = vv (256 * n + r.val) d.val)

include hqi hQ hK in
theorem scoreN_real (n : ℕ) (hn : n ≤ qi) (r t : Fin 256) :
    scoreN qi Q K n g (ix2 r t) = ((zed qq kk (256 * qi + t.val) (256 * (qi - n) + r.val) * (Real.log 2)⁻¹ : ℝ) : EReal) := by
  unfold scoreN
  rw [score_apply]
  have e : ∀ d : Fin 128, rows K (qi - n) g (ix3 0 r d) * (cols Q g (ix3 0 t d) * (((11863283 / 134217728) * (Real.log 2)⁻¹ : ℝ) : EReal))
      = ((kk (256 * (qi - n) + r.val) d.val * (qq (256 * qi + t.val) d.val * ((11863283 / 134217728) * (Real.log 2)⁻¹)) : ℝ) : EReal) := by
    intro d
    rw [hQ, hK _ (by omega), ← EReal.coe_mul, ← EReal.coe_mul]
  rw [Finset.sum_congr rfl (fun d _ => e d), ← coe_sum]
  unfold zed
  rw [Finset.sum_mul, Finset.sum_mul]
  refine congrArg _ (Finset.sum_congr rfl fun d _ => ?_)
  ring

theorem shift_take (z : ℕ → ℝ) (T b r : ℕ) :
    ∑ j ∈ Finset.Ico r 256, take z T (256 * b + j) = ∑ j ∈ Finset.Ico (256 * b + r) (256 * b + 256), take z T j := by
  rw [Finset.sum_Ico_add, Nat.add_comm r, Nat.add_comm 256]

include hqi hQ hK in
theorem cum_zero (r t : Fin 256) : cumM (scoreN qi Q K 0 g) (ix2 r t)
    = (((∑ j ∈ Finset.Ico (256 * (qi - 0) + r.val) (256 * (qi - 0) + 256), take (zed qq kk (256 * qi + t.val)) (256 * qi + t.val) j) * (Real.log 2)⁻¹ : ℝ) : EReal) := by
  rw [cumM_real _ (fun j => zed qq kk (256 * qi + t.val) (256 * (qi - 0) + j)) t (fun r => scoreN_real qi hqi Q K g qq kk hQ hK 0 (Nat.zero_le _) r t) r, ← shift_take]
  congr 2
  refine Finset.sum_congr rfl fun j _ => ?_
  unfold take
  rw [Nat.sub_zero]
  by_cases h : j < t.val
  · rw [if_pos h, if_pos (by omega)]
  · rw [if_neg h, if_neg (by omega)]

include hqi hQ hK in
theorem cum_succ (n : ℕ) (hn : n + 1 ≤ qi) (r t : Fin 256) : cum (scoreN qi Q K (n + 1) g) (ix2 r t)
    = (((∑ j ∈ Finset.Ico (256 * (qi - (n + 1)) + r.val) (256 * (qi - (n + 1)) + 256), take (zed qq kk (256 * qi + t.val)) (256 * qi + t.val) j) * (Real.log 2)⁻¹ : ℝ) : EReal) := by
  rw [cum_real _ (fun j => zed qq kk (256 * qi + t.val) (256 * (qi - (n + 1)) + j)) t (fun r => scoreN_real qi hqi Q K g qq kk hQ hK (n + 1) hn r t) r, ← shift_take]
  congr 2
  refine Finset.sum_congr rfl fun j hj => ?_
  have := (Finset.mem_Ico.1 hj).2
  unfold take
  rw [if_pos (by omega)]

include hqi hQ hK in
theorem S_real (n : ℕ) (hn : n ≤ qi) (t : Fin 256) : S qi Q K n g (ix2 0 t)
    = (((∑ j ∈ Finset.Ico (256 * (qi - n)) (256 * (qi - n) + 256), take (zed qq kk (256 * qi + t.val)) (256 * qi + t.val) j) * (Real.log 2)⁻¹ : ℝ) : EReal) := by
  match n with
  | 0 => exact (pay84_apply _ t).trans (cum_zero qi hqi Q K g qq kk hQ hK 0 t)
  | n + 1 => exact (pay84_apply _ t).trans (cum_succ qi hqi Q K g qq kk hQ hK n hn 0 t)

include hqi hQ hK in
theorem C_real (n : ℕ) (hn : n ≤ qi) (t : Fin 256) : C qi Q K n g (ix2 0 t)
    = (((∑ j ∈ Finset.Ico (256 * (qi - n) + 256) (256 * qi + 256), take (zed qq kk (256 * qi + t.val)) (256 * qi + t.val) j) * (Real.log 2)⁻¹ : ℝ) : EReal) := by
  induction n with
  | zero =>
    refine (pay52_apply t).trans ?_
    rw [Nat.sub_zero, Finset.Ico_self, Finset.sum_empty, zero_mul, EReal.coe_zero]
  | succ n ih =>
    show C qi Q K n g (ix2 0 t) + S qi Q K n g (ix2 0 t) = _
    rw [ih (by omega), S_real qi hqi Q K g qq kk hQ hK n (by omega), ← EReal.coe_add, ← add_mul, add_comm,
      Finset.sum_Ico_consecutive _ (by omega) (by omega)]
    have e : 256 * (qi - (n + 1)) + 256 = 256 * (qi - n) := by omega
    rw [e]

include hqi hQ hK in
theorem E_real (n : ℕ) (hn : n ≤ qi) (r t : Fin 256) : E qi Q K n g (ix4 0 0 r t)
    = if 256 * (qi - n) + r.val < 256 * qi + t.val then
        ((zed qq kk (256 * qi + t.val) (256 * (qi - n) + r.val) * (Real.log 2)⁻¹
          - (∑ j ∈ Finset.Ico (256 * (qi - n) + r.val) (256 * (qi - n) + 256), take (zed qq kk (256 * qi + t.val)) (256 * qi + t.val) j) * (Real.log 2)⁻¹ : ℝ) : EReal)
      else ⊥ := by
  match n with
  | 0 =>
    show k0_pay83 (select k0_pay57 (subf (scoreN qi Q K 0 g) (cumM (scoreN qi Q K 0 g))) k0_pay76) (ix4 0 0 r t) = _
    rw [pay83_apply]
    show Scalar.select (k0_pay57 (ix2 r t)) (scoreN qi Q K 0 g (ix2 r t) - cumM (scoreN qi Q K 0 g) (ix2 r t)) (k0_pay76 (F := Ideal) (ix2 r t)) = _
    rw [select_mask, pay76_apply, scoreN_real qi hqi Q K g qq kk hQ hK 0 hn, cum_zero qi hqi Q K g qq kk hQ hK, ← EReal.coe_sub]
    by_cases h : r.val < t.val
    · rw [if_pos h, if_pos (by omega)]
    · rw [if_neg h, if_neg (by omega)]
  | n + 1 =>
    show k0_pay83 (subf (scoreN qi Q K (n + 1) g) (cum (scoreN qi Q K (n + 1) g))) (ix4 0 0 r t) = _
    rw [pay83_apply]
    show scoreN qi Q K (n + 1) g (ix2 r t) - cum (scoreN qi Q K (n + 1) g) (ix2 r t) = _
    rw [scoreN_real qi hqi Q K g qq kk hQ hK (n + 1) hn, cum_succ qi hqi Q K g qq kk hQ hK n hn, ← EReal.coe_sub, if_pos (by omega)]

include hqi hQ hK in
theorem weight_real (n : ℕ) (hn : n ≤ qi) (r t : Fin 256) : k0_pay11 (C qi Q K n g) (E qi Q K n g) (ix2 r t)
    = ((weight (zed qq kk (256 * qi + t.val)) (256 * qi + t.val) (256 * (qi - n) + r.val) : ℝ) : EReal) := by
  rw [pay11_apply, C_real qi hqi Q K g qq kk hQ hK n hn, E_real qi hqi Q K g qq kk hQ hK n hn]
  unfold weight
  by_cases h : 256 * (qi - n) + r.val < 256 * qi + t.val
  · rw [if_pos h, if_pos h, ← EReal.coe_sub, ← sum_take _ _ _ (256 * qi + 256) h (by omega),
      ← Finset.sum_Ico_consecutive _ (show 256 * (qi - n) + r.val ≤ 256 * (qi - n) + 256 by omega) (show 256 * (qi - n) + 256 ≤ 256 * qi + 256 by omega),
      ← sub_mul, ← sub_mul, Ideal.exp2_coe, rpow_log2]
    congr 2
    ring
  · rw [if_neg h, if_neg h, EReal.bot_sub, Ideal.exp2_bot, EReal.coe_zero]

include hqi hQ hK hV in
theorem prod_real (n : ℕ) (hn : n ≤ qi) (d : Fin 128) (t : Fin 256) :
    prod (C qi Q K n g) (E qi Q K n g) (lanes VT (qi - n) g) (ix2 d t)
      = ∑ j ∈ Finset.Ico (256 * (qi - n)) (256 * (qi - n) + 256), vv j d.val * ((weight (zed qq kk (256 * qi + t.val)) (256 * qi + t.val) j : ℝ) : EReal) := by
  unfold prod
  rw [pay15_apply, Finset.sum_Ico_eq_sum_range, Nat.add_sub_cancel_left,
    ← Fin.sum_univ_eq_sum_range (fun j => vv (256 * (qi - n) + j) d.val * ((weight (zed qq kk (256 * qi + t.val)) (256 * qi + t.val) (256 * (qi - n) + j) : ℝ) : EReal))]
  refine Finset.sum_congr rfl fun r _ => ?_
  rw [hV _ (by omega), weight_real qi hqi Q K g qq kk hQ hK n hn]

include hqi hQ hK hV in
theorem A_real (n : ℕ) (hn : n ≤ qi) (d : Fin 128) (t : Fin 256) :
    A qi Q K VT n g (ix2 d t)
      = ∑ j ∈ Finset.Ico (256 * (qi - n) + 256) (256 * qi + 256), vv j d.val * ((weight (zed qq kk (256 * qi + t.val)) (256 * qi + t.val) j : ℝ) : EReal) := by
  induction n with
  | zero =>
    refine (pay79_apply d t).trans ?_
    rw [Nat.sub_zero, Finset.Ico_self, Finset.sum_empty]
  | succ n ih =>
    show A qi Q K VT n g (ix2 d t) + prod (C qi Q K n g) (E qi Q K n g) (lanes VT (qi - n) g) (ix2 d t) = _
    rw [ih (by omega), prod_real qi hqi Q K VT g qq kk vv hQ hK hV n (by omega), add_comm,
      Finset.sum_Ico_consecutive _ (by omega) (by omega)]
    have e : 256 * (qi - (n + 1)) + 256 = 256 * (qi - n) := by omega
    rw [e]

include hqi hQ hK hV in
/-- One head's block of outputs: the stick-breaking weights over all the keys, times the values. -/
theorem outN_real (t : Fin 256) (d : Fin 128) : outN qi Q K VT g (ix3 0 t d)
    = ∑ j ∈ Finset.range 4096, ((weight (zed qq kk (256 * qi + t.val)) (256 * qi + t.val) j : ℝ) : EReal) * vv j d.val := by
  unfold outN
  have p := prod_real qi hqi Q K VT g qq kk vv hQ hK hV qi le_rfl d t
  rw [Nat.sub_self] at p
  rw [pay2_apply, A_real qi hqi Q K VT g qq kk vv hQ hK hV qi le_rfl, p, Nat.sub_self, add_comm, Finset.sum_Ico_consecutive _ (by omega) (by omega),
    Nat.mul_zero, Finset.range_eq_Ico,
    ← Finset.sum_Ico_consecutive _ (show 0 ≤ 256 * qi + 256 by omega) (show 256 * qi + 256 ≤ 4096 by omega)]
  rw [Finset.sum_eq_zero (s := Finset.Ico (256 * qi + 256) 4096), add_zero]
  · exact Finset.sum_congr rfl fun j _ => mul_comm _ _
  · intro j hj
    have := (Finset.mem_Ico.1 hj).1
    have ht := t.isLt
    unfold weight
    rw [if_neg (by omega), EReal.coe_zero, zero_mul]

end block

end Cert.Proof.KernelIdeal
-- ==== Proof.RefRead.lean ====
/-
  The reference's result, read at an index.
-/
module

public import proofs.«01_k».proof.Proof.Gen.ReferenceIdeal.Read
public import proofs.«01_k».proof.Proof.Weights
public import Idealize.ShloMosaic.Lib.WordCmp
public import Idealize.ShloMosaic.Lib.ValueIdx

@[expose] public section

set_option maxRecDepth 8192

noncomputable section

namespace Cert.Proof.RefRead

open Cert.ReferenceIdeal Cert.ReferenceIdeal.Gen Cert.ReferenceIdeal.Read Cert.Proof.Weights
open Idealize.ShloMosaic Idealize.ShloMosaic.ValueIdx
open scoped BigOperators

/-! ## The sum from each key to the last -/

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

abbrev Wn : Shape := ⟨4, ![1, 1, 1, 4096]⟩

theorem sum_window (g : Wn.Idx → EReal) : ∑ n : Fin Wn.numel, g (Wn.rowMajor.symm n) = ∑ k : Fin 4096, g (ix4 0 0 0 k) := by
  rw [Equiv.sum_comp]
  refine (Function.Bijective.sum_comp (e := fun k : Fin 4096 => (ix4 0 0 0 k : Wn.Idx)) ⟨fun a b h => ?_, fun i => ⟨i 3, ?_⟩⟩ g).symm
  · exact congrFun h 3
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem window_apply {s t u : Shape} (window strides lo hi : Fin s.rank → Nat) (x : FVec Ideal s .f32) (init : FVec Ideal u .f32)
    (h : s.ReduceWindows window strides lo hi t) (hu : 0 < u.numel) (j : t.Idx) :
    Host.reduceWindowAdd window strides lo hi x init h hu j = Ideal.hostReduceWindowAdd window strides lo hi h x (init (Shape.Idx.first hu)) j := rfl

attribute [-instance] FinRange.decidableForall in
theorem cumsum_apply (x : FVec Ideal S4x8x4096x4096 .f32) (init : FVec Ideal S_ .f32) (hinit : ∀ i, init i = (0 : EReal))
    (b : Fin 4) (h : Fin 8) (T s : Fin 4096) (f : ℕ → ℝ) (hx : ∀ j : Fin 4096, x (ix4 b h T j) = ((f j.val : ℝ) : EReal)) :
    Host.reduceWindowAdd ![1, 1, 1, 4096] ![1, 1, 1, 1] ![0, 0, 0, 0] ![0, 0, 0, 4095] x init
      reduceWindows_S4x8x4096x4096_S4x8x4096x4096_w1s1p0_0_w1s1p0_0_w1s1p0_0_w4096s1p0_4095 h_S_ (ix4 b h T s)
      = ((∑ j ∈ Finset.Ico s.val 4096, f j : ℝ) : EReal) := by
  rw [window_apply, hinit]
  unfold Ideal.hostReduceWindowAdd Host.reduceWindow
  dsimp only
  rw [foldl_add, zero_add, ← Fin.sum_univ_def]
  refine (sum_window (fun q => if hin : ∀ a : Fin 4, (![0, 0, 0, 0] : Fin 4 → ℕ) a ≤ ((ix4 b h T s : S4x8x4096x4096.Idx) a).val * (![1, 1, 1, 1] : Fin 4 → ℕ) a + (q a).val
        ∧ ((ix4 b h T s : S4x8x4096x4096.Idx) a).val * (![1, 1, 1, 1] : Fin 4 → ℕ) a + (q a).val - (![0, 0, 0, 0] : Fin 4 → ℕ) a < S4x8x4096x4096.size a
      then x (fun a => ⟨((ix4 b h T s : S4x8x4096x4096.Idx) a).val * (![1, 1, 1, 1] : Fin 4 → ℕ) a + (q a).val - (![0, 0, 0, 0] : Fin 4 → ℕ) a, (hin a).2⟩) else (0 : EReal))).trans ?_
  refine (Finset.sum_congr rfl fun k _ => show _ = ((if s.val + k.val < 4096 then f (s.val + k.val) else 0 : ℝ) : EReal) from ?_).trans ?_
  · dsimp only
    split
    · next hin =>
      have h3 : s.val * 1 + k.val - 0 < 4096 := (hin 3).2
      rw [if_pos (by omega), ← hx ⟨s.val + k.val, by omega⟩]
      refine congrArg x (funext fun a => Fin.ext ?_)
      match a with
      | ⟨0, _⟩ => show b.val * 1 + 0 - 0 = b.val; omega
      | ⟨1, _⟩ => show h.val * 1 + 0 - 0 = h.val; omega
      | ⟨2, _⟩ => show T.val * 1 + 0 - 0 = T.val; omega
      | ⟨3, _⟩ => show s.val * 1 + k.val - 0 = s.val + k.val; omega
    · next hin =>
      rw [if_neg, EReal.coe_zero]
      intro hlt
      refine hin fun a => ?_
      have hb := b.isLt
      have hh := h.isLt
      have hT := T.isLt
      match a with
      | ⟨0, _⟩ => show 0 ≤ b.val * 1 + 0 ∧ b.val * 1 + 0 - 0 < 4; omega
      | ⟨1, _⟩ => show 0 ≤ h.val * 1 + 0 ∧ h.val * 1 + 0 - 0 < 8; omega
      | ⟨2, _⟩ => show 0 ≤ T.val * 1 + 0 ∧ T.val * 1 + 0 - 0 < 4096; omega
      | ⟨3, _⟩ => show 0 ≤ s.val * 1 + k.val ∧ s.val * 1 + k.val - 0 < 4096; omega
  rw [← coe_sum, Fin.sum_univ_eq_sum_range (fun k => if s.val + k < 4096 then f (s.val + k) else 0), ← Finset.sum_filter, Finset.sum_Ico_eq_sum_range]
  congr 1
  refine Finset.sum_congr ?_ fun _ _ => rfl
  ext k
  simp only [Finset.mem_filter, Finset.mem_range]
  omega

/-! ## The operands -/

variable (X : (⟨S4x4096x10240, .f32⟩ : BufTy).Contents (Elt Ideal))

theorem total_apply (b s l : ℕ) (i : S4x4096x10240.Idx) (h0 : (i 0).val = b) (h1 : (i 1).val = s) (h2 : (i 2).val = l) : X i = total X b s l := by
  subst h0 h1 h2
  have g0 : (i 0).val < 4 := (i 0).isLt
  have g1 : (i 1).val < 4096 := (i 1).isLt
  have g2 : (i 2).val < 10240 := (i 2).isLt
  unfold total
  rw [dif_pos ⟨g0, g1, g2⟩]
  exact congrArg X (eq_ix3 i)

theorem v2_apply (b : Fin 4) (h : Fin 8) (s : Fin 4096) (d : Fin 128) : val_main_v2 (F := Ideal) X (ix4 b h s d) = total X b s (h.val * 128 + d.val) := by
  rw [val_main_v2_apply, val_main_v1_apply, val_main_v0_apply]
  have hb := b.isLt
  have hh := h.isLt
  have hs := s.isLt
  have hd := d.isLt
  refine total_apply X _ _ _ _ ?_ ?_ ?_
  · show (((b.val * 4096 + s.val) * 8 + h.val) * 128 + d.val) / 4194304 = b.val; omega
  · show (((b.val * 4096 + s.val) * 8 + h.val) * 128 + d.val) / 1024 % 4096 = s.val; omega
  · show (((b.val * 4096 + s.val) * 8 + h.val) * 128 + d.val) % 1024 = h.val * 128 + d.val; omega

theorem v5_apply (b : Fin 4) (h : Fin 8) (s : Fin 4096) (d : Fin 128) : val_main_v5 (F := Ideal) X (ix4 b h s d) = total X b s (1024 + (h.val * 128 + d.val)) := by
  rw [val_main_v5_apply, val_main_v4_apply, val_main_v3_apply]
  have hb := b.isLt
  have hh := h.isLt
  have hs := s.isLt
  have hd := d.isLt
  refine total_apply X _ _ _ _ ?_ ?_ ?_
  · show (((b.val * 4096 + s.val) * 8 + h.val) * 128 + d.val) / 4194304 = b.val; omega
  · show (((b.val * 4096 + s.val) * 8 + h.val) * 128 + d.val) / 1024 % 4096 = s.val; omega
  · show 1024 + (((b.val * 4096 + s.val) * 8 + h.val) * 128 + d.val) % 1024 = 1024 + (h.val * 128 + d.val); omega

theorem v8_apply (b : Fin 4) (h : Fin 8) (s : Fin 4096) (d : Fin 128) : val_main_v8 (F := Ideal) X (ix4 b h s d) = total X b s (2048 + (h.val * 128 + d.val)) := by
  rw [val_main_v8_apply, val_main_v7_apply, val_main_v6_apply]
  have hb := b.isLt
  have hh := h.isLt
  have hs := s.isLt
  have hd := d.isLt
  refine total_apply X _ _ _ _ ?_ ?_ ?_
  · show (((b.val * 4096 + s.val) * 8 + h.val) * 128 + d.val) / 4194304 = b.val; omega
  · show (((b.val * 4096 + s.val) * 8 + h.val) * 128 + d.val) / 1024 % 4096 = s.val; omega
  · show 2048 + (((b.val * 4096 + s.val) * 8 + h.val) * 128 + d.val) % 1024 = 2048 + (h.val * 128 + d.val); omega

theorem scale_bits : Ideal.ofBits .f32 0x3DB504F3#32 = ((11863283 / 134217728 : ℝ) : EReal) := by
  simp [Ideal.ofBits, Ideal.ieee, -EReal.coe_mul]; norm_num

/-! ## The weights -/

/-- The score of a query against a key of the same head. -/
abbrev sc (b : Fin 4) (h : Fin 8) (T : ℕ) : ℕ → ℝ :=
  zed (fun t d => (total X b t (h * 128 + d)).toReal) (fun s d => (total X b s (1024 + (h * 128 + d))).toReal) T

section weights

variable (hX : Finite X) (b : Fin 4) (h : Fin 8) (T s : Fin 4096)

include hX in
theorem v12_real : val_main_v12 (F := Ideal) X (ix4 b h T s) = ((sc X b h T s : ℝ) : EReal) := by
  rw [val_main_v12_apply, val_main_v10_apply, val_main_v11_apply]
  have hh := h.isLt
  have e : ∀ d : Fin 128, val_main_v2 (F := Ideal) X (lidx_main_v10 (ix4 b h T s) d) * val_main_v5 (F := Ideal) X (ridx_main_v10 (ix4 b h T s) d)
      = (((total X b T (h * 128 + d)).toReal * (total X b s (1024 + (h * 128 + d))).toReal : ℝ) : EReal) := by
    intro d
    have hd := d.isLt
    have l : lidx_main_v10 (ix4 b h T s) d = ix4 b h T d := eq_ix4 _
    have r : ridx_main_v10 (ix4 b h T s) d = ix4 b h s d := eq_ix4 _
    rw [l, r, v2_apply, v5_apply, EReal.coe_mul, ← hX _ _ _ (by omega), ← hX _ _ _ (by omega)]
  rw [Finset.sum_congr rfl (fun d _ => e d), ← coe_sum]
  show _ * Ideal.ofBits .f32 0x3DB504F3#32 = _
  rw [scale_bits, ← EReal.coe_mul]
  rfl

theorem une_self (x : EReal) : FloatOps.cmpf (F := Ideal) (φ := .f32) .une x x = 0#1 := by
  show BitVec.ofBool (decide (x ≠ x)) = 0#1
  simp

include hX in
theorem v18_real : val_main_v18 (F := Ideal) X (ix4 b h T s) = ((sc X b h T s - softplus (sc X b h T s) : ℝ) : EReal) := by
  rw [val_main_v18_apply, val_main_call0_v1_apply, val_main_call0_call0_v4_apply, une_self, val_main_call0_call0_v11_apply, val_main_call0_call0_v1_apply,
    val_main_call0_call0_v10_apply, val_main_call0_call0_v9_apply, val_main_call0_call0_v8_apply, val_main_call0_call0_v7_apply, val_main_call0_call0_v3_apply,
    val_main_call0_v0_apply, v12_real X hX, val_main_call0_call0_v0_apply, val_main_call0_call0_v2_apply, val_main_call0_call0_cst_apply,
    ← softplus_neg, EReal.coe_neg, ← base_e, EReal.coe_neg]
  show -(max (-(sc X b h T s : EReal)) (Ideal.ofBits .f32 0x00000000#32) + Ideal.log1p (Ideal.exp (-(max (-(sc X b h T s : EReal) - Ideal.ofBits .f32 0x00000000#32) (-(-(sc X b h T s : EReal) - Ideal.ofBits .f32 0x00000000#32)))))) = _
  rw [Ideal.ofBits_zero_f32]

include hX in
theorem v20_real : val_main_v20 (F := Ideal) X (ix4 b h T s) = ((-softplus (sc X b h T s) : ℝ) : EReal) := by
  rw [val_main_v20_apply, val_main_call1_v1_apply, val_main_call1_call0_v4_apply, une_self, val_main_call1_call0_v11_apply, val_main_call1_call0_v1_apply,
    val_main_call1_call0_v10_apply, val_main_call1_call0_v9_apply, val_main_call1_call0_v8_apply, val_main_call1_call0_v7_apply, val_main_call1_call0_v3_apply,
    val_main_call1_v0_apply, val_main_v19_apply, v12_real X hX, val_main_call1_call0_v0_apply, val_main_call1_call0_v2_apply, val_main_call1_call0_cst_apply,
    EReal.coe_neg, ← base_e]
  show -(max (- -(sc X b h T s : EReal)) (Ideal.ofBits .f32 0x00000000#32) + Ideal.log1p (Ideal.exp (-(max (- -(sc X b h T s : EReal) - Ideal.ofBits .f32 0x00000000#32) (-(- -(sc X b h T s : EReal) - Ideal.ofBits .f32 0x00000000#32)))))) = _
  rw [Ideal.ofBits_zero_f32, neg_neg]

theorem v17_apply (i : S4096x4096.Idx) (h0 : (i 0).val = T.val) (h1 : (i 1).val = s.val) : val_main_v17 (F := Ideal) i = if s.val < T.val then 1#1 else 0#1 := by
  rw [val_main_v17_apply, val_main_v15_apply, val_main_v16_apply, val_main_v13_apply, val_main_v14_apply, val_main_v9_apply, val_main_v9_apply]
  show IntOp.cmpi .slt (BitVec.ofNat 32 (i 1).val) (BitVec.ofNat 32 (i 0).val) = _
  have hT := T.isLt
  have hs := s.isLt
  rw [h0, h1, WordCmp.cmpi_slt_ofNat (by show _ < 2 ^ 31; omega) (by show _ < 2 ^ 31; omega)]
  by_cases g : s.val < T.val
  · rw [if_pos g, decide_eq_true g]; rfl
  · rw [if_neg g, decide_eq_false g]; rfl

theorem select_lt (x y : EReal) (p : BitVec 1) (hp : p = if s.val < T.val then 1#1 else 0#1) : Scalar.select p x y = if s.val < T.val then x else y := by
  subst hp
  by_cases g : s.val < T.val
  · rw [if_pos g, if_pos g]; rfl
  · rw [if_neg g, if_neg g]; rfl

include hX in
theorem v21_real : val_main_v21 (F := Ideal) X (ix4 b h T s) = ((-take (sc X b h T) T s : ℝ) : EReal) := by
  rw [val_main_v21_apply, select_lt T s _ _ _ ((val_main_call2_v1_apply _).trans (v17_apply T s _ rfl rfl)), v20_real X hX, val_main_call2_v2_apply, val_main_call2_v0_apply]
  unfold take
  by_cases g : s.val < T.val
  · rw [if_pos g, if_pos g]
  · rw [if_neg g, if_neg g, neg_zero, EReal.coe_zero]
    exact Ideal.ofBits_zero_f32

include hX in
theorem v22_real : val_main_v22 (F := Ideal) X (ix4 b h T s) = ((∑ j ∈ Finset.Ico s.val 4096, -take (sc X b h T) T j : ℝ) : EReal) := by
  unfold val_main_v22
  refine cumsum_apply (val_main_v21 (F := Ideal) X) (val_main_call3_v0 (F := Ideal)) (fun i => ?_) b h T s (fun j => -take (sc X b h T) T j) (fun j => v21_real X hX b h T j)
  rw [val_main_call3_v0_apply, val_main_call3_cst_apply]
  exact Ideal.ofBits_zero_f32

include hX in
theorem v26_real : val_main_v26 (F := Ideal) X (ix4 b h T s) = ((weight (sc X b h T) T s : ℝ) : EReal) := by
  rw [val_main_v26_apply, select_lt T s _ _ _ ((val_main_call4_v1_apply _).trans (v17_apply T s _ rfl rfl)), val_main_v25_apply, val_main_v24_apply, val_main_v23_apply,
    v18_real X hX, v22_real X hX, v21_real X hX, val_main_call4_v2_apply, val_main_call4_v0_apply]
  unfold weight
  by_cases g : s.val < T.val
  · rw [if_pos g, if_pos g]
    show Ideal.exp (((sc X b h T s - softplus (sc X b h T s) : ℝ) : EReal) + (((∑ j ∈ Finset.Ico s.val 4096, -take (sc X b h T) T j : ℝ) : EReal) - ((-take (sc X b h T) T s : ℝ) : EReal))) = _
    have ht : take (sc X b h T) T s = softplus (sc X b h T s) := if_pos g
    rw [← EReal.coe_sub, ← EReal.coe_add, Ideal.exp_coe, Finset.sum_neg_distrib, sum_take _ _ _ _ g T.isLt.le, ht]
    congr 2
    ring
  · rw [if_neg g, if_neg g, EReal.coe_zero]
    exact Ideal.ofBits_zero_f32

end weights

/-- The reference's result at an index. -/
theorem result_apply (hX : Finite X) (i : S4x4096x1024.Idx) :
    val_main_v30 (F := Ideal) X i = attended X (i 0).val ((i 2).val / 128) (i 1).val ((i 2).val % 128) := by
  have h0 : (i 0).val < 4 := (i 0).isLt
  have h1 : (i 1).val < 4096 := (i 1).isLt
  have h2 : (i 2).val < 1024 := (i 2).isLt
  rw [val_main_v30_apply]
  show val_main_v29 (F := Ideal) X i = _
  rw [val_main_v29_apply, val_main_v28_apply, val_main_v27_apply]
  have ei : (idx_main_v28 (idx_main_v29 i) : S4x8x4096x128.Idx)
      = ix4 (⟨(i 0).val, h0⟩ : Fin 4) (⟨(i 2).val / 128, by omega⟩ : Fin 8) (⟨(i 1).val, h1⟩ : Fin 4096) (⟨(i 2).val % 128, Nat.mod_lt _ (by decide)⟩ : Fin 128) := by
    funext a
    match a with
    | ⟨0, _⟩ => apply Fin.ext; show (((i 0).val * 4096 + (i 1).val) * 1024 + (i 2).val) / 4194304 = (i 0).val; omega
    | ⟨1, _⟩ => apply Fin.ext; show (((i 0).val * 4096 + (i 1).val) * 1024 + (i 2).val) / 128 % 8 = (i 2).val / 128; omega
    | ⟨2, _⟩ => apply Fin.ext; show (((i 0).val * 4096 + (i 1).val) * 1024 + (i 2).val) / 1024 % 4096 = (i 1).val; omega
    | ⟨3, _⟩ => apply Fin.ext; show (((i 0).val * 4096 + (i 1).val) * 1024 + (i 2).val) % 128 = (i 2).val % 128; omega
  rw [ei]
  unfold attended
  rw [← Fin.sum_univ_eq_sum_range (fun j => ((weight (zed (fun t d => (total X (i 0).val t ((i 2).val / 128 * 128 + d)).toReal)
    (fun s d => (total X (i 0).val s (1024 + ((i 2).val / 128 * 128 + d))).toReal) (i 1).val) (i 1).val j : ℝ) : EReal)
      * total X (i 0).val j (2048 + ((i 2).val / 128 * 128 + (i 2).val % 128)))]
  refine Finset.sum_congr rfl fun k _ => ?_
  have l : lidx_main_v27 (ix4 (⟨(i 0).val, h0⟩ : Fin 4) (⟨(i 2).val / 128, by omega⟩ : Fin 8) (⟨(i 1).val, h1⟩ : Fin 4096) (⟨(i 2).val % 128, Nat.mod_lt _ (by decide)⟩ : Fin 128)) k
    = ix4 (⟨(i 0).val, h0⟩ : Fin 4) (⟨(i 2).val / 128, by omega⟩ : Fin 8) (⟨(i 1).val, h1⟩ : Fin 4096) k := eq_ix4 _
  have r : ridx_main_v27 (ix4 (⟨(i 0).val, h0⟩ : Fin 4) (⟨(i 2).val / 128, by omega⟩ : Fin 8) (⟨(i 1).val, h1⟩ : Fin 4096) (⟨(i 2).val % 128, Nat.mod_lt _ (by decide)⟩ : Fin 128)) k
    = ix4 (⟨(i 0).val, h0⟩ : Fin 4) (⟨(i 2).val / 128, by omega⟩ : Fin 8) k (⟨(i 2).val % 128, Nat.mod_lt _ (by decide)⟩ : Fin 128) := eq_ix4 _
  rw [l, r, v26_real X hX, v8_apply]

end Cert.Proof.RefRead
-- ==== Proof.Algebraic.lean ====
/-
  The kernel's result and the reference's, equal element by element over the extended reals.
-/
module

public import proofs.«01_k».proof.Defs
public import proofs.«01_k».proof.Proof.ValueIdeal
public import proofs.«01_k».proof.Proof.Attn
public import proofs.«01_k».proof.Proof.RefRead
public import proofs.«01_k».proof.Proof.Claims

@[expose] public section

set_option maxRecDepth 8192

noncomputable section

namespace Cert.Proof.KernelIdeal

open Cert.KernelIdeal Cert.KernelIdeal.Gen Cert.Proof.Weights
open Idealize.ShloMosaic hiding ix0 ix1 ix2 ix3 ix4 ix5
open Idealize.ShloMosaic.ValueIdx
open Idealize.SL.Sem
open scoped BigOperators

variable (m : (ℓ : Loc nD τ sig) → Buf (Elt Ideal) ℓ)

/-- The projection as the run found it. -/
abbrev arg (c : Dev nD) : (⟨3, ![4, 4096, 10240]⟩ : Shape).Idx → EReal := m ((c.tc : Thread nD τ).loc main_arg0)

theorem V_proj (c : Dev nD) (i : S4x4096x10240.Idx) : V m c main_v0 i = arg m c i := by
  have h : V m c main_v0 = (fun i => arg m c i : S4x4096x10240.Idx → EReal) := by
    simp only [V, hostOps0]
    after_results_simp
    all_goals rfl
  exact congrFun h i

theorem proj_total (c : Dev nD) (b : Fin 4) (r : Fin 4096) (l : Fin 10240) (b' r' l' : ℕ) (hb : b.val = b') (hr : r.val = r') (hl : l.val = l') :
    proj m c b r l = total (arg m c) b' r' l' := by
  subst hb hr hl
  exact (V_proj m c (ix3 b r l)).trans (RefRead.total_apply (arg m c) _ _ _ (ix3 b r l) rfl rfl rfl)

theorem result_apply (c : Dev nD) (hX : Finite (arg m c)) (i : S4x4096x1024.Idx) :
    result m c i = attended (arg m c) (i 0).val ((i 2).val / 128) (i 1).val ((i 2).val % 128) := by
  obtain ⟨p0, p1, p2⟩ := point_val i
  have h0 : (i 0).val < 4 := (i 0).isLt
  have h1 : (i 1).val < 4096 := (i 1).isLt
  have h2 : (i 2).val < 1024 := (i 2).isLt
  unfold result
  generalize pointOf i = t at p0 p1 p2 ⊢
  unfold left heads
  show outN (t.val % 16) (iblk m c 0 t) (iblk m c 1 t) (turned (iblk m c 2 t)) ⟨(i 2).val % 512 / 128, by omega⟩
    (ix3 0 (⟨(i 1).val % 256, Nat.mod_lt _ (by decide)⟩ : Fin 256) (⟨(i 2).val % 512 % 128, Nat.mod_lt _ (by decide)⟩ : Fin 128)) = _
  have hg : (i 2).val % 512 / 128 < 4 := by omega
  have hh : t.val / 16 % 2 * 512 + 128 * ((i 2).val % 512 / 128) = (i 2).val / 128 * 128 := by omega
  have key := outN_real (t.val % 16) (by omega) (iblk m c 0 t) (iblk m c 1 t) (turned (iblk m c 2 t)) ⟨(i 2).val % 512 / 128, hg⟩
    (fun T d => (total (arg m c) (i 0).val T ((i 2).val / 128 * 128 + d)).toReal)
    (fun s d => (total (arg m c) (i 0).val s (1024 + ((i 2).val / 128 * 128 + d))).toReal)
    (fun s d => total (arg m c) (i 0).val s (2048 + ((i 2).val / 128 * 128 + d)))
    (fun T d => by
      have hT := T.isLt
      have hd := d.isLt
      refine Eq.trans ?_ (hX _ _ _ (by omega))
      unfold cols
      refine (iblk_0 m c t _).trans (proj_total m c _ _ _ _ _ _ p0 ?_ ?_)
      · show t.val % 16 * 256 + T.val = 256 * (t.val % 16) + T.val; omega
      · show t.val / 16 % 2 * 512 + (128 * ((i 2).val % 512 / 128) + d.val) % 512 = (i 2).val / 128 * 128 + d.val; omega)
    (fun n hn r d => by
      have hr := r.isLt
      have hd := d.isLt
      refine Eq.trans ?_ (hX _ _ _ (by omega))
      unfold rows
      refine (iblk_1 m c t _).trans (proj_total m c _ _ _ _ _ _ p0 ?_ ?_)
      · show (256 * n + r.val) % 4096 = 256 * n + r.val; omega
      · show 1024 + t.val / 16 % 2 * 512 + (128 * ((i 2).val % 512 / 128) + d.val) % 512 = 1024 + ((i 2).val / 128 * 128 + d.val); omega)
    (fun n hn d r => by
      have hr := r.isLt
      have hd := d.isLt
      rw [lanes_turned _ _ _ hn hg]
      unfold fill
      rw [pay3_apply]
      unfold rows
      refine (iblk_2 m c t _).trans (proj_total m c _ _ _ _ _ _ p0 ?_ ?_)
      · show (256 * n + r.val) % 4096 = 256 * n + r.val; omega
      · show 2048 + t.val / 16 % 2 * 512 + (128 * ((i 2).val % 512 / 128) + d.val) % 512 = 2048 + ((i 2).val / 128 * 128 + d.val); omega)
    (⟨(i 1).val % 256, Nat.mod_lt _ (by decide)⟩ : Fin 256) (⟨(i 2).val % 512 % 128, Nat.mod_lt _ (by decide)⟩ : Fin 128)
  refine key.trans ?_
  have e1 : 256 * (t.val % 16) + (i 1).val % 256 = (i 1).val := by omega
  have e2 : (i 2).val % 512 % 128 = (i 2).val % 128 := by omega
  dsimp only
  rw [e1, e2]
  rfl

end Cert.Proof.KernelIdeal

namespace Cert.Proof

open Idealize.ShloMosaic Idealize.SL.Sem
open Cert.Proof.Weights

instance facts_finite : Cert.Pre_finite.Facts := ⟨by decide, by decide⟩

theorem inf_bits : Ideal.ofBits .f32 0x7F800000#32 = (⊤ : EReal) := by
  simp [Ideal.ofBits, Ideal.ieee]

/-- Where the precondition holds, the queries and the keys are real numbers. -/
theorem finite_of_pre (X : FVec Ideal Cert.Pre_finite.S4x4096x10240 .f32) (h : Cert.Pre_finite.fn (F := Ideal) X = fun _ => 1#1) : Finite X := by
  intro b s l hl
  unfold total
  split
  · next g =>
    have e := congrFun h (ValueIdx.ix3 (⟨b, g.1⟩ : Fin 4) (⟨s, g.2.1⟩ : Fin 4096) (⟨l, hl⟩ : Fin 2048))
    have hx : X (fun a => ⟨(![0, 0, 0] : Fin 3 → ℕ) a + ((ValueIdx.ix3 (⟨b, g.1⟩ : Fin 4) (⟨s, g.2.1⟩ : Fin 4096) (⟨l, hl⟩ : Fin 2048) : Cert.Pre_finite.S4x4096x2048.Idx) a).val,
        by match a with
          | ⟨0, _⟩ => show 0 + b < 4; omega
          | ⟨1, _⟩ => show 0 + s < 4096; omega
          | ⟨2, _⟩ => show 0 + l < 10240; omega⟩)
        = X (ValueIdx.ix3 ⟨b, g.1⟩ ⟨s, g.2.1⟩ ⟨l, g.2.2⟩) := by
      refine congrArg X (funext fun a => Fin.ext ?_)
      match a with
      | ⟨0, _⟩ => show 0 + b = b; omega
      | ⟨1, _⟩ => show 0 + s = s; omega
      | ⟨2, _⟩ => show 0 + l = l; omega
    generalize X (ValueIdx.ix3 ⟨b, g.1⟩ ⟨s, g.2.1⟩ ⟨l, g.2.2⟩) = x at hx ⊢
    have e' : BitVec.ofBool (decide (max x (-x) < Ideal.ofBits .f32 0x7F800000#32)) = 1#1 := by
      rw [← hx]; exact e
    rw [inf_bits] at e'
    have lt : max x (-x) < ⊤ := by
      by_contra hc
      rw [decide_eq_false hc] at e'
      exact absurd e' (by decide)
    refine (EReal.coe_toReal ?_ ?_).symm
    · exact ((le_max_left _ _).trans_lt lt).ne
    · rintro rfl
      rw [EReal.neg_bot, max_eq_right bot_le] at lt
      exact lt.ne rfl
  · rfl

theorem frame_ki_pre : Cert.quiescent_KernelIdeal_pre_finite := fun m ρ _ => Cert.Proof.KernelIdeal.frame m ρ

theorem frame_ri_pre : Cert.quiescent_ReferenceIdeal_pre_finite := fun m ρ _ => frame_ri m ρ trivial

theorem algebraic : Cert.algebraic_KernelIdeal_ReferenceIdeal_pre_finite := fun m g m' g' hpre hargs =>
  ⟨fun c => KernelIdeal.result m c,
   (θ_run Cert.KernelIdeal.defs _ _).mono (fun _ h => h.1) (KernelIdeal.run_result m g),
   (θ_run Cert.ReferenceIdeal.defs _ _).mono (fun r h c => ⟨by
      refine (h c).1.trans ((Cert.ReferenceIdeal.Read.val_main_v30_eq m' c).trans (funext fun i => ?_))
      have hX := finite_of_pre _ (hpre c)
      rw [hargs c]
      exact (RefRead.result_apply _ hX i).trans (KernelIdeal.result_apply m c hX i).symm, (h c).2⟩) (Cert.ReferenceIdeal.Value.run m' g')⟩

end Cert.Proof

end
-- ==== Proof.Arrays.lean ====
/-
  Arrays of extended reals read at natural numbers, zero outside them: two readings of one element agree as soon as their
  coordinates do as numbers.
-/
module

public import Idealize.ShloMosaic.PureOps.Ideal.Laws
public import Idealize.ShloMosaic.Lib.ValueIdx
public import Idealize.ShloMosaic.Lib.Layout
public import Idealize.ShloMosaic.Lib.Pipeline.Value

@[expose] public section

noncomputable section

namespace Cert.Proof.Arrays

open Idealize.ShloMosaic Idealize.ShloMosaic.ValueIdx
open scoped BigOperators

def at1 {A : ℕ} (W : (⟨1, ![A]⟩ : Shape).Idx → EReal) (a : ℕ) : EReal := if h : a < A then W (ix1 ⟨a, h⟩) else 0
def at2 {A B : ℕ} (W : (⟨2, ![A, B]⟩ : Shape).Idx → EReal) (a b : ℕ) : EReal := if h : a < A ∧ b < B then W (ix2 ⟨a, h.1⟩ ⟨b, h.2⟩) else 0
def at3 {A B C : ℕ} (W : (⟨3, ![A, B, C]⟩ : Shape).Idx → EReal) (a b c : ℕ) : EReal :=
  if h : a < A ∧ b < B ∧ c < C then W (ix3 ⟨a, h.1⟩ ⟨b, h.2.1⟩ ⟨c, h.2.2⟩) else 0

theorem eq_at1 {A : ℕ} (W : (⟨1, ![A]⟩ : Shape).Idx → EReal) (i : (⟨1, ![A]⟩ : Shape).Idx) (a : ℕ) (h0 : (i 0).val = a) : W i = at1 W a := by
  subst h0
  have g0 : (i 0).val < A := (i 0).isLt
  unfold at1
  rw [dif_pos g0]
  exact congrArg W (eq_ix1 i)

theorem eq_at2 {A B : ℕ} (W : (⟨2, ![A, B]⟩ : Shape).Idx → EReal) (i : (⟨2, ![A, B]⟩ : Shape).Idx) (a b : ℕ) (h0 : (i 0).val = a) (h1 : (i 1).val = b) :
    W i = at2 W a b := by
  subst h0 h1
  have g0 : (i 0).val < A := (i 0).isLt
  have g1 : (i 1).val < B := (i 1).isLt
  unfold at2
  rw [dif_pos ⟨g0, g1⟩]
  exact congrArg W (eq_ix2 i)

theorem eq_at3 {A B C : ℕ} (W : (⟨3, ![A, B, C]⟩ : Shape).Idx → EReal) (i : (⟨3, ![A, B, C]⟩ : Shape).Idx) (a b c : ℕ) (h0 : (i 0).val = a) (h1 : (i 1).val = b)
    (h2 : (i 2).val = c) : W i = at3 W a b c := by
  subst h0 h1 h2
  have g0 : (i 0).val < A := (i 0).isLt
  have g1 : (i 1).val < B := (i 1).isLt
  have g2 : (i 2).val < C := (i 2).isLt
  unfold at3
  rw [dif_pos ⟨g0, g1, g2⟩]
  exact congrArg W (eq_ix3 i)

/-- A sum over an axis, over the numbers below its length. -/
theorem sum_axis {n : ℕ} (f : Fin n → EReal) (g : ℕ → EReal) (h : ∀ k : Fin n, f k = g k.val) : ∑ k : Fin n, f k = ∑ k ∈ Finset.range n, g k :=
  (Finset.sum_congr rfl fun k _ => h k).trans (Fin.sum_univ_eq_sum_range g n)

/-- A sum by blocks of `B`. -/
theorem sum_blocks (g : ℕ → EReal) (B n : ℕ) : ∑ s ∈ Finset.range n, ∑ f ∈ Finset.range B, g (B * s + f) = ∑ k ∈ Finset.range (B * n), g k := by
  induction n with
  | zero => simp
  | succ n ih => rw [Finset.sum_range_succ, ih, Nat.mul_succ, Finset.sum_range_add]

/-- Rows of a batch laid one under the other. -/
theorem rows_apply {D : ℕ} (X : (⟨3, ![4, 4096, D]⟩ : Shape).Idx → EReal) (h : (⟨3, ![4, 4096, D]⟩ : Shape).ShapeCasts ⟨2, ![16384, D]⟩)
    (i : (⟨2, ![16384, D]⟩ : Shape).Idx) : shapeCast ⟨2, ![16384, D]⟩ X h i = at3 X ((i 0).val / 4096) ((i 0).val % 4096) (i 1).val := by
  have g0 : (i 0).val < 16384 := (i 0).isLt
  have g1 : (i 1).val < D := (i 1).isLt
  have e := shapeCast_apply X h i (ix3 (⟨(i 0).val / 4096, by omega⟩ : Fin 4) (⟨(i 0).val % 4096, Nat.mod_lt _ (by decide)⟩ : Fin 4096) (⟨(i 1).val, g1⟩ : Fin D)) (by
    rewrite [Shape.rowMajor_val_three, Shape.rowMajor_val_two]
    show ((i 0).val / 4096 * 4096 + (i 0).val % 4096) * D + (i 1).val = (i 0).val * D + (i 1).val
    rw [Nat.div_add_mod'])
  exact e.trans (eq_at3 X _ _ _ _ rfl rfl rfl)

/-- A vector laid as one row. -/
theorem row_apply {D : ℕ} (X : (⟨1, ![D]⟩ : Shape).Idx → EReal) (h : (⟨1, ![D]⟩ : Shape).ShapeCasts ⟨2, ![1, D]⟩)
    (i : (⟨2, ![1, D]⟩ : Shape).Idx) : shapeCast ⟨2, ![1, D]⟩ X h i = at1 X (i 1).val := by
  have g0 : (i 0).val < 1 := (i 0).isLt
  have g1 : (i 1).val < D := (i 1).isLt
  have e := shapeCast_apply X h i (ix1 (⟨(i 1).val, g1⟩ : Fin D)) (by
    rewrite [Shape.rowMajor_val_one, Shape.rowMajor_val_two]
    show (i 1).val = (i 0).val * D + (i 1).val
    rw [show (i 0).val = 0 by omega]; omega)
  exact e.trans (eq_at1 X _ _ rfl)

end Cert.Proof.Arrays

end
-- ==== Proof.Ffn.lean ====
/-
  The feed-forward call against reference.py's SwiGLU and its residual.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Arrays
public import Idealize.ShloMosaic.Lib.Pointwise
public import Idealize.ShloMosaic.Lib.Pointwise.IndexBridge

@[expose] public section

set_option maxRecDepth 8192

noncomputable section

namespace Cert.Proof.Ffn

open Cert.Proof.Arrays
open Idealize.ShloMosaic hiding ix0 ix1 ix2 ix3 ix4 ix5
open Idealize.ShloMosaic.ValueIdx
open Idealize.SL.Sem
open scoped BigOperators

abbrev Tok : Shape := ⟨3, ![4, 4096, 2048]⟩
abbrev Up : Shape := ⟨2, ![2048, 5632]⟩
abbrev Down : Shape := ⟨2, ![5632, 2048]⟩

/-- One product of a token with a column of a weight. -/
def lin (X : Tok.Idx → EReal) (W : Up.Idx → EReal) (b s f : ℕ) : EReal := ∑ k ∈ Finset.range 2048, at3 X b s k * at2 W k f

/-- One hidden unit. -/
def hid (X : Tok.Idx → EReal) (G U : Up.Idx → EReal) (b s f : ℕ) : EReal := lin X G b s f * Ideal.logistic (lin X G b s f) * lin X U b s f

/-- One element of the result. -/
def out (X H : Tok.Idx → EReal) (G U : Up.Idx → EReal) (D : Down.Idx → EReal) (b s d : ℕ) : EReal :=
  at3 H b s d + ∑ f ∈ Finset.range 5632, hid X G U b s f * at2 D f d

section reference

open Cert.Reference2Ideal Cert.Reference2Ideal.Gen Cert.Reference2Ideal.Read

variable (X H : (⟨S4x4096x2048, .f32⟩ : BufTy).Contents (Elt Ideal)) (G U : (⟨S2048x5632, .f32⟩ : BufTy).Contents (Elt Ideal))
  (D : (⟨S5632x2048, .f32⟩ : BufTy).Contents (Elt Ideal))

theorem ref_v0 (i : S4x4096x5632.Idx) : val_main_v0 (F := Ideal) X G i = lin X G (i 0).val (i 1).val (i 2).val := by
  rw [val_main_v0_apply]
  exact sum_axis _ _ fun k => congrArg₂ (· * ·) (eq_at3 X _ _ _ _ rfl rfl rfl) (eq_at2 G _ _ _ rfl rfl)

theorem ref_v2 (i : S4x4096x5632.Idx) : val_main_v2 (F := Ideal) X U i = lin X U (i 0).val (i 1).val (i 2).val := by
  rw [val_main_v2_apply]
  exact sum_axis _ _ fun k => congrArg₂ (· * ·) (eq_at3 X _ _ _ _ rfl rfl rfl) (eq_at2 U _ _ _ rfl rfl)

theorem ref_v3 (i : S4x4096x5632.Idx) : val_main_v3 (F := Ideal) X G U i = hid X G U (i 0).val (i 1).val (i 2).val := by
  rw [val_main_v3_apply, val_main_v1_apply, val_main_call0_v5_apply, val_main_call0_v4_apply, val_main_call0_cst_0_apply, val_main_call0_v3_apply,
    val_main_call0_v2_apply, val_main_call0_cst_apply, val_main_call0_v1_apply, val_main_call0_v0_apply, ref_v0, ref_v2]
  show _ * Ideal.div (Ideal.ofBits .f32 0x3F800000#32) (Ideal.ofBits .f32 0x3F800000#32 + Ideal.exp (-_)) * _ = _
  rw [Ideal.ofBits_one_f32]
  rfl

theorem ref_apply (i : S16384x2048.Idx) : val_main_v6 (F := Ideal) X H G U D i = out X H G U D ((i 0).val / 4096) ((i 0).val % 4096) (i 1).val := by
  have h0 : (i 0).val < 16384 := (i 0).isLt
  have h1 : (i 1).val < 2048 := (i 1).isLt
  rw [val_main_v6_apply, val_main_v5_apply, val_main_v4_apply]
  have e0 : ((i 0).val * 2048 + (i 1).val) / 8388608 = (i 0).val / 4096 := by omega
  have e1 : ((i 0).val * 2048 + (i 1).val) / 2048 % 4096 = (i 0).val % 4096 := by omega
  have e2 : ((i 0).val * 2048 + (i 1).val) % 2048 = (i 1).val := by omega
  refine congrArg₂ (· + ·) (eq_at3 H _ _ _ _ e0 e1 e2) (sum_axis _ _ fun k => congrArg₂ (· * ·) ((ref_v3 X G U _).trans ?_) (eq_at2 D _ _ _ rfl e2))
  show hid X G U (((i 0).val * 2048 + (i 1).val) / 8388608) (((i 0).val * 2048 + (i 1).val) / 2048 % 4096) k.val = _
  rw [e0, e1]

end reference

section kernel

open Cert.Kernel2Ideal Cert.Kernel2Ideal.Gen

variable (m : (ℓ : Loc nD τ sig) → Buf (Elt Ideal) ℓ) (c : Dev nD)

abbrev argX : Tok.Idx → EReal := m ((c.tc : Thread nD τ).loc main_arg0)
abbrev argH : Tok.Idx → EReal := m ((c.tc : Thread nD τ).loc main_arg1)
abbrev argG : Up.Idx → EReal := m ((c.tc : Thread nD τ).loc main_arg2)
abbrev argU : Up.Idx → EReal := m ((c.tc : Thread nD τ).loc main_arg3)
abbrev argD : Down.Idx → EReal := m ((c.tc : Thread nD τ).loc main_arg4)

theorem V_1 (i : S16384x2048.Idx) : V m c main_v1 i = at3 (argX m c) ((i 0).val / 4096) ((i 0).val % 4096) (i 1).val := by
  have h : V m c main_v1 = (shapeCast S16384x2048 (argX m c) shapeCasts_S4x4096x2048_S16384x2048 : S16384x2048.Idx → EReal) := by
    simp only [V, hostOps0]
    after_results_simp
    all_goals rfl
  exact (congrFun h i).trans (rows_apply _ _ i)

theorem V_2 (i : S16384x2048.Idx) : V m c main_v2 i = at3 (argH m c) ((i 0).val / 4096) ((i 0).val % 4096) (i 1).val := by
  have h : V m c main_v2 = (shapeCast S16384x2048 (argH m c) shapeCasts_S4x4096x2048_S16384x2048 : S16384x2048.Idx → EReal) := by
    simp only [V, hostOps0]
    after_results_simp
    all_goals rfl
  exact (congrFun h i).trans (rows_apply _ _ i)

theorem V_3 : V m c main_v3 = argG m c := by
  simp only [V, hostOps0]
  after_results_simp
  all_goals rfl

theorem V_4 : V m c main_v4 = argU m c := by
  simp only [V, hostOps0]
  after_results_simp
  all_goals rfl

theorem V_5 : V m c main_v5 = argD m c := by
  simp only [V, hostOps0]
  after_results_simp
  all_goals rfl

theorem index_0 : ∀ t : Fin cfg0.N, win0_0.index t 0 = t.val / 11 ∧ win0_0.index t 1 = 0 := (by decide +kernel : ∀ t : Fin grid0.N, _ ∧ _)
theorem index_1 : ∀ t : Fin cfg0.N, win0_1.index t 0 = t.val / 11 ∧ win0_1.index t 1 = 0 := (by decide +kernel : ∀ t : Fin grid0.N, _ ∧ _)
theorem index_2 : ∀ t : Fin cfg0.N, win0_2.index t 0 = 0 ∧ win0_2.index t 1 = t.val % 11 := (by decide +kernel : ∀ t : Fin grid0.N, _ ∧ _)
theorem index_3 : ∀ t : Fin cfg0.N, win0_3.index t 0 = 0 ∧ win0_3.index t 1 = t.val % 11 := (by decide +kernel : ∀ t : Fin grid0.N, _ ∧ _)
theorem index_4 : ∀ t : Fin cfg0.N, win0_4.index t 0 = t.val % 11 ∧ win0_4.index t 1 = 0 := (by decide +kernel : ∀ t : Fin grid0.N, _ ∧ _)

/-- The token of a row of a point's block. -/
abbrev tok (t r : ℕ) : ℕ := t / 11 * 512 + r

theorem iblk_0 (t : Fin cfg0.N) (x : S512x2048.Idx) : iblk m c 0 t x = at3 (argX m c) (tok t.val (x 0).val / 4096) (tok t.val (x 0).val % 4096) (x 1).val := by
  unfold iblk
  rw [View.read_apply]
  refine (V_1 m c _).trans ?_
  have e0 : ((((cfg0.win 0).blk t).view.emb x : S16384x2048.Idx) 0).val = tok t.val (x 0).val := by
    show win0_0.index t 0 * 512 + 1 * (x 0).val = t.val / 11 * 512 + (x 0).val; rw [(index_0 t).1]; omega
  have e1 : ((((cfg0.win 0).blk t).view.emb x : S16384x2048.Idx) 1).val = (x 1).val := by
    show win0_0.index t 1 * 2048 + 1 * (x 1).val = _; rw [(index_0 t).2]; omega
  rw [e0, e1]

theorem iblk_1 (t : Fin cfg0.N) (x : S512x2048.Idx) : iblk m c 1 t x = at3 (argH m c) (tok t.val (x 0).val / 4096) (tok t.val (x 0).val % 4096) (x 1).val := by
  unfold iblk
  rw [View.read_apply]
  refine (V_2 m c _).trans ?_
  have e0 : ((((cfg0.win 1).blk t).view.emb x : S16384x2048.Idx) 0).val = tok t.val (x 0).val := by
    show win0_1.index t 0 * 512 + 1 * (x 0).val = t.val / 11 * 512 + (x 0).val; rw [(index_1 t).1]; omega
  have e1 : ((((cfg0.win 1).blk t).view.emb x : S16384x2048.Idx) 1).val = (x 1).val := by
    show win0_1.index t 1 * 2048 + 1 * (x 1).val = _; rw [(index_1 t).2]; omega
  rw [e0, e1]

theorem iblk_2 (t : Fin cfg0.N) (x : S2048x512.Idx) : iblk m c 2 t x = at2 (argG m c) (x 0).val (512 * (t.val % 11) + (x 1).val) := by
  unfold iblk
  rw [View.read_apply]
  refine (congrFun (V_3 m c) _).trans (eq_at2 _ _ _ _ ?_ ?_)
  · show win0_2.index t 0 * 2048 + 1 * (x 0).val = _; rw [(index_2 t).1]; omega
  · show win0_2.index t 1 * 512 + 1 * (x 1).val = _; rw [(index_2 t).2]; omega

theorem iblk_3 (t : Fin cfg0.N) (x : S2048x512.Idx) : iblk m c 3 t x = at2 (argU m c) (x 0).val (512 * (t.val % 11) + (x 1).val) := by
  unfold iblk
  rw [View.read_apply]
  refine (congrFun (V_4 m c) _).trans (eq_at2 _ _ _ _ ?_ ?_)
  · show win0_3.index t 0 * 2048 + 1 * (x 0).val = _; rw [(index_3 t).1]; omega
  · show win0_3.index t 1 * 512 + 1 * (x 1).val = _; rw [(index_3 t).2]; omega

theorem iblk_4 (t : Fin cfg0.N) (x : S512x2048.Idx) : iblk m c 4 t x = at2 (argD m c) (512 * (t.val % 11) + (x 0).val) (x 1).val := by
  unfold iblk
  rw [View.read_apply]
  refine (congrFun (V_5 m c) _).trans (eq_at2 _ _ _ _ ?_ ?_)
  · show win0_4.index t 0 * 512 + 1 * (x 0).val = _; rw [(index_4 t).1]; omega
  · show win0_4.index t 1 * 2048 + 1 * (x 1).val = _; rw [(index_4 t).2]; omega

/-- One of a block's products of tokens with columns. -/
abbrev dots (x : Vec Ideal S512x2048 .bf16) (w : Vec Ideal S2048x512 .bf16) (t f : Fin 512) : EReal := ∑ k : Fin 2048, x (ix2 t k) * w (ix2 k f)

theorem pay1_apply (h : Vec Ideal S512x2048 .f32) : k0_pay1 h = h := by
  unfold k0_pay1
  exact shapeCast_self ..

theorem pay2_apply (x : Vec Ideal S512x2048 .bf16) (g u : Vec Ideal S2048x512 .bf16) (a : Vec Ideal S512x2048 .f32) (w : Vec Ideal S512x2048 .bf16)
    (t : Fin 512) (d : Fin 2048) : k0_pay2 x g u a w (ix2 t d)
      = a (ix2 t d) + ∑ f : Fin 512, dots x g t f * Ideal.logistic (dots x g t f) * dots x u t f * w (ix2 f d) := by
  unfold k0_pay2
  pointwise
  simp only [ix2_eq_valueIdx]
  try rfl

/-- What one point adds to its rows' sums. -/
def part (n : ℕ) (y : S512x2048.Idx) : EReal :=
  ∑ f ∈ Finset.range 512, hid (argX m c) (argG m c) (argU m c) (tok n (y 0).val / 4096) (tok n (y 0).val % 4096) (512 * (n % 11) + f)
    * at2 (argD m c) (512 * (n % 11) + f) (y 1).val

theorem point_apply (n : ℕ) (h : n < cfg0.N) (a : Vec Ideal S512x2048 .f32) (y : S512x2048.Idx) :
    k0_pay2 (iblk m c 0 ⟨n, h⟩) (iblk m c 2 ⟨n, h⟩) (iblk m c 3 ⟨n, h⟩) a (iblk m c 4 ⟨n, h⟩) y = a y + part m c n y := by
  refine (congrArg _ (ValueIdx.eq_ix2 y)).trans ?_
  refine (pay2_apply _ _ _ _ _ _ _).trans (congrArg₂ (· + ·) (congrArg a (ValueIdx.eq_ix2 y).symm) (sum_axis _ _ fun f => ?_))
  have dg : dots (iblk m c 0 ⟨n, h⟩) (iblk m c 2 ⟨n, h⟩) (y 0) f
      = lin (argX m c) (argG m c) (tok n (y 0).val / 4096) (tok n (y 0).val % 4096) (512 * (n % 11) + f.val) :=
    sum_axis _ _ fun k => congrArg₂ (· * ·) (iblk_0 m c ⟨n, h⟩ _) (iblk_2 m c ⟨n, h⟩ _)
  have du : dots (iblk m c 0 ⟨n, h⟩) (iblk m c 3 ⟨n, h⟩) (y 0) f
      = lin (argX m c) (argU m c) (tok n (y 0).val / 4096) (tok n (y 0).val % 4096) (512 * (n % 11) + f.val) :=
    sum_axis _ _ fun k => congrArg₂ (· * ·) (iblk_0 m c ⟨n, h⟩ _) (iblk_3 m c ⟨n, h⟩ _)
  rw [dg, du, iblk_4 m c ⟨n, h⟩]
  rfl

theorem result_apply (i : S16384x2048.Idx) : Value.G5 m c i
    = out (argX m c) (argH m c) (argG m c) (argU m c) (argD m c) ((i 0).val / 4096) ((i 0).val % 4096) (i 1).val := by
  have h0 : (i 0).val < 16384 := (i 0).isLt
  have h1 : (i 1).val < 2048 := (i 1).isLt
  have hN : cfg0.N = 352 := N_0
  have hr : Value.run5Of i = (i 0).val / 512 := by show 1 * ((i 0).val / 512 - 0) + 1 * ((i 1).val / 2048 - 0) = _; omega
  unfold Value.G5
  rw [dif_pos (by rw [hr, hN]; omega)]
  have hb : 11 * Value.run5Of i < cfg0.N := by rw [hr, hN]; omega
  rw [Pipeline.accAt_add_apply (Value.reset5 m c) (Value.step5 m c) (iblk m c 1 ⟨11 * Value.run5Of i, hb⟩) (part m c) (11 * Value.run5Of i) 10
    (fun h y => by
      show k0_pay2 (iblk m c 0 ⟨_, h⟩) (iblk m c 2 ⟨_, h⟩) (iblk m c 3 ⟨_, h⟩) (k0_pay1 (iblk m c 1 ⟨_, h⟩)) (iblk m c 4 ⟨_, h⟩) y = _
      rw [pay1_apply]
      exact point_apply m c _ h _ y)
    (fun n h acc y _ _ => point_apply m c n h acc y) 10 le_rfl _ _]
  have l0 : ((Value.loc5Of i) 0).val = (i 0).val % 512 := rfl
  have l1 : ((Value.loc5Of i) 1).val = (i 1).val := by show (i 1).val % 2048 = _; omega
  have tk : ∀ s, s < 11 → tok (11 * Value.run5Of i + s) ((Value.loc5Of i) 0).val = (i 0).val := by
    intro s hs
    rw [l0, hr]
    show (11 * ((i 0).val / 512) + s) / 11 * 512 + (i 0).val % 512 = _
    omega
  refine congrArg₂ (· + ·) ((iblk_1 m c _ _).trans ?_) ?_
  · have := tk 0 (by omega)
    rw [Nat.add_zero] at this
    dsimp only
    rw [this, Nat.mod_eq_of_lt h1]
  · refine Eq.trans (Finset.sum_congr rfl fun s hs => ?_) (sum_blocks (fun f => hid (argX m c) (argG m c) (argU m c) ((i 0).val / 4096) ((i 0).val % 4096) f
      * at2 (argD m c) f (i 1).val) 512 11)
    have hs' := Finset.mem_range.1 hs
    have em : (11 * Value.run5Of i + s) % 11 = s := by omega
    unfold part
    rw [tk s hs', em, l1]

end kernel

theorem frame_k : Cert.quiescent_Kernel2 := fun m ρ _ => Cert.Kernel2.Gen.frame m ρ
theorem frame_ki : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem algebraic : Cert.algebraic_Kernel2Ideal_Reference2Ideal := fun m g m' g' _ hargs =>
  ⟨fun c => Cert.Kernel2Ideal.Value.G5 m c, Cert.Kernel2Ideal.Value.run m g,
   (θ_run Cert.Reference2Ideal.defs _ _).mono (fun r h c => ⟨by
      refine (h c).1.trans ((Cert.Reference2Ideal.Read.val_main_v6_eq _ _ _ _ _).trans (funext fun i => ?_))
      obtain ⟨a0, a1, a2, a3, a4⟩ := hargs c
      rw [a0, a1, a2, a3, a4]
      exact (ref_apply _ _ _ _ _ i).trans (result_apply m c i).symm, (h c).2⟩) (Cert.Reference2Ideal.Value.run m' g')⟩

end Cert.Proof.Ffn

end
-- ==== Proof.Norm.lean ====
/-
  The root-mean-square norm of a row, and what the calls' proofs share.
-/
module

public import proofs.«01_k».proof.Proof.Arrays
public import Idealize.ShloMosaic.PureOps.Ideal

@[expose] public section

noncomputable section

namespace Cert.Proof.Arrays

open Idealize.ShloMosaic
open scoped BigOperators

/-- One element of the norm of a row `f` of `n` elements, `size` the row's length as a number. -/
def norm (n : ℕ) (size : EReal) (f : ℕ → EReal) (d : ℕ) : EReal :=
  f d * Ideal.rsqrt (Ideal.div (∑ k ∈ Finset.range n, f k * f k) size + Ideal.ofBits .f32 0x358637BD#32)

theorem offsets_zero : (![0, 0] : Fin 2 → Nat) = fun _ => 0 := funext fun a => match a with
  | ⟨0, _⟩ => rfl
  | ⟨1, _⟩ => rfl

end Cert.Proof.Arrays

end
-- ==== Proof.InProjRef.lean ====
/-
  The input projection as arithmetic, and reference.py's lines for it read at an index.
-/
module

public import proofs.«01_k».proof.Defs
public import proofs.«01_k».proof.Proof.Gen.Reference3Ideal
public import proofs.«01_k».proof.Proof.Gen.Reference3Ideal.Run
public import proofs.«01_k».proof.Proof.Gen.Reference3Ideal.Read
public import proofs.«01_k».proof.Proof.Norm
public import Idealize.ShloMosaic.Lib.Pointwise
public import Idealize.ShloMosaic.Lib.Pointwise.IndexBridge

@[expose] public section

set_option maxRecDepth 8192

noncomputable section

namespace Cert.Proof.InProj

open Cert.Proof.Arrays
open Idealize.ShloMosaic hiding ix0 ix1 ix2 ix3 ix4 ix5
open Idealize.ShloMosaic.ValueIdx
open Idealize.SL.Sem
open scoped BigOperators

abbrev Tok : Shape := ⟨3, ![4, 4096, 2048]⟩
abbrev Gain : Shape := ⟨1, ![2048]⟩
abbrev Wt : Shape := ⟨2, ![2048, 10240]⟩
abbrev HGain : Shape := ⟨1, ![128]⟩

/-- One element of the norm of a token. -/
def xn (X : Tok.Idx → EReal) (G : Gain.Idx → EReal) (b s k : ℕ) : EReal := norm 2048 (Ideal.ofBits .f32 0x45000000#32) (at3 X b s) k * at1 G k

/-- One element of the combined projection. -/
def proj (X : Tok.Idx → EReal) (G : Gain.Idx → EReal) (W : Wt.Idx → EReal) (b s e : ℕ) : EReal :=
  ∑ k ∈ Finset.range 2048, xn X G b s k * at2 W k e

/-- One element of the norm of a row by groups of 128 columns, times a gain for each column of a group. -/
def head (f g : ℕ → EReal) (e : ℕ) : EReal := norm 128 (Ideal.ofBits .f32 0x43000000#32) (fun d => f (e / 128 * 128 + d)) (e % 128) * g (e % 128)

/-- One column of the result, of a projected row and the two gains. -/
def cols (p q k : ℕ → EReal) (e : ℕ) : EReal :=
  if e < 3072 then p e else if e < 4096 then head p q e else if e < 5120 then head p k e else if e < 6144 then p e else Ideal.logistic (p e)

/-- One element of the result. -/
def out (X : Tok.Idx → EReal) (G : Gain.Idx → EReal) (W : Wt.Idx → EReal) (Q K : HGain.Idx → EReal) (b s e : ℕ) : EReal :=
  cols (proj X G W b s) (at1 Q) (at1 K) e

/-- The norm of a row cut out of a longer one, at a multiple of the groups' length. -/
theorem head_shift (f f' g g' : ℕ → EReal) (o n : ℕ) (ho : o % 128 = 0) (hn : n % 128 = 0) (hf : ∀ d, d < n → f d = f' (o + d)) (hg : ∀ d, d < 128 → g d = g' d)
    (e : ℕ) (he : e < n) : head f g e = head f' g' (o + e) := by
  unfold head Arrays.norm
  have e1 : (o + e) % 128 = e % 128 := by omega
  have e2 : ∀ d, d < 128 → f (e / 128 * 128 + d) = f' ((o + e) / 128 * 128 + d) := fun d hd => by
    rw [hf _ (by omega), show o + (e / 128 * 128 + d) = (o + e) / 128 * 128 + d by omega]
  have e3 : ∑ d ∈ Finset.range 128, f (e / 128 * 128 + d) * f (e / 128 * 128 + d)
      = ∑ d ∈ Finset.range 128, f' ((o + e) / 128 * 128 + d) * f' ((o + e) / 128 * 128 + d) :=
    Finset.sum_congr rfl fun d hd => by rw [e2 d (Finset.mem_range.mp hd)]
  dsimp only
  rw [e1, e2 (e % 128) (Nat.mod_lt _ (by decide)), hg (e % 128) (Nat.mod_lt _ (by decide)), e3]

section reference

open Cert.Reference3Ideal Cert.Reference3Ideal.Gen Cert.Reference3Ideal.Read

variable (X : (⟨S4x4096x2048, .f32⟩ : BufTy).Contents (Elt Ideal)) (G : (⟨S2048, .f32⟩ : BufTy).Contents (Elt Ideal))
  (W : (⟨S2048x10240, .f32⟩ : BufTy).Contents (Elt Ideal)) (Q K : (⟨S128, .f32⟩ : BufTy).Contents (Elt Ideal))

theorem ref_v7 (i : S4x4096x1.Idx) : val_main_v7 (F := Ideal) X i = Ideal.rsqrt (Ideal.div
    (∑ k ∈ Finset.range 2048, at3 X (i 0).val (i 1).val k * at3 X (i 0).val (i 1).val k) (Ideal.ofBits .f32 0x45000000#32) + Ideal.ofBits .f32 0x358637BD#32) := by
  rw [val_main_v7_apply, val_main_v6_apply, val_main_v4_apply, val_main_v2_apply, val_main_v1_apply, val_main_v3_apply, val_main_v5_apply,
    val_main_cst_apply, val_main_cst_0_apply, val_main_cst_1_apply]
  have e : ∀ k : Fin 2048, val_main_v0 (F := Ideal) X (idx_main_v1 (idx_main_v2 i) k)
      = at3 X (i 0).val (i 1).val k.val * at3 X (i 0).val (i 1).val k.val := fun k => by
    rw [val_main_v0_apply]
    exact congrArg₂ (· * ·) (eq_at3 X _ _ _ _ rfl rfl rfl) (eq_at3 X _ _ _ _ rfl rfl rfl)
  refine congrArg Ideal.rsqrt (congrArg (fun z => Ideal.div z (Ideal.ofBits .f32 0x45000000#32) + Ideal.ofBits .f32 0x358637BD#32) ?_)
  refine (congrArg₂ (· + ·) Ideal.ofBits_zero_f32 (sum_axis _ (fun k => at3 X (i 0).val (i 1).val k * at3 X (i 0).val (i 1).val k) e)).trans ?_
  exact zero_add _

theorem ref_v12 (i : S4x4096x2048.Idx) : val_main_v12 (F := Ideal) X G i = xn X G (i 0).val (i 1).val (i 2).val := by
  rw [val_main_v12_apply, val_main_v9_apply, val_main_v8_apply, val_main_v11_apply, val_main_v10_apply, ref_v7]
  exact congrArg₂ (· * ·) (congrArg (· * _) (eq_at3 X _ _ _ _ rfl rfl rfl)) (eq_at1 G _ _ rfl)

theorem ref_v13 (i : S4x4096x10240.Idx) : val_main_v13 (F := Ideal) X G W i = proj X G W (i 0).val (i 1).val (i 2).val := by
  rw [val_main_v13_apply]
  exact sum_axis _ _ fun k => congrArg₂ (· * ·) (ref_v12 X G _) (eq_at2 W _ _ _ rfl rfl)

theorem ref_v15 (i : S4x4096x4x2x128.Idx) : val_main_v15 (F := Ideal) X G W i
    = proj X G W (i 0).val (i 1).val (3072 + (((i 2).val * 2 + (i 3).val) * 128 + (i 4).val)) := by
  have h0 : (i 0).val < 4 := (i 0).isLt
  have h1 : (i 1).val < 4096 := (i 1).isLt
  have h2 : (i 2).val < 4 := (i 2).isLt
  have h3 : (i 3).val < 2 := (i 3).isLt
  have h4 : (i 4).val < 128 := (i 4).isLt
  rw [val_main_v15_apply, val_main_v14_apply]
  refine (ref_v13 X G W _).trans ?_
  show proj X G W ((((((i 0).val * 4096 + (i 1).val) * 4 + (i 2).val) * 2 + (i 3).val) * 128 + (i 4).val) / 4194304)
    ((((((i 0).val * 4096 + (i 1).val) * 4 + (i 2).val) * 2 + (i 3).val) * 128 + (i 4).val) / 1024 % 4096)
    (3072 + (((((i 0).val * 4096 + (i 1).val) * 4 + (i 2).val) * 2 + (i 3).val) * 128 + (i 4).val) % 1024) = _
  rw [show (((((i 0).val * 4096 + (i 1).val) * 4 + (i 2).val) * 2 + (i 3).val) * 128 + (i 4).val) / 4194304 = (i 0).val by omega,
    show (((((i 0).val * 4096 + (i 1).val) * 4 + (i 2).val) * 2 + (i 3).val) * 128 + (i 4).val) / 1024 % 4096 = (i 1).val by omega,
    show (((((i 0).val * 4096 + (i 1).val) * 4 + (i 2).val) * 2 + (i 3).val) * 128 + (i 4).val) % 1024 = ((i 2).val * 2 + (i 3).val) * 128 + (i 4).val by omega]

theorem ref_v25 (i : S4x4096x4x2x1.Idx) : val_main_v25 (F := Ideal) X G W i = Ideal.rsqrt (Ideal.div
    (∑ d ∈ Finset.range 128, proj X G W (i 0).val (i 1).val (3072 + (((i 2).val * 2 + (i 3).val) * 128 + d))
      * proj X G W (i 0).val (i 1).val (3072 + (((i 2).val * 2 + (i 3).val) * 128 + d)))
    (Ideal.ofBits .f32 0x43000000#32) + Ideal.ofBits .f32 0x358637BD#32) := by
  rw [val_main_v25_apply, val_main_v24_apply, val_main_v22_apply, val_main_v20_apply, val_main_v19_apply, val_main_v21_apply, val_main_v23_apply,
    val_main_cst_2_apply, val_main_cst_3_apply, val_main_cst_4_apply]
  have e : ∀ k : Fin 128, val_main_v18 (F := Ideal) X G W (idx_main_v19 (idx_main_v20 i) k)
      = proj X G W (i 0).val (i 1).val (3072 + (((i 2).val * 2 + (i 3).val) * 128 + k.val))
        * proj X G W (i 0).val (i 1).val (3072 + (((i 2).val * 2 + (i 3).val) * 128 + k.val)) := fun k => by
    rw [val_main_v18_apply, ref_v15]; rfl
  refine congrArg Ideal.rsqrt (congrArg (fun z => Ideal.div z (Ideal.ofBits .f32 0x43000000#32) + Ideal.ofBits .f32 0x358637BD#32) ?_)
  refine (congrArg₂ (· + ·) Ideal.ofBits_zero_f32 (sum_axis _ (fun d => proj X G W (i 0).val (i 1).val (3072 + (((i 2).val * 2 + (i 3).val) * 128 + d))
      * proj X G W (i 0).val (i 1).val (3072 + (((i 2).val * 2 + (i 3).val) * 128 + d))) e)).trans ?_
  exact zero_add _

theorem ref_v30 (i : S4x4096x4x2x128.Idx) : val_main_v30 (F := Ideal) X G W Q i
    = head (proj X G W (i 0).val (i 1).val) (at1 Q) (3072 + (((i 2).val * 2 + (i 3).val) * 128 + (i 4).val)) := by
  have h4 : (i 4).val < 128 := (i 4).isLt
  rw [val_main_v30_apply, val_main_v27_apply, val_main_v26_apply, val_main_v29_apply, val_main_v28_apply, ref_v15, ref_v25]
  unfold head Arrays.norm
  have e1 : (3072 + (((i 2).val * 2 + (i 3).val) * 128 + (i 4).val)) % 128 = (i 4).val := by omega
  have e2 : ∀ d, (3072 + (((i 2).val * 2 + (i 3).val) * 128 + (i 4).val)) / 128 * 128 + d = 3072 + (((i 2).val * 2 + (i 3).val) * 128 + d) := fun d => by omega
  simp only [e1, e2]
  exact congrArg (_ * ·) (eq_at1 Q _ _ rfl)

theorem ref_v31 (i : S4x4096x1024.Idx) : val_main_v31 (F := Ideal) X G W Q i = head (proj X G W (i 0).val (i 1).val) (at1 Q) (3072 + (i 2).val) := by
  have h0 : (i 0).val < 4 := (i 0).isLt
  have h1 : (i 1).val < 4096 := (i 1).isLt
  have h2 : (i 2).val < 1024 := (i 2).isLt
  rw [val_main_v31_apply]
  refine (ref_v30 X G W Q _).trans ?_
  show head (proj X G W ((((i 0).val * 4096 + (i 1).val) * 1024 + (i 2).val) / 4194304) ((((i 0).val * 4096 + (i 1).val) * 1024 + (i 2).val) / 1024 % 4096)) (at1 Q)
    (3072 + (((((i 0).val * 4096 + (i 1).val) * 1024 + (i 2).val) / 256 % 4 * 2 + (((i 0).val * 4096 + (i 1).val) * 1024 + (i 2).val) / 128 % 2) * 128
      + (((i 0).val * 4096 + (i 1).val) * 1024 + (i 2).val) % 128)) = _
  rw [show (((i 0).val * 4096 + (i 1).val) * 1024 + (i 2).val) / 4194304 = (i 0).val by omega,
    show (((i 0).val * 4096 + (i 1).val) * 1024 + (i 2).val) / 1024 % 4096 = (i 1).val by omega,
    show ((((i 0).val * 4096 + (i 1).val) * 1024 + (i 2).val) / 256 % 4 * 2 + (((i 0).val * 4096 + (i 1).val) * 1024 + (i 2).val) / 128 % 2) * 128
      + (((i 0).val * 4096 + (i 1).val) * 1024 + (i 2).val) % 128 = (i 2).val by omega]

theorem ref_v17 (i : S4x4096x4x2x128.Idx) : val_main_v17 (F := Ideal) X G W i
    = proj X G W (i 0).val (i 1).val (4096 + (((i 2).val * 2 + (i 3).val) * 128 + (i 4).val)) := by
  have h0 : (i 0).val < 4 := (i 0).isLt
  have h1 : (i 1).val < 4096 := (i 1).isLt
  have h2 : (i 2).val < 4 := (i 2).isLt
  have h3 : (i 3).val < 2 := (i 3).isLt
  have h4 : (i 4).val < 128 := (i 4).isLt
  rw [val_main_v17_apply, val_main_v16_apply]
  refine (ref_v13 X G W _).trans ?_
  show proj X G W ((((((i 0).val * 4096 + (i 1).val) * 4 + (i 2).val) * 2 + (i 3).val) * 128 + (i 4).val) / 4194304)
    ((((((i 0).val * 4096 + (i 1).val) * 4 + (i 2).val) * 2 + (i 3).val) * 128 + (i 4).val) / 1024 % 4096)
    (4096 + (((((i 0).val * 4096 + (i 1).val) * 4 + (i 2).val) * 2 + (i 3).val) * 128 + (i 4).val) % 1024) = _
  rw [show (((((i 0).val * 4096 + (i 1).val) * 4 + (i 2).val) * 2 + (i 3).val) * 128 + (i 4).val) / 4194304 = (i 0).val by omega,
    show (((((i 0).val * 4096 + (i 1).val) * 4 + (i 2).val) * 2 + (i 3).val) * 128 + (i 4).val) / 1024 % 4096 = (i 1).val by omega,
    show (((((i 0).val * 4096 + (i 1).val) * 4 + (i 2).val) * 2 + (i 3).val) * 128 + (i 4).val) % 1024 = ((i 2).val * 2 + (i 3).val) * 128 + (i 4).val by omega]

theorem ref_v39 (i : S4x4096x4x2x1.Idx) : val_main_v39 (F := Ideal) X G W i = Ideal.rsqrt (Ideal.div
    (∑ d ∈ Finset.range 128, proj X G W (i 0).val (i 1).val (4096 + (((i 2).val * 2 + (i 3).val) * 128 + d))
      * proj X G W (i 0).val (i 1).val (4096 + (((i 2).val * 2 + (i 3).val) * 128 + d)))
    (Ideal.ofBits .f32 0x43000000#32) + Ideal.ofBits .f32 0x358637BD#32) := by
  rw [val_main_v39_apply, val_main_v38_apply, val_main_v36_apply, val_main_v34_apply, val_main_v33_apply, val_main_v35_apply, val_main_v37_apply,
    val_main_cst_5_apply, val_main_cst_6_apply, val_main_cst_7_apply]
  have e : ∀ k : Fin 128, val_main_v32 (F := Ideal) X G W (idx_main_v33 (idx_main_v34 i) k)
      = proj X G W (i 0).val (i 1).val (4096 + (((i 2).val * 2 + (i 3).val) * 128 + k.val))
        * proj X G W (i 0).val (i 1).val (4096 + (((i 2).val * 2 + (i 3).val) * 128 + k.val)) := fun k => by
    rw [val_main_v32_apply, ref_v17]; rfl
  refine congrArg Ideal.rsqrt (congrArg (fun z => Ideal.div z (Ideal.ofBits .f32 0x43000000#32) + Ideal.ofBits .f32 0x358637BD#32) ?_)
  refine (congrArg₂ (· + ·) Ideal.ofBits_zero_f32 (sum_axis _ (fun d => proj X G W (i 0).val (i 1).val (4096 + (((i 2).val * 2 + (i 3).val) * 128 + d))
      * proj X G W (i 0).val (i 1).val (4096 + (((i 2).val * 2 + (i 3).val) * 128 + d))) e)).trans ?_
  exact zero_add _

theorem ref_v44 (i : S4x4096x4x2x128.Idx) : val_main_v44 (F := Ideal) X G W K i
    = head (proj X G W (i 0).val (i 1).val) (at1 K) (4096 + (((i 2).val * 2 + (i 3).val) * 128 + (i 4).val)) := by
  have h4 : (i 4).val < 128 := (i 4).isLt
  rw [val_main_v44_apply, val_main_v41_apply, val_main_v40_apply, val_main_v43_apply, val_main_v42_apply, ref_v17, ref_v39]
  unfold head Arrays.norm
  have e1 : (4096 + (((i 2).val * 2 + (i 3).val) * 128 + (i 4).val)) % 128 = (i 4).val := by omega
  have e2 : ∀ d, (4096 + (((i 2).val * 2 + (i 3).val) * 128 + (i 4).val)) / 128 * 128 + d = 4096 + (((i 2).val * 2 + (i 3).val) * 128 + d) := fun d => by omega
  simp only [e1, e2]
  exact congrArg (_ * ·) (eq_at1 K _ _ rfl)

theorem ref_v45 (i : S4x4096x1024.Idx) : val_main_v45 (F := Ideal) X G W K i = head (proj X G W (i 0).val (i 1).val) (at1 K) (4096 + (i 2).val) := by
  have h0 : (i 0).val < 4 := (i 0).isLt
  have h1 : (i 1).val < 4096 := (i 1).isLt
  have h2 : (i 2).val < 1024 := (i 2).isLt
  rw [val_main_v45_apply]
  refine (ref_v44 X G W K _).trans ?_
  show head (proj X G W ((((i 0).val * 4096 + (i 1).val) * 1024 + (i 2).val) / 4194304) ((((i 0).val * 4096 + (i 1).val) * 1024 + (i 2).val) / 1024 % 4096)) (at1 K)
    (4096 + (((((i 0).val * 4096 + (i 1).val) * 1024 + (i 2).val) / 256 % 4 * 2 + (((i 0).val * 4096 + (i 1).val) * 1024 + (i 2).val) / 128 % 2) * 128
      + (((i 0).val * 4096 + (i 1).val) * 1024 + (i 2).val) % 128)) = _
  rw [show (((i 0).val * 4096 + (i 1).val) * 1024 + (i 2).val) / 4194304 = (i 0).val by omega,
    show (((i 0).val * 4096 + (i 1).val) * 1024 + (i 2).val) / 1024 % 4096 = (i 1).val by omega,
    show ((((i 0).val * 4096 + (i 1).val) * 1024 + (i 2).val) / 256 % 4 * 2 + (((i 0).val * 4096 + (i 1).val) * 1024 + (i 2).val) / 128 % 2) * 128
      + (((i 0).val * 4096 + (i 1).val) * 1024 + (i 2).val) % 128 = (i 2).val by omega]

theorem ref_v52 (i : S4x4096x4096.Idx) : val_main_v52 (F := Ideal) X G W i = Ideal.logistic (proj X G W (i 0).val (i 1).val (6144 + (i 2).val)) := by
  rw [val_main_v52_apply, val_main_v51_apply, val_main_cst_9_apply, val_main_v50_apply, val_main_v49_apply, val_main_cst_8_apply, val_main_v48_apply,
    val_main_v47_apply, val_main_v46_apply, ref_v13]
  show Ideal.div (Ideal.ofBits .f32 0x3F800000#32) (Ideal.ofBits .f32 0x3F800000#32 + Ideal.exp (-_)) = _
  rw [Ideal.ofBits_one_f32]
  rfl

/-- Five arrays laid one after the other along the columns, each with its columns' part of one function. -/
theorem columns_apply (c : ℕ → ℕ → ℕ → EReal) (x0 : (⟨3, ![4, 4096, 3072]⟩ : Shape).Idx → EReal) (x1 x2 x3 : (⟨3, ![4, 4096, 1024]⟩ : Shape).Idx → EReal)
    (x4 : (⟨3, ![4, 4096, 4096]⟩ : Shape).Idx → EReal) (h0 : ∀ i, x0 i = c (i 0).val (i 1).val (i 2).val) (h1 : ∀ i, x1 i = c (i 0).val (i 1).val (3072 + (i 2).val))
    (h2 : ∀ i, x2 i = c (i 0).val (i 1).val (4096 + (i 2).val)) (h3 : ∀ i, x3 i = c (i 0).val (i 1).val (5120 + (i 2).val))
    (h4 : ∀ i, x4 i = c (i 0).val (i 1).val (6144 + (i 2).val))
    (h : Shape.Concatenates [⟨3, ![4, 4096, 3072]⟩, ⟨3, ![4, 4096, 1024]⟩, ⟨3, ![4, 4096, 1024]⟩, ⟨3, ![4, 4096, 1024]⟩, ⟨3, ![4, 4096, 4096]⟩] ⟨3, ![4, 4096, 10240]⟩ 2)
    (j : (⟨3, ![4, 4096, 10240]⟩ : Shape).Idx) :
    concatenate ⟨3, ![4, 4096, 10240]⟩ 2 [⟨⟨3, ![4, 4096, 3072]⟩, x0⟩, ⟨⟨3, ![4, 4096, 1024]⟩, x1⟩, ⟨⟨3, ![4, 4096, 1024]⟩, x2⟩, ⟨⟨3, ![4, 4096, 1024]⟩, x3⟩,
      ⟨⟨3, ![4, 4096, 4096]⟩, x4⟩] h j = c (j 0).val (j 1).val (j 2).val := by
  have hj : (j 2).val < 10240 := (j 2).isLt
  by_cases g0 : (j 2).val < 3072
  · have hk : 0 + ((j 2).val - 0) = (j 2).val := by omega
    refine (concatenate_apply_piece (t := ⟨3, ![4, 4096, 10240]⟩) 2 [⟨⟨3, ![4, 4096, 3072]⟩, x0⟩, ⟨⟨3, ![4, 4096, 1024]⟩, x1⟩, ⟨⟨3, ![4, 4096, 1024]⟩, x2⟩, ⟨⟨3, ![4, 4096, 1024]⟩, x3⟩,
      ⟨⟨3, ![4, 4096, 4096]⟩, x4⟩] h j 0 (by show 0 < 5; omega) ⟨3, ![4, 4096, 3072]⟩ x0 rfl rfl 0 rfl
      (ix3 (⟨(j 0).val, (j 0).isLt⟩ : Fin 4) (⟨(j 1).val, (j 1).isLt⟩ : Fin 4096) (⟨(j 2).val - 0, by omega⟩ : Fin 3072))
      (fun b hb => match b with
        | ⟨0, _⟩ => rfl
        | ⟨1, _⟩ => rfl
        | ⟨2, _⟩ => absurd rfl hb) hk).trans ((h0 _).trans ?_)
    show c (j 0).val (j 1).val ((j 2).val - 0) = _
    rfl
  by_cases g1 : (j 2).val < 4096
  · have hk : 3072 + ((j 2).val - 3072) = (j 2).val := by omega
    refine (concatenate_apply_piece (t := ⟨3, ![4, 4096, 10240]⟩) 2 [⟨⟨3, ![4, 4096, 3072]⟩, x0⟩, ⟨⟨3, ![4, 4096, 1024]⟩, x1⟩, ⟨⟨3, ![4, 4096, 1024]⟩, x2⟩, ⟨⟨3, ![4, 4096, 1024]⟩, x3⟩,
      ⟨⟨3, ![4, 4096, 4096]⟩, x4⟩] h j 1 (by show 1 < 5; omega) ⟨3, ![4, 4096, 1024]⟩ x1 rfl rfl 3072 rfl
      (ix3 (⟨(j 0).val, (j 0).isLt⟩ : Fin 4) (⟨(j 1).val, (j 1).isLt⟩ : Fin 4096) (⟨(j 2).val - 3072, by omega⟩ : Fin 1024))
      (fun b hb => match b with
        | ⟨0, _⟩ => rfl
        | ⟨1, _⟩ => rfl
        | ⟨2, _⟩ => absurd rfl hb) hk).trans ((h1 _).trans ?_)
    show c (j 0).val (j 1).val (3072 + ((j 2).val - 3072)) = _
    rw [hk]
  by_cases g2 : (j 2).val < 5120
  · have hk : 4096 + ((j 2).val - 4096) = (j 2).val := by omega
    refine (concatenate_apply_piece (t := ⟨3, ![4, 4096, 10240]⟩) 2 [⟨⟨3, ![4, 4096, 3072]⟩, x0⟩, ⟨⟨3, ![4, 4096, 1024]⟩, x1⟩, ⟨⟨3, ![4, 4096, 1024]⟩, x2⟩, ⟨⟨3, ![4, 4096, 1024]⟩, x3⟩,
      ⟨⟨3, ![4, 4096, 4096]⟩, x4⟩] h j 2 (by show 2 < 5; omega) ⟨3, ![4, 4096, 1024]⟩ x2 rfl rfl 4096 rfl
      (ix3 (⟨(j 0).val, (j 0).isLt⟩ : Fin 4) (⟨(j 1).val, (j 1).isLt⟩ : Fin 4096) (⟨(j 2).val - 4096, by omega⟩ : Fin 1024))
      (fun b hb => match b with
        | ⟨0, _⟩ => rfl
        | ⟨1, _⟩ => rfl
        | ⟨2, _⟩ => absurd rfl hb) hk).trans ((h2 _).trans ?_)
    show c (j 0).val (j 1).val (4096 + ((j 2).val - 4096)) = _
    rw [hk]
  by_cases g3 : (j 2).val < 6144
  · have hk : 5120 + ((j 2).val - 5120) = (j 2).val := by omega
    refine (concatenate_apply_piece (t := ⟨3, ![4, 4096, 10240]⟩) 2 [⟨⟨3, ![4, 4096, 3072]⟩, x0⟩, ⟨⟨3, ![4, 4096, 1024]⟩, x1⟩, ⟨⟨3, ![4, 4096, 1024]⟩, x2⟩, ⟨⟨3, ![4, 4096, 1024]⟩, x3⟩,
      ⟨⟨3, ![4, 4096, 4096]⟩, x4⟩] h j 3 (by show 3 < 5; omega) ⟨3, ![4, 4096, 1024]⟩ x3 rfl rfl 5120 rfl
      (ix3 (⟨(j 0).val, (j 0).isLt⟩ : Fin 4) (⟨(j 1).val, (j 1).isLt⟩ : Fin 4096) (⟨(j 2).val - 5120, by omega⟩ : Fin 1024))
      (fun b hb => match b with
        | ⟨0, _⟩ => rfl
        | ⟨1, _⟩ => rfl
        | ⟨2, _⟩ => absurd rfl hb) hk).trans ((h3 _).trans ?_)
    show c (j 0).val (j 1).val (5120 + ((j 2).val - 5120)) = _
    rw [hk]
  have hk : 6144 + ((j 2).val - 6144) = (j 2).val := by omega
  refine (concatenate_apply_piece (t := ⟨3, ![4, 4096, 10240]⟩) 2 [⟨⟨3, ![4, 4096, 3072]⟩, x0⟩, ⟨⟨3, ![4, 4096, 1024]⟩, x1⟩, ⟨⟨3, ![4, 4096, 1024]⟩, x2⟩, ⟨⟨3, ![4, 4096, 1024]⟩, x3⟩,
    ⟨⟨3, ![4, 4096, 4096]⟩, x4⟩] h j 4 (by show 4 < 5; omega) ⟨3, ![4, 4096, 4096]⟩ x4 rfl rfl 6144 rfl
    (ix3 (⟨(j 0).val, (j 0).isLt⟩ : Fin 4) (⟨(j 1).val, (j 1).isLt⟩ : Fin 4096) (⟨(j 2).val - 6144, by omega⟩ : Fin 4096))
    (fun b hb => match b with
      | ⟨0, _⟩ => rfl
      | ⟨1, _⟩ => rfl
      | ⟨2, _⟩ => absurd rfl hb) hk).trans ((h4 _).trans ?_)
  show c (j 0).val (j 1).val (6144 + ((j 2).val - 6144)) = _
  rw [hk]

theorem ref_v55 (i : S4x4096x10240.Idx) : val_main_v55 (F := Ideal) X G W Q K i = out X G W Q K (i 0).val (i 1).val (i 2).val := by
  unfold val_main_v55
  refine columns_apply (out X G W Q K) _ _ _ _ _ (fun i => ?_) (fun i => ?_) (fun i => ?_) (fun i => ?_) (fun i => ?_) _ i
  · have h : (i 2).val < 3072 := (i 2).isLt
    refine (val_main_v53_apply (F := Ideal) X G W i).trans ((ref_v13 X G W _).trans ?_)
    show proj X G W (i 0).val (i 1).val (i 2).val = out X G W Q K (i 0).val (i 1).val (i 2).val
    unfold out cols
    rw [if_pos (show (i 2).val < 3072 by omega)]
  · have h : (i 2).val < 1024 := (i 2).isLt
    refine (ref_v31 X G W Q i).trans ?_
    unfold out cols
    rw [if_neg (show ¬ 3072 + (i 2).val < 3072 by omega), if_pos (show 3072 + (i 2).val < 4096 by omega)]
  · have h : (i 2).val < 1024 := (i 2).isLt
    refine (ref_v45 X G W K i).trans ?_
    unfold out cols
    rw [if_neg (show ¬ 4096 + (i 2).val < 3072 by omega), if_neg (show ¬ 4096 + (i 2).val < 4096 by omega), if_pos (show 4096 + (i 2).val < 5120 by omega)]
  · have h : (i 2).val < 1024 := (i 2).isLt
    refine (val_main_v54_apply (F := Ideal) X G W i).trans ((ref_v13 X G W _).trans ?_)
    show proj X G W (i 0).val (i 1).val (5120 + (i 2).val) = _
    unfold out cols
    rw [if_neg (show ¬ 5120 + (i 2).val < 3072 by omega), if_neg (show ¬ 5120 + (i 2).val < 4096 by omega), if_neg (show ¬ 5120 + (i 2).val < 5120 by omega), if_pos (show 5120 + (i 2).val < 6144 by omega)]
  · have h : (i 2).val < 4096 := (i 2).isLt
    refine (ref_v52 X G W i).trans ?_
    unfold out cols
    rw [if_neg (show ¬ 6144 + (i 2).val < 3072 by omega), if_neg (show ¬ 6144 + (i 2).val < 4096 by omega), if_neg (show ¬ 6144 + (i 2).val < 5120 by omega), if_neg (show ¬ 6144 + (i 2).val < 6144 by omega)]

theorem ref_apply (i : S16384x10240.Idx) : val_main_v57 (F := Ideal) X G W Q K i = out X G W Q K ((i 0).val / 4096) ((i 0).val % 4096) (i 1).val := by
  have h0 : (i 0).val < 16384 := (i 0).isLt
  have h1 : (i 1).val < 10240 := (i 1).isLt
  rw [val_main_v57_apply, val_main_v56_apply]
  refine (ref_v55 X G W Q K _).trans ?_
  show out X G W Q K (((i 0).val * 10240 + (i 1).val) / 41943040) (((i 0).val * 10240 + (i 1).val) / 10240 % 4096) (((i 0).val * 10240 + (i 1).val) % 10240) = _
  rw [show ((i 0).val * 10240 + (i 1).val) / 41943040 = (i 0).val / 4096 by omega,
    show ((i 0).val * 10240 + (i 1).val) / 10240 % 4096 = (i 0).val % 4096 by omega, show ((i 0).val * 10240 + (i 1).val) % 10240 = (i 1).val by omega]

end reference

end Cert.Proof.InProj

end
-- ==== Proof.InProj.lean ====
/-
  The input projection: what each point leaves, and the two programs' results side by side.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.InProjRef
public import Idealize.ShloMosaic.Lib.Pointwise
public import Idealize.ShloMosaic.Lib.Pipeline.ValueKit.Geometry
public import Idealize.ShloMosaic.Lib.Pointwise.IndexBridge

@[expose] public section

set_option maxRecDepth 8192

noncomputable section

namespace Cert.Proof.InProj

open Cert.Proof.Arrays
open Idealize.ShloMosaic hiding ix0 ix1 ix2 ix3 ix4 ix5
open Idealize.ShloMosaic.ValueIdx
open Idealize.SL.Sem
open scoped BigOperators

section kernel

open Cert.Kernel3Ideal Cert.Kernel3Ideal.Gen

/-! ## The payloads at an index -/

theorem pay1_apply (x : Vec Ideal S1024x2048 .f32) (g : Vec Ideal S1x2048 .f32) (r : Fin 1024) (d : Fin 2048) :
    k0_pay1 x g (ix2 r d) = x (ix2 r d) * Ideal.rsqrt (Ideal.div (∑ k : Fin 2048, x (ix2 r k) * x (ix2 r k))
      (Ideal.ofBits .f32 0x45000000#32) + Ideal.ofBits .f32 0x358637BD#32) * g (ix2 0 d) := by
  unfold k0_pay1
  pointwise
  simp only [ix2_eq_valueIdx]
  try rfl

theorem pay2_apply (a : Vec Ideal S1024x2048 .bf16) (w : Vec Ideal S2048x1024 .bf16) (r d : Fin 1024) :
    k0_pay2 a w (ix2 r d) = ∑ k : Fin 2048, a (ix2 r k) * w (ix2 k d) := by
  unfold k0_pay2
  pointwise
  simp only [ix2_eq_valueIdx]
  try rfl

theorem pay9_apply (a : Vec Ideal S1024x2048 .bf16) (w : Vec Ideal S2048x1024 .bf16) (i : S1024x1024.Idx) :
    k0_pay9 a w i = Ideal.logistic (k0_pay2 a w i) := rfl

theorem pay10_apply (a : Vec Ideal S1024x2048 .bf16) (w : Vec Ideal S2048x1024 .bf16) (i : S1024x1024.Idx) :
    k0_pay10 a w i = k0_pay2 a w i := rfl

/-- The norm of one group of columns. -/
def piece (z : FVec Ideal S1024x128 .f32) (g : FVec Ideal S1x128 .f32) : FVec Ideal S1024x128 .bf16 :=
  truncf .bf16 (mulf (mulf z (broadcastTo S1024x128 (rsqrt (addf (divf (shapeCast S1024x1
    (multiReduction .add [1] S1024 (mulf z z) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 g broadcasts_S1x128_S1024x128)) bitsLt_bf16_f32

theorem piece_apply (z : FVec Ideal S1024x128 .f32) (g : FVec Ideal S1x128 .f32) (r : Fin 1024) (d : Fin 128) :
    piece z g (ix2 r d) = z (ix2 r d) * Ideal.rsqrt (Ideal.div (∑ k : Fin 128, z (ix2 r k) * z (ix2 r k))
      (Ideal.ofBits .f32 0x43000000#32) + Ideal.ofBits .f32 0x358637BD#32) * g (ix2 0 d) := by
  unfold piece
  pointwise
  simp only [ix2_eq_valueIdx]
  try rfl

/-- A projected tile with its groups of columns normed. -/
def headed (y : S1024x1024.Idx → EReal) (g : S1x128.Idx → EReal) : S1024x1024.Idx → EReal := fun i => head (at2 y (i 0).val) (at2 g 0) (i 1).val

theorem piece_head (o : ℕ) (ho : o % 128 = 0) (y : FVec Ideal S1024x1024 .f32) (g : FVec Ideal S1x128 .f32) (h : S1024x1024.Slices ![0, o] S1024x128)
    (x : S1024x128.Idx) (i : S1024x1024.Idx) (h0 : (i 0).val = (x 0).val) (h1 : (i 1).val = o + (x 1).val) :
    piece (extractStridedSlice S1024x128 ![0, o] y h) g x = headed y g i := by
  have b1 : (x 1).val < 128 := (x 1).isLt
  have hz : ∀ k : Fin 128, extractStridedSlice S1024x128 ![0, o] y h (ix2 (x 0) k) = at2 y (i 0).val (o + k.val) := fun k => by
    have bi : (i 1).val < 1024 := (i 1).isLt
    have bo : o + k.val < 1024 := by omega
    refine (extractStridedSlice_apply ![0, o] y h (ix2 (x 0) k : S1024x128.Idx) (ix2 (i 0) ⟨o + k.val, bo⟩) (fun a => match a with
      | ⟨0, _⟩ => by show (i 0).val = 0 + (x 0).val; omega
      | ⟨1, _⟩ => rfl)).trans ?_
    exact eq_at2 y _ _ _ rfl rfl
  refine (congrArg (piece (extractStridedSlice S1024x128 ![0, o] y h) g) (ValueIdx.eq_ix2 x)).trans ((piece_apply _ g (x 0) (x 1)).trans ?_)
  unfold headed head Arrays.norm
  have e1 : (i 1).val % 128 = (x 1).val := by omega
  have e2 : (i 1).val / 128 * 128 = o := by omega
  rw [e1, e2]
  refine congrArg₂ (· * ·) (congrArg₂ (· * ·) (hz _) (congrArg Ideal.rsqrt ?_)) (eq_at2 g _ _ _ rfl rfl)
  refine congrArg (fun z => Ideal.div z (Ideal.ofBits .f32 0x43000000#32) + Ideal.ofBits .f32 0x358637BD#32) ?_
  exact sum_axis _ (fun k => at2 y (i 0).val (o + k) * at2 y (i 0).val (o + k)) fun k => congrArg₂ (· * ·) (hz k) (hz k)

/-! ## What a point leaves, by case -/

theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x2048 .bf16) (harg8 : arg8.IsWhole) (hc0 : cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S2048x1024 .bf16) (x3 : Vec Ideal S1x128 .f32) (x4 : Vec Ideal S1x128 .f32) :
    out0_A_5 c i arg2 harg2 arg3 harg3 arg4 harg4 arg5 harg5 arg6 harg6 arg7 harg7 arg8 harg8 hc0 hc1 hc2 hc3 hc4 x0 x1 x2 x3 x4 = k0_pay10 (k0_pay1 x0 x1) x2 := by
  unfold out0_A_5
  rw [View.read_writes_eq_canon _ _ _ (cover0_A_5 c i arg2 harg2 arg3 harg3 arg4 harg4 arg5 harg5 arg6 harg6 arg7 harg7 arg8 harg8 hc0 hc1 hc2 hc3 hc4 x0 x1 x2 x3 x4)]
  unfold kernelRun0_A
  dsimp only
  try sl_unfold_words
  rw [View.canon_unit_zero offsets_zero, View.readCov_unit_zero (S := S1024x2048) _ offsets_zero]
  simp only [View.readAt_eq_ld, harg2.read_unread, harg3.read_unread, harg4.read_unread, harg5.read_unread, harg6.read_unread, harg7.read_unread, harg8.read_unread, View.ld_unit_zero (S := S1024x2048) offsets_zero, View.ld_unit_zero (S := S1x2048) offsets_zero, View.ld_unit_zero (S := S2048x1024) offsets_zero, View.ld_unit_zero (S := S1x128) offsets_zero, shapeCast_self]

theorem scratch_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x2048 .bf16) (harg8 : arg8.IsWhole) (hc0 : cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S2048x1024 .bf16) (x3 : Vec Ideal S1x128 .f32) (x4 : Vec Ideal S1x128 .f32) :
    sout0_A_0 c i arg2 harg2 arg3 harg3 arg4 harg4 arg5 harg5 arg6 harg6 arg7 harg7 arg8 harg8 hc0 hc1 hc2 hc3 hc4 x0 x1 x2 x3 x4 = k0_pay1 x0 x1 := by
  unfold sout0_A_0
  rw [View.read_writes_eq_canon _ _ _ (scover0_A_0 c i arg2 harg2 arg3 harg3 arg4 harg4 arg5 harg5 arg6 harg6 arg7 harg7 arg8 harg8 hc0 hc1 hc2 hc3 hc4 x0 x1 x2 x3 x4)]
  unfold kernelRun0_A
  dsimp only
  try sl_unfold_words
  rw [View.canon_unit_zero offsets_zero]
  simp only [View.readAt_eq_ld, harg2.read_unread, harg3.read_unread, harg4.read_unread, harg5.read_unread, harg6.read_unread, harg7.read_unread, harg8.read_unread, View.ld_unit_zero (S := S1024x2048) offsets_zero, View.ld_unit_zero (S := S1x2048) offsets_zero, View.ld_unit_zero (S := S2048x1024) offsets_zero, View.ld_unit_zero (S := S1x128) offsets_zero, shapeCast_self]

theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x2048 .bf16) (harg8 : arg8.IsWhole) (hc0 : ¬cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S2048x1024 .bf16) (x3 : Vec Ideal S1x128 .f32) (x4 : Vec Ideal S1x128 .f32) (xs0 : Vec Ideal S1024x2048 .bf16) :
    out0_B_5 c i arg2 harg2 arg3 harg3 arg4 harg4 arg5 harg5 arg6 harg6 arg7 harg7 arg8 harg8 hc0 hc1 hc2 hc3 hc4 x0 x1 x2 x3 x4 xs0 = k0_pay10 xs0 x2 := by
  unfold out0_B_5
  rw [View.read_writes_eq_canon _ _ _ (cover0_B_5 c i arg2 harg2 arg3 harg3 arg4 harg4 arg5 harg5 arg6 harg6 arg7 harg7 arg8 harg8 hc0 hc1 hc2 hc3 hc4 x0 x1 x2 x3 x4 xs0)]
  unfold kernelRun0_B
  dsimp only
  try sl_unfold_words
  rw [View.canon_unit_zero offsets_zero]
  simp only [View.readAt_eq_ld, harg2.read_unread, harg3.read_unread, harg4.read_unread, harg5.read_unread, harg6.read_unread, harg7.read_unread, harg8.read_unread, View.ld_unit_zero (S := S1024x2048) offsets_zero, View.ld_unit_zero (S := S1x2048) offsets_zero, View.ld_unit_zero (S := S2048x1024) offsets_zero, View.ld_unit_zero (S := S1x128) offsets_zero, shapeCast_self]

theorem out_E (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x2048 .bf16) (harg8 : arg8.IsWhole) (hc0 : ¬cond0_0 i) (hc1 : ¬cond0_1 i) (hc2 : ¬cond0_2 i) (hc3 : cond0_3 i) (hc4 : ¬cond0_4 i)
    (x0 : Vec Ideal S1024x2048 .f32) (x1 : Vec Ideal S1x2048 .f32) (x2 : Vec Ideal S2048x1024 .bf16) (x3 : Vec Ideal S1x128 .f32) (x4 : Vec Ideal S1x128 .f32) (xs0 : Vec Ideal S1024x2048 .bf16) :
    out0_E_5 c i arg2 harg2 arg3 harg3 arg4 harg4 arg5 harg5 arg6 harg6 arg7 harg7 arg8 harg8 hc0 hc1 hc2 hc3 hc4 x0 x1 x2 x3 x4 xs0 = k0_pay9 xs0 x2 := by
  unfold out0_E_5
  rw [View.read_writes_eq_canon _ _ _ (cover0_E_5 c i arg2 harg2 arg3 harg3 arg4 harg4 arg5 harg5 arg6 harg6 arg7 harg7 arg8 harg8 hc0 hc1 hc2 hc3 hc4 x0 x1 x2 x3 x4 xs0)]
  unfold kernelRun0_E
  dsimp only
  try sl_unfold_words
  rw [View.canon_unit_zero offsets_zero]
  simp only [View.readAt_eq_ld, harg2.read_unread, harg3.read_unread, harg4.read_unread, harg5.read_unread, harg6.read_unread, harg7.read_unread, harg8.read_unread, View.ld_unit_zero (S := S1024x2048) offsets_zero, View.ld_unit_zero (S := S1x2048) offsets_zero, View.ld_unit_zero (S := S2048x1024) offsets_zero, View.ld_unit_zero (S := S1x128) offsets_zero, shapeCast_self]

theorem out_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x2048 .bf16) (harg8 : arg8.IsWhole) (hc0 : ¬cond0_0 i) (hc1 : cond0_1 i) (hc2 : ¬cond0_2 i) (hc3 : ¬cond0_3 i) (hc4 : ¬cond0_4 i)
    (x0 : Vec Ideal S1024x2048 .f32) (x1 : Vec Ideal S1x2048 .f32) (x2 : Vec Ideal S2048x1024 .bf16) (x3 : Vec Ideal S1x128 .f32) (x4 : Vec Ideal S1x128 .f32) (xs0 : Vec Ideal S1024x2048 .bf16) :
    out0_C_5 c i arg2 harg2 arg3 harg3 arg4 harg4 arg5 harg5 arg6 harg6 arg7 harg7 arg8 harg8 hc0 hc1 hc2 hc3 hc4 x0 x1 x2 x3 x4 xs0 = headed (k0_pay2 xs0 x2) x3 := by
  unfold out0_C_5
  rw [View.read_writes_eq_canon _ _ _ (cover0_C_5 c i arg2 harg2 arg3 harg3 arg4 harg4 arg5 harg5 arg6 harg6 arg7 harg7 arg8 harg8 hc0 hc1 hc2 hc3 hc4 x0 x1 x2 x3 x4 xs0)]
  refine funext fun y => View.canon_apply_of_pieces (headed (k0_pay2 xs0 x2) x3) _ ?_ y (cover0_C_5 c i arg2 harg2 arg3 harg3 arg4 harg4 arg5 harg5 arg6 harg6 arg7 harg7 arg8 harg8 hc0 hc1 hc2 hc3 hc4 x0 x1 x2 x3 x4 xs0 y)
  unfold kernelRun0_C
  dsimp only
  try sl_unfold_words
  simp only [View.readAt_eq_ld, harg2.read_unread, harg3.read_unread, harg4.read_unread, harg5.read_unread, harg6.read_unread, harg7.read_unread, harg8.read_unread, View.ld_unit_zero (S := S1024x2048) offsets_zero, View.ld_unit_zero (S := S1x2048) offsets_zero, View.ld_unit_zero (S := S2048x1024) offsets_zero, View.ld_unit_zero (S := S1x128) offsets_zero, shapeCast_self]
  have e : k0_pay11 x3 = x3 := shapeCast_self ..
  simp only [List.forall_mem_cons, e]
  refine ⟨fun x => piece_head 896 rfl (k0_pay2 xs0 x2) x3 _ x _ ((ValueKit.rect_emb_unit_val _ _ _ x 0).trans (Nat.zero_add _)) (ValueKit.rect_emb_unit_val _ _ _ x 1),
    fun x => piece_head 768 rfl (k0_pay2 xs0 x2) x3 _ x _ ((ValueKit.rect_emb_unit_val _ _ _ x 0).trans (Nat.zero_add _)) (ValueKit.rect_emb_unit_val _ _ _ x 1),
    fun x => piece_head 640 rfl (k0_pay2 xs0 x2) x3 slices_S1024x1024_o0_640_S1024x128 x _ ((ValueKit.rect_emb_unit_val _ _ _ x 0).trans (Nat.zero_add _)) (ValueKit.rect_emb_unit_val _ _ _ x 1),
    fun x => piece_head 512 rfl (k0_pay2 xs0 x2) x3 _ x _ ((ValueKit.rect_emb_unit_val _ _ _ x 0).trans (Nat.zero_add _)) (ValueKit.rect_emb_unit_val _ _ _ x 1),
    fun x => piece_head 384 rfl (k0_pay2 xs0 x2) x3 _ x _ ((ValueKit.rect_emb_unit_val _ _ _ x 0).trans (Nat.zero_add _)) (ValueKit.rect_emb_unit_val _ _ _ x 1),
    fun x => piece_head 256 rfl (k0_pay2 xs0 x2) x3 _ x _ ((ValueKit.rect_emb_unit_val _ _ _ x 0).trans (Nat.zero_add _)) (ValueKit.rect_emb_unit_val _ _ _ x 1),
    fun x => (congrFun (show k0_pay13 (k0_pay2 xs0 x2) x3 = piece (extractStridedSlice S1024x128 ![0, 128] (k0_pay2 xs0 x2) slices_S1024x1024_o0_128_S1024x128) x3 from by
      unfold k0_pay13; rw [e]; rfl) x).trans (piece_head 128 rfl (k0_pay2 xs0 x2) x3 _ x _ ((ValueKit.rect_emb_unit_val _ _ _ x 0).trans (Nat.zero_add _)) (ValueKit.rect_emb_unit_val _ _ _ x 1)),
    fun x => (congrFun (show k0_pay12 (k0_pay2 xs0 x2) x3 = piece (extractStridedSlice S1024x128 ![0, 0] (k0_pay2 xs0 x2) slices_S1024x1024_o0_0_S1024x128) x3 from by
      unfold k0_pay12; rw [e]; rfl) x).trans (piece_head 0 rfl (k0_pay2 xs0 x2) x3 _ x _ ((ValueKit.rect_emb_unit_val _ _ _ x 0).trans (Nat.zero_add _)) (ValueKit.rect_emb_unit_val _ _ _ x 1)), fun p hp => absurd hp List.not_mem_nil⟩

theorem out_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x1024 .bf16) (harg7 : arg7.IsWhole) (arg8 : Memref sig .tc .vmem S1024x2048 .bf16) (harg8 : arg8.IsWhole) (hc0 : ¬cond0_0 i) (hc1 : ¬cond0_1 i) (hc2 : cond0_2 i) (hc3 : ¬cond0_3 i) (hc4 : ¬cond0_4 i)
    (x0 : Vec Ideal S1024x2048 .f32) (x1 : Vec Ideal S1x2048 .f32) (x2 : Vec Ideal S2048x1024 .bf16) (x3 : Vec Ideal S1x128 .f32) (x4 : Vec Ideal S1x128 .f32) (xs0 : Vec Ideal S1024x2048 .bf16) :
    out0_D_5 c i arg2 harg2 arg3 harg3 arg4 harg4 arg5 harg5 arg6 harg6 arg7 harg7 arg8 harg8 hc0 hc1 hc2 hc3 hc4 x0 x1 x2 x3 x4 xs0 = headed (k0_pay2 xs0 x2) x4 := by
  unfold out0_D_5
  rw [View.read_writes_eq_canon _ _ _ (cover0_D_5 c i arg2 harg2 arg3 harg3 arg4 harg4 arg5 harg5 arg6 harg6 arg7 harg7 arg8 harg8 hc0 hc1 hc2 hc3 hc4 x0 x1 x2 x3 x4 xs0)]
  refine funext fun y => View.canon_apply_of_pieces (headed (k0_pay2 xs0 x2) x4) _ ?_ y (cover0_D_5 c i arg2 harg2 arg3 harg3 arg4 harg4 arg5 harg5 arg6 harg6 arg7 harg7 arg8 harg8 hc0 hc1 hc2 hc3 hc4 x0 x1 x2 x3 x4 xs0 y)
  unfold kernelRun0_D
  dsimp only
  try sl_unfold_words
  simp only [View.readAt_eq_ld, harg2.read_unread, harg3.read_unread, harg4.read_unread, harg5.read_unread, harg6.read_unread, harg7.read_unread, harg8.read_unread, View.ld_unit_zero (S := S1024x2048) offsets_zero, View.ld_unit_zero (S := S1x2048) offsets_zero, View.ld_unit_zero (S := S2048x1024) offsets_zero, View.ld_unit_zero (S := S1x128) offsets_zero, shapeCast_self]
  have e : k0_pay20 x4 = x4 := shapeCast_self ..
  simp only [List.forall_mem_cons, e]
  refine ⟨fun x => piece_head 896 rfl (k0_pay2 xs0 x2) x4 _ x _ ((ValueKit.rect_emb_unit_val _ _ _ x 0).trans (Nat.zero_add _)) (ValueKit.rect_emb_unit_val _ _ _ x 1),
    fun x => piece_head 768 rfl (k0_pay2 xs0 x2) x4 _ x _ ((ValueKit.rect_emb_unit_val _ _ _ x 0).trans (Nat.zero_add _)) (ValueKit.rect_emb_unit_val _ _ _ x 1),
    fun x => piece_head 640 rfl (k0_pay2 xs0 x2) x4 slices_S1024x1024_o0_640_S1024x128 x _ ((ValueKit.rect_emb_unit_val _ _ _ x 0).trans (Nat.zero_add _)) (ValueKit.rect_emb_unit_val _ _ _ x 1),
    fun x => piece_head 512 rfl (k0_pay2 xs0 x2) x4 _ x _ ((ValueKit.rect_emb_unit_val _ _ _ x 0).trans (Nat.zero_add _)) (ValueKit.rect_emb_unit_val _ _ _ x 1),
    fun x => piece_head 384 rfl (k0_pay2 xs0 x2) x4 _ x _ ((ValueKit.rect_emb_unit_val _ _ _ x 0).trans (Nat.zero_add _)) (ValueKit.rect_emb_unit_val _ _ _ x 1),
    fun x => piece_head 256 rfl (k0_pay2 xs0 x2) x4 _ x _ ((ValueKit.rect_emb_unit_val _ _ _ x 0).trans (Nat.zero_add _)) (ValueKit.rect_emb_unit_val _ _ _ x 1),
    fun x => (congrFun (show k0_pay22 (k0_pay2 xs0 x2) x4 = piece (extractStridedSlice S1024x128 ![0, 128] (k0_pay2 xs0 x2) slices_S1024x1024_o0_128_S1024x128) x4 from by
      unfold k0_pay22; rw [e]; rfl) x).trans (piece_head 128 rfl (k0_pay2 xs0 x2) x4 _ x _ ((ValueKit.rect_emb_unit_val _ _ _ x 0).trans (Nat.zero_add _)) (ValueKit.rect_emb_unit_val _ _ _ x 1)),
    fun x => (congrFun (show k0_pay21 (k0_pay2 xs0 x2) x4 = piece (extractStridedSlice S1024x128 ![0, 0] (k0_pay2 xs0 x2) slices_S1024x1024_o0_0_S1024x128) x4 from by
      unfold k0_pay21; rw [e]; rfl) x).trans (piece_head 0 rfl (k0_pay2 xs0 x2) x4 _ x _ ((ValueKit.rect_emb_unit_val _ _ _ x 0).trans (Nat.zero_add _)) (ValueKit.rect_emb_unit_val _ _ _ x 1)), fun p hp => absurd hp List.not_mem_nil⟩

/-! ## The arguments, and their blocks at a point -/

variable (m : (ℓ : Loc nD τ sig) → Buf (Elt Ideal) ℓ) (c : Dev nD)

abbrev argX : Tok.Idx → EReal := m ((c.tc : Thread nD τ).loc main_arg0)
abbrev argG : Gain.Idx → EReal := m ((c.tc : Thread nD τ).loc main_arg1)
abbrev argW : Wt.Idx → EReal := m ((c.tc : Thread nD τ).loc main_arg2)
abbrev argQ : HGain.Idx → EReal := m ((c.tc : Thread nD τ).loc main_arg3)
abbrev argK : HGain.Idx → EReal := m ((c.tc : Thread nD τ).loc main_arg4)

theorem V_0 (i : S16384x2048.Idx) : V m c main_v0 i = at3 (argX m c) ((i 0).val / 4096) ((i 0).val % 4096) (i 1).val := by
  have h : V m c main_v0 = (shapeCast S16384x2048 (argX m c) shapeCasts_S4x4096x2048_S16384x2048 : S16384x2048.Idx → EReal) := by
    simp only [V, hostOps0]
    after_results_simp
    all_goals rfl
  exact (congrFun h i).trans (rows_apply _ _ i)

theorem V_2 : V m c main_v2 = argW m c := by
  simp only [V, hostOps0]
  after_results_simp
  all_goals rfl

theorem V_1 (i : S1x2048.Idx) : V m c main_v1 i = at1 (argG m c) (i 1).val := by
  have h : V m c main_v1 = (shapeCast S1x2048 (argG m c) shapeCasts_S2048_S1x2048 : S1x2048.Idx → EReal) := by
    simp only [V, hostOps0]
    after_results_simp
    all_goals rfl
  exact (congrFun h i).trans (row_apply _ _ i)

theorem V_3 (i : S1x128.Idx) : V m c main_v3 i = at1 (argQ m c) (i 1).val := by
  have h : V m c main_v3 = (shapeCast S1x128 (argQ m c) shapeCasts_S128_S1x128 : S1x128.Idx → EReal) := by
    simp only [V, hostOps0]
    after_results_simp
    all_goals rfl
  exact (congrFun h i).trans (row_apply _ _ i)

theorem V_4 (i : S1x128.Idx) : V m c main_v4 i = at1 (argK m c) (i 1).val := by
  have h : V m c main_v4 = (shapeCast S1x128 (argK m c) shapeCasts_S128_S1x128 : S1x128.Idx → EReal) := by
    simp only [V, hostOps0]
    after_results_simp
    all_goals rfl
  exact (congrFun h i).trans (row_apply _ _ i)

theorem index_0 : ∀ t : Fin cfg0.N, win0_0.index t 0 = t.val / 10 ∧ win0_0.index t 1 = 0 := (by decide +kernel : ∀ t : Fin grid0.N, _ ∧ _)
theorem index_1 : ∀ t : Fin cfg0.N, win0_1.index t 0 = 0 ∧ win0_1.index t 1 = 0 := (by decide +kernel : ∀ t : Fin grid0.N, _ ∧ _)
theorem index_2 : ∀ t : Fin cfg0.N, win0_2.index t 0 = 0 ∧ win0_2.index t 1 = t.val % 10 := (by decide +kernel : ∀ t : Fin grid0.N, _ ∧ _)
theorem index_3 : ∀ t : Fin cfg0.N, win0_3.index t 0 = 0 ∧ win0_3.index t 1 = 0 := (by decide +kernel : ∀ t : Fin grid0.N, _ ∧ _)
theorem index_4 : ∀ t : Fin cfg0.N, win0_4.index t 0 = 0 ∧ win0_4.index t 1 = 0 := (by decide +kernel : ∀ t : Fin grid0.N, _ ∧ _)
theorem index_5 : ∀ t : Fin cfg0.N, win0_5.index t 0 = t.val / 10 ∧ win0_5.index t 1 = t.val % 10 := (by decide +kernel : ∀ t : Fin grid0.N, _ ∧ _)

/-- The token of a row of a point's block, and the column of a column of it. -/
abbrev tok (t r : ℕ) : ℕ := t / 10 * 1024 + r
abbrev col (t d : ℕ) : ℕ := t % 10 * 1024 + d

theorem iblk_0 (t : Fin cfg0.N) (x : S1024x2048.Idx) : iblk m c 0 t x = at3 (argX m c) (tok t.val (x 0).val / 4096) (tok t.val (x 0).val % 4096) (x 1).val := by
  unfold iblk
  rw [View.read_apply]
  refine (V_0 m c _).trans ?_
  have e0 : ((((cfg0.win 0).blk t).view.emb x : S16384x2048.Idx) 0).val = tok t.val (x 0).val := by
    show win0_0.index t 0 * 1024 + 1 * (x 0).val = t.val / 10 * 1024 + (x 0).val; rw [(index_0 t).1]; omega
  have e1 : ((((cfg0.win 0).blk t).view.emb x : S16384x2048.Idx) 1).val = (x 1).val := by
    show win0_0.index t 1 * 2048 + 1 * (x 1).val = _; rw [(index_0 t).2]; omega
  rw [e0, e1]

theorem iblk_2 (t : Fin cfg0.N) (x : S2048x1024.Idx) : iblk m c 2 t x = at2 (argW m c) (x 0).val (col t.val (x 1).val) := by
  unfold iblk
  rw [View.read_apply]
  refine (congrFun (V_2 m c) _).trans (eq_at2 _ _ _ _ ?_ ?_)
  · show win0_2.index t 0 * 2048 + 1 * (x 0).val = _; rw [(index_2 t).1]; omega
  · show win0_2.index t 1 * 1024 + 1 * (x 1).val = t.val % 10 * 1024 + (x 1).val; rw [(index_2 t).2]; omega

theorem iblk_1 (t : Fin cfg0.N) (x : S1x2048.Idx) : iblk m c 1 t x = at1 (argG m c) (x 1).val := by
  unfold iblk
  rw [View.read_apply]
  refine (V_1 m c _).trans ?_
  have e1 : ((((cfg0.win 1).blk t).view.emb x : S1x2048.Idx) 1).val = (x 1).val := by
    show win0_1.index t 1 * 2048 + 1 * (x 1).val = _; rw [(index_1 t).2]; omega
  rw [e1]

theorem iblk_3 (t : Fin cfg0.N) (x : S1x128.Idx) : iblk m c 3 t x = at1 (argQ m c) (x 1).val := by
  unfold iblk
  rw [View.read_apply]
  refine (V_3 m c _).trans ?_
  have e1 : ((((cfg0.win 3).blk t).view.emb x : S1x128.Idx) 1).val = (x 1).val := by
    show win0_3.index t 1 * 128 + 1 * (x 1).val = _; rw [(index_3 t).2]; omega
  rw [e1]

theorem iblk_4 (t : Fin cfg0.N) (x : S1x128.Idx) : iblk m c 4 t x = at1 (argK m c) (x 1).val := by
  unfold iblk
  rw [View.read_apply]
  refine (V_4 m c _).trans ?_
  have e1 : ((((cfg0.win 4).blk t).view.emb x : S1x128.Idx) 1).val = (x 1).val := by
    show win0_4.index t 1 * 128 + 1 * (x 1).val = _; rw [(index_4 t).2]; omega
  rw [e1]

/-! ## The carried norm, and the block a point leaves -/

/-- The norms and the projections of the arguments. -/
abbrev nrm : ℕ → ℕ → ℕ → EReal := xn (argX m c) (argG m c)
abbrev prj : ℕ → ℕ → ℕ → EReal := proj (argX m c) (argG m c) (argW m c)

theorem norm_apply (t : Fin cfg0.N) (r : Fin 1024) (k : Fin 2048) : k0_pay1 (iblk m c 0 t) (iblk m c 1 t) (ix2 r k)
    = nrm m c (tok t.val r.val / 4096) (tok t.val r.val % 4096) k.val := by
  refine (pay1_apply _ _ _ _).trans (congrArg₂ (· * ·) (congrArg₂ (· * ·) (iblk_0 m c t _) (congrArg Ideal.rsqrt ?_)) (iblk_1 m c t _))
  refine congrArg (fun z => Ideal.div z (Ideal.ofBits .f32 0x45000000#32) + Ideal.ofBits .f32 0x358637BD#32) ?_
  exact sum_axis _ (fun k => at3 (argX m c) (tok t.val r.val / 4096) (tok t.val r.val % 4096) k * at3 (argX m c) (tok t.val r.val / 4096) (tok t.val r.val % 4096) k)
    fun k => congrArg₂ (· * ·) (iblk_0 m c t _) (iblk_0 m c t _)

/-- After each point the scratch holds the norms of the point's rows. -/
theorem carried (n : ℕ) : ∀ (hn : n < cfg0.N) (r : Fin 1024) (k : Fin 2048), (outsAt0 m c n hn).2 (ix2 r k)
    = nrm m c (tok n r.val / 4096) (tok n r.val % 4096) k.val := by
  induction n with
  | zero => intro hn r k
            rw [outsAt0_A m c ⟨0, hn⟩ rfl (by simp) (by simp) (by simp) (by simp)]
            rw [scratch_A]
            exact norm_apply m c ⟨0, hn⟩ r k
  | succ n ih =>
    intro hn r k
    have hN : n + 1 < 160 := lt_of_lt_of_eq hn (show cfg0.N = 160 from N_0)
    by_cases h0 : (n + 1) % 10 = 0
    · rw [outsAt0_A m c ⟨n + 1, hn⟩ h0 (by dsimp only; omega) (by dsimp only; omega) (by dsimp only; omega) (by dsimp only; omega)]
      rw [scratch_A]
      exact norm_apply m c ⟨n + 1, hn⟩ r k
    · have hp : (outsAt0 m c (n + 1) hn).2 = (outsAt0 m c n (Nat.lt_of_succ_lt hn)).2 := by
        by_cases h1 : (n + 1) % 10 = 3
        · rw [outsAt0_C m c ⟨n + 1, hn⟩ h0 h1 (by dsimp only; omega) (by dsimp only; omega) (by dsimp only; omega)]; rfl
        by_cases h2 : (n + 1) % 10 = 4
        · rw [outsAt0_D m c ⟨n + 1, hn⟩ h0 h1 h2 (by dsimp only; omega) (by dsimp only; omega)]; rfl
        by_cases h3 : 6 ≤ (n + 1) % 10
        · rw [outsAt0_E m c ⟨n + 1, hn⟩ h0 h1 h2 h3 (by dsimp only; omega)]; rfl
        · rw [outsAt0_B m c ⟨n + 1, hn⟩ h0 h1 h2 h3 (by dsimp only; omega)]; rfl
      rw [hp, ih (Nat.lt_of_succ_lt hn) r k]
      have e : n / 10 = (n + 1) / 10 := by omega
      show nrm m c ((n / 10 * 1024 + r.val) / 4096) ((n / 10 * 1024 + r.val) % 4096) k.val
        = nrm m c (((n + 1) / 10 * 1024 + r.val) / 4096) (((n + 1) / 10 * 1024 + r.val) % 4096) k.val
      rw [e]

/-- The projected tile of a point. -/
theorem tile_apply (t : Fin cfg0.N) (r d : Fin 1024) : k0_pay2 (outsAt0 m c t.val t.isLt).2 (iblk m c 2 t) (ix2 r d)
    = prj m c (tok t.val r.val / 4096) (tok t.val r.val % 4096) (col t.val d.val) := by
  refine (pay2_apply _ _ _ _).trans ?_
  exact sum_axis _ _ fun k => congrArg₂ (· * ·) (carried m c t.val t.isLt r k) (iblk_2 m c t _)

/-- The block a point leaves, of the norms its scratch holds. -/
theorem block_apply (t : Fin cfg0.N) (r d : Fin 1024) : (outsAt0 m c t.val t.isLt).1 (ix2 r d)
    = out (argX m c) (argG m c) (argW m c) (argQ m c) (argK m c) (tok t.val r.val / 4096) (tok t.val r.val % 4096) (col t.val d.val) := by
  have hd : d.val < 1024 := d.isLt
  have ht : t.val % 10 < 10 := Nat.mod_lt _ (by decide)
  have hcol : col t.val d.val = t.val % 10 * 1024 + d.val := rfl
  have plain : (col t.val d.val < 3072 ∨ (5120 ≤ col t.val d.val ∧ col t.val d.val < 6144)) →
      prj m c (tok t.val r.val / 4096) (tok t.val r.val % 4096) (col t.val d.val)
        = out (argX m c) (argG m c) (argW m c) (argQ m c) (argK m c) (tok t.val r.val / 4096) (tok t.val r.val % 4096) (col t.val d.val) := fun h => by
    unfold out cols
    rcases h with h | ⟨h, h'⟩
    · rw [if_pos h]
    · rw [if_neg (by omega), if_neg (by omega), if_neg (by omega), if_pos h']
  have row : ∀ d, d < 1024 → at2 (k0_pay2 (outsAt0 m c t.val t.isLt).2 (iblk m c 2 t)) r.val d
      = prj m c (tok t.val r.val / 4096) (tok t.val r.val % 4096) (t.val % 10 * 1024 + d) := fun d hd =>
    (eq_at2 _ (ix2 r (⟨d, hd⟩ : Fin 1024)) _ _ rfl rfl).symm.trans (tile_apply m c t r ⟨d, hd⟩)
  by_cases h0 : t.val % 10 = 0
  · have e : (outsAt0 m c t.val t.isLt).1 = k0_pay10 (outsAt0 m c t.val t.isLt).2 (iblk m c 2 t) := by
      rw [outsAt0_A m c t h0 (by omega) (by omega) (by omega) (by omega)]
      dsimp only
      rw [scratch_A, out_A]
    rw [e, pay10_apply]
    exact (tile_apply m c t r d).trans (plain (by omega))
  by_cases h1 : t.val % 10 = 3
  · have e : (outsAt0 m c t.val t.isLt).1 = headed (k0_pay2 (outsAt0 m c t.val t.isLt).2 (iblk m c 2 t)) (iblk m c 3 t) := by
      rw [outsAt0_C m c t h0 h1 (by omega) (by omega) (by omega)]
      dsimp only
      rw [out_C]
      rfl
    rw [e]
    unfold out cols
    rw [if_neg (by omega), if_pos (by omega), hcol]
    exact head_shift _ _ _ _ _ 1024 (by omega) rfl row (fun d hd => (eq_at2 _ (ix2 (0 : Fin 1) (⟨d, hd⟩ : Fin 128)) _ _ rfl rfl).symm.trans (iblk_3 m c t _)) _ hd
  by_cases h2 : t.val % 10 = 4
  · have e : (outsAt0 m c t.val t.isLt).1 = headed (k0_pay2 (outsAt0 m c t.val t.isLt).2 (iblk m c 2 t)) (iblk m c 4 t) := by
      rw [outsAt0_D m c t h0 h1 h2 (by omega) (by omega)]
      dsimp only
      rw [out_D]
      rfl
    rw [e]
    unfold out cols
    rw [if_neg (by omega), if_neg (by omega), if_pos (by omega), hcol]
    exact head_shift _ _ _ _ _ 1024 (by omega) rfl row (fun d hd => (eq_at2 _ (ix2 (0 : Fin 1) (⟨d, hd⟩ : Fin 128)) _ _ rfl rfl).symm.trans (iblk_4 m c t _)) _ hd
  by_cases h3 : 6 ≤ t.val % 10
  · have e : (outsAt0 m c t.val t.isLt).1 = k0_pay9 (outsAt0 m c t.val t.isLt).2 (iblk m c 2 t) := by
      rw [outsAt0_E m c t h0 h1 h2 h3 (by omega)]
      dsimp only
      rw [out_E]
      rfl
    rw [e, pay9_apply]
    unfold out cols
    rw [if_neg (by omega), if_neg (by omega), if_neg (by omega), if_neg (by omega)]
    exact congrArg Ideal.logistic (tile_apply m c t r d)
  · have e : (outsAt0 m c t.val t.isLt).1 = k0_pay10 (outsAt0 m c t.val t.isLt).2 (iblk m c 2 t) := by
      rw [outsAt0_B m c t h0 h1 h2 h3 (by omega)]
      dsimp only
      rw [out_B]
      rfl
    rw [e, pay10_apply]
    exact (tile_apply m c t r d).trans (plain (by omega))

/-- The result at every index. -/
def result : S16384x10240.Idx → EReal := fun i =>
  out (argX m c) (argG m c) (argW m c) (argQ m c) (argK m c) ((i 0).val / 4096) ((i 0).val % 4096) (i 1).val

theorem blk_5_val (t : Fin cfg0.N) (x : S1024x1024.Idx) :
    ((((cfg0.win 5).blk t).view.emb x : S16384x10240.Idx) 0).val = tok t.val (x 0).val
    ∧ ((((cfg0.win 5).blk t).view.emb x : S16384x10240.Idx) 1).val = col t.val (x 1).val := by
  refine ⟨?_, ?_⟩
  · show win0_5.index t 0 * 1024 + 1 * (x 0).val = t.val / 10 * 1024 + (x 0).val; rw [(index_5 t).1]; omega
  · show win0_5.index t 1 * 1024 + 1 * (x 1).val = t.val % 10 * 1024 + (x 1).val; rw [(index_5 t).2]; omega

theorem flushed (t : Fin cfg0.N) : (dats m 0 c).flushed 5 t = ((cfg0.win 5).blk t).view.read (Elt Ideal) (result m c) := by
  rw [Value.flushed5]
  show (outsAt0 m c t.val t.isLt).1 = _
  funext x
  rw [View.read_apply]
  refine (congrArg (outsAt0 m c t.val t.isLt).1 (ValueIdx.eq_ix2 x)).trans ?_
  refine (block_apply m c t _ _).trans ?_
  obtain ⟨e0, e1⟩ := blk_5_val t x
  show _ = out (argX m c) (argG m c) (argW m c) (argQ m c) (argK m c) (((((cfg0.win 5).blk t).view.emb x : S16384x10240.Idx) 0).val / 4096)
    (((((cfg0.win 5).blk t).view.emb x : S16384x10240.Idx) 0).val % 4096) ((((cfg0.win 5).blk t).view.emb x : S16384x10240.Idx) 1).val
  rw [e0, e1]

theorem covers (i : S16384x10240.Idx) : ∃ t : Fin cfg0.N, (cfg0.win 5).flush t = true ∧ i ∈ ((cfg0.win 5).blk t).view.set := by
  have h0 : (i 0).val < 16384 := (i 0).isLt
  have h1 : (i 1).val < 10240 := (i 1).isLt
  have hN : cfg0.N = 160 := N_0
  let t : Fin cfg0.N := ⟨(i 0).val / 1024 * 10 + (i 1).val / 1024, by rw [hN]; omega⟩
  let x : S1024x1024.Idx := ix2 (⟨(i 0).val % 1024, Nat.mod_lt _ (by decide)⟩ : Fin 1024) (⟨(i 1).val % 1024, Nat.mod_lt _ (by decide)⟩ : Fin 1024)
  obtain ⟨e0, e1⟩ := blk_5_val t x
  have e : ((cfg0.win 5).blk t).view.emb x = i := by
    refine funext fun a => Fin.ext ?_
    match a with
    | ⟨0, _⟩ => refine e0.trans ?_; show ((i 0).val / 1024 * 10 + (i 1).val / 1024) / 10 * 1024 + (i 0).val % 1024 = (i 0).val; omega
    | ⟨1, _⟩ => refine e1.trans ?_; show ((i 0).val / 1024 * 10 + (i 1).val / 1024) % 10 * 1024 + (i 1).val % 1024 = (i 1).val; omega
  exact ⟨t, flush0_5 t, (congrArg (· ∈ ((cfg0.win 5).blk t).view.set) e).mp (View.emb_mem_set _ _)⟩

theorem final (m : (ℓ : Loc nD τ sig) → Buf (Elt Ideal) ℓ) (c : Dev nD) : (dats m 0 c).arrAt 5 cfg0.N = result m c :=
  (dats m 0 c).arrAt_eq_of_cover 5 (result m c) (fun t _ => flushed m c t) covers

end kernel

theorem frame_k : Cert.quiescent_Kernel3 := fun m ρ _ => Cert.Kernel3.Gen.frame m ρ
theorem frame_ki : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem algebraic : Cert.algebraic_Kernel3Ideal_Reference3Ideal := fun m g m' g' _ hargs =>
  ⟨fun c => result m c, (θ_run Cert.Kernel3Ideal.defs _ _).mono (fun r h c => ⟨(h c).1.trans (final m c), (h c).2⟩)
    (Cert.Kernel3Ideal.Value.run_blocks m g),
   (θ_run Cert.Reference3Ideal.defs _ _).mono (fun r h c => by
      obtain ⟨a0, a1, a2, a3, a4⟩ := hargs c
      refine ⟨(h c).1.trans ((Cert.Reference3Ideal.Read.val_main_v57_eq _ _).trans (funext fun i => ?_)), (h c).2⟩
      rw [a0, a1, a2, a3, a4]
      exact ref_apply _ _ _ _ _ i) (Cert.Reference3Ideal.Value.run m' g')⟩

end Cert.Proof.InProj

end
-- ==== Proof.Merge.lean ====
/-
  The gated merge call against reference.py's.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Norm
public import Idealize.ShloMosaic.Lib.Pointwise
public import Idealize.ShloMosaic.Lib.Pointwise.IndexBridge

@[expose] public section

set_option maxRecDepth 8192

noncomputable section

namespace Cert.Proof.Merge

open Cert.Proof.Arrays
open Idealize.ShloMosaic hiding ix0 ix1 ix2 ix3 ix4 ix5
open Idealize.ShloMosaic.ValueIdx
open Idealize.SL.Sem
open scoped BigOperators

abbrev Tok : Shape := ⟨3, ![4, 4096, 1024]⟩
abbrev Wide : Shape := ⟨3, ![4, 4096, 10240]⟩
abbrev Wt : Shape := ⟨2, ![1024, 2048]⟩

/-- One product of a token of a branch with a column of its weight. -/
def lin (A : Tok.Idx → EReal) (W : Wt.Idx → EReal) (b s d : ℕ) : EReal := ∑ k ∈ Finset.range 1024, at3 A b s k * at2 W k d

/-- One element of the result. -/
def out (A : Tok.Idx → EReal) (WA : Wt.Idx → EReal) (B : Tok.Idx → EReal) (WB : Wt.Idx → EReal) (P : Wide.Idx → EReal) (b s d : ℕ) : EReal :=
  at3 P b s (6144 + d) * lin A WA b s d + at3 P b s (8192 + d) * lin B WB b s d

section reference

open Cert.Reference4Ideal Cert.Reference4Ideal.Gen Cert.Reference4Ideal.Read

variable (A B : (⟨S4x4096x1024, .f32⟩ : BufTy).Contents (Elt Ideal)) (WA WB : (⟨S1024x2048, .f32⟩ : BufTy).Contents (Elt Ideal))
  (P : (⟨S4x4096x10240, .f32⟩ : BufTy).Contents (Elt Ideal))

theorem ref_v2 (i : S4x4096x2048.Idx) : val_main_v2 (F := Ideal) A WA i = lin A WA (i 0).val (i 1).val (i 2).val := by
  rw [val_main_v2_apply]
  exact sum_axis _ _ fun k => congrArg₂ (· * ·) (eq_at3 A _ _ _ _ rfl rfl rfl) (eq_at2 WA _ _ _ rfl rfl)

theorem ref_v4 (i : S4x4096x2048.Idx) : val_main_v4 (F := Ideal) B WB i = lin B WB (i 0).val (i 1).val (i 2).val := by
  rw [val_main_v4_apply]
  exact sum_axis _ _ fun k => congrArg₂ (· * ·) (eq_at3 B _ _ _ _ rfl rfl rfl) (eq_at2 WB _ _ _ rfl rfl)

theorem ref_v6 (i : S4x4096x2048.Idx) : val_main_v6 (F := Ideal) A WA B WB P i = out A WA B WB P (i 0).val (i 1).val (i 2).val := by
  rw [val_main_v6_apply, val_main_v5_apply, val_main_v3_apply, val_main_v1_apply, val_main_v0_apply, ref_v2, ref_v4]
  exact congrArg₂ (· + ·) (congrArg (· * _) (eq_at3 P _ _ _ _ rfl rfl rfl)) (congrArg (· * _) (eq_at3 P _ _ _ _ rfl rfl rfl))

theorem ref_apply (i : S16384x2048.Idx) : val_main_v8 (F := Ideal) A WA B WB P i = out A WA B WB P ((i 0).val / 4096) ((i 0).val % 4096) (i 1).val := by
  have h0 : (i 0).val < 16384 := (i 0).isLt
  have h1 : (i 1).val < 2048 := (i 1).isLt
  rw [val_main_v8_apply, val_main_v7_apply]
  have e0 : ((i 0).val * 2048 + (i 1).val) / 8388608 = (i 0).val / 4096 := by omega
  have e1 : ((i 0).val * 2048 + (i 1).val) / 2048 % 4096 = (i 0).val % 4096 := by omega
  have e2 : ((i 0).val * 2048 + (i 1).val) % 2048 = (i 1).val := by omega
  refine (ref_v6 A B WA WB P _).trans ?_
  show out A WA B WB P (((i 0).val * 2048 + (i 1).val) / 8388608) (((i 0).val * 2048 + (i 1).val) / 2048 % 4096) (((i 0).val * 2048 + (i 1).val) % 2048) = _
  rw [e0, e1, e2]

end reference

section kernel

open Cert.Kernel4Ideal Cert.Kernel4Ideal.Gen

variable (m : (ℓ : Loc nD τ sig) → Buf (Elt Ideal) ℓ) (c : Dev nD)

abbrev argA : Tok.Idx → EReal := m ((c.tc : Thread nD τ).loc main_arg0)
abbrev argWA : Wt.Idx → EReal := m ((c.tc : Thread nD τ).loc main_arg1)
abbrev argB : Tok.Idx → EReal := m ((c.tc : Thread nD τ).loc main_arg2)
abbrev argWB : Wt.Idx → EReal := m ((c.tc : Thread nD τ).loc main_arg3)
abbrev argP : Wide.Idx → EReal := m ((c.tc : Thread nD τ).loc main_arg4)

theorem V_1 (i : S16384x1024.Idx) : V m c main_v1 i = at3 (argA m c) ((i 0).val / 4096) ((i 0).val % 4096) (i 1).val := by
  have h : V m c main_v1 = (shapeCast S16384x1024 (argA m c) shapeCasts_S4x4096x1024_S16384x1024 : S16384x1024.Idx → EReal) := by
    simp only [V, hostOps0]
    after_results_simp
    all_goals rfl
  exact (congrFun h i).trans (rows_apply _ _ i)

theorem V_4 (i : S16384x1024.Idx) : V m c main_v4 i = at3 (argB m c) ((i 0).val / 4096) ((i 0).val % 4096) (i 1).val := by
  have h : V m c main_v4 = (shapeCast S16384x1024 (argB m c) shapeCasts_S4x4096x1024_S16384x1024 : S16384x1024.Idx → EReal) := by
    simp only [V, hostOps0]
    after_results_simp
    all_goals rfl
  exact (congrFun h i).trans (rows_apply _ _ i)

theorem V_7 (i : S16384x10240.Idx) : V m c main_v7 i = at3 (argP m c) ((i 0).val / 4096) ((i 0).val % 4096) (i 1).val := by
  have h : V m c main_v7 = (shapeCast S16384x10240 (argP m c) shapeCasts_S4x4096x10240_S16384x10240 : S16384x10240.Idx → EReal) := by
    simp only [V, hostOps0]
    after_results_simp
    all_goals rfl
  exact (congrFun h i).trans (rows_apply _ _ i)

theorem V_2 : V m c main_v2 = argWA m c := by
  simp only [V, hostOps0]
  after_results_simp
  all_goals rfl

theorem V_5 : V m c main_v5 = argWB m c := by
  simp only [V, hostOps0]
  after_results_simp
  all_goals rfl

theorem index_0 : ∀ t : Fin cfg0.N, win0_0.index t 0 = t.val / 2 ∧ win0_0.index t 1 = 0 := (by decide +kernel : ∀ t : Fin grid0.N, _ ∧ _)
theorem index_1 : ∀ t : Fin cfg0.N, win0_1.index t 0 = 0 ∧ win0_1.index t 1 = t.val % 2 := (by decide +kernel : ∀ t : Fin grid0.N, _ ∧ _)
theorem index_2 : ∀ t : Fin cfg0.N, win0_2.index t 0 = t.val / 2 ∧ win0_2.index t 1 = 0 := (by decide +kernel : ∀ t : Fin grid0.N, _ ∧ _)
theorem index_3 : ∀ t : Fin cfg0.N, win0_3.index t 0 = 0 ∧ win0_3.index t 1 = t.val % 2 := (by decide +kernel : ∀ t : Fin grid0.N, _ ∧ _)
theorem index_4 : ∀ t : Fin cfg0.N, win0_4.index t 0 = t.val / 2 ∧ win0_4.index t 1 = 6 + t.val % 2 := (by decide +kernel : ∀ t : Fin grid0.N, _ ∧ _)
theorem index_5 : ∀ t : Fin cfg0.N, win0_5.index t 0 = t.val / 2 ∧ win0_5.index t 1 = 8 + t.val % 2 := (by decide +kernel : ∀ t : Fin grid0.N, _ ∧ _)
theorem index_6 : ∀ t : Fin cfg0.N, win0_6.index t 0 = t.val / 2 ∧ win0_6.index t 1 = t.val % 2 := (by decide +kernel : ∀ t : Fin grid0.N, _ ∧ _)

/-- The token of a row of a point's block. -/
abbrev tok (t r : ℕ) : ℕ := t / 2 * 1024 + r
/-- The column of a column of a point's block. -/
abbrev col (t d : ℕ) : ℕ := t % 2 * 1024 + d

theorem iblk_0 (t : Fin cfg0.N) (x : S1024x1024.Idx) : iblk m c 0 t x = at3 (argA m c) (tok t.val (x 0).val / 4096) (tok t.val (x 0).val % 4096) (x 1).val := by
  unfold iblk
  rw [View.read_apply]
  refine (V_1 m c _).trans ?_
  have e0 : ((((cfg0.win 0).blk t).view.emb x : S16384x1024.Idx) 0).val = tok t.val (x 0).val := by
    show win0_0.index t 0 * 1024 + 1 * (x 0).val = t.val / 2 * 1024 + (x 0).val; rw [(index_0 t).1]; omega
  have e1 : ((((cfg0.win 0).blk t).view.emb x : S16384x1024.Idx) 1).val = (x 1).val := by
    show win0_0.index t 1 * 1024 + 1 * (x 1).val = _; rw [(index_0 t).2]; omega
  rw [e0, e1]

theorem iblk_2 (t : Fin cfg0.N) (x : S1024x1024.Idx) : iblk m c 2 t x = at3 (argB m c) (tok t.val (x 0).val / 4096) (tok t.val (x 0).val % 4096) (x 1).val := by
  unfold iblk
  rw [View.read_apply]
  refine (V_4 m c _).trans ?_
  have e0 : ((((cfg0.win 2).blk t).view.emb x : S16384x1024.Idx) 0).val = tok t.val (x 0).val := by
    show win0_2.index t 0 * 1024 + 1 * (x 0).val = t.val / 2 * 1024 + (x 0).val; rw [(index_2 t).1]; omega
  have e1 : ((((cfg0.win 2).blk t).view.emb x : S16384x1024.Idx) 1).val = (x 1).val := by
    show win0_2.index t 1 * 1024 + 1 * (x 1).val = _; rw [(index_2 t).2]; omega
  rw [e0, e1]

theorem iblk_4 (t : Fin cfg0.N) (x : S1024x1024.Idx) : iblk m c 4 t x = at3 (argP m c) (tok t.val (x 0).val / 4096) (tok t.val (x 0).val % 4096) (6144 + col t.val (x 1).val) := by
  unfold iblk
  rw [View.read_apply]
  refine (V_7 m c _).trans ?_
  have e0 : ((((cfg0.win 4).blk t).view.emb x : S16384x10240.Idx) 0).val = tok t.val (x 0).val := by
    show win0_4.index t 0 * 1024 + 1 * (x 0).val = t.val / 2 * 1024 + (x 0).val; rw [(index_4 t).1]; omega
  have e1 : ((((cfg0.win 4).blk t).view.emb x : S16384x10240.Idx) 1).val = 6144 + (t.val % 2 * 1024 + (x 1).val) := by
    show win0_4.index t 1 * 1024 + 1 * (x 1).val = _; rw [(index_4 t).2]; omega
  rw [e0, e1]

theorem iblk_5 (t : Fin cfg0.N) (x : S1024x1024.Idx) : iblk m c 5 t x = at3 (argP m c) (tok t.val (x 0).val / 4096) (tok t.val (x 0).val % 4096) (8192 + col t.val (x 1).val) := by
  unfold iblk
  rw [View.read_apply]
  refine (V_7 m c _).trans ?_
  have e0 : ((((cfg0.win 5).blk t).view.emb x : S16384x10240.Idx) 0).val = tok t.val (x 0).val := by
    show win0_5.index t 0 * 1024 + 1 * (x 0).val = t.val / 2 * 1024 + (x 0).val; rw [(index_5 t).1]; omega
  have e1 : ((((cfg0.win 5).blk t).view.emb x : S16384x10240.Idx) 1).val = 8192 + (t.val % 2 * 1024 + (x 1).val) := by
    show win0_5.index t 1 * 1024 + 1 * (x 1).val = _; rw [(index_5 t).2]; omega
  rw [e0, e1]

theorem iblk_1 (t : Fin cfg0.N) (x : S1024x1024.Idx) : iblk m c 1 t x = at2 (argWA m c) (x 0).val (col t.val (x 1).val) := by
  unfold iblk
  rw [View.read_apply]
  refine (congrFun (V_2 m c) _).trans (eq_at2 _ _ _ _ ?_ ?_)
  · show win0_1.index t 0 * 1024 + 1 * (x 0).val = _; rw [(index_1 t).1]; omega
  · show win0_1.index t 1 * 1024 + 1 * (x 1).val = t.val % 2 * 1024 + (x 1).val; rw [(index_1 t).2]; omega

theorem iblk_3 (t : Fin cfg0.N) (x : S1024x1024.Idx) : iblk m c 3 t x = at2 (argWB m c) (x 0).val (col t.val (x 1).val) := by
  unfold iblk
  rw [View.read_apply]
  refine (congrFun (V_5 m c) _).trans (eq_at2 _ _ _ _ ?_ ?_)
  · show win0_3.index t 0 * 1024 + 1 * (x 0).val = _; rw [(index_3 t).1]; omega
  · show win0_3.index t 1 * 1024 + 1 * (x 1).val = t.val % 2 * 1024 + (x 1).val; rw [(index_3 t).2]; omega

theorem pay_apply (a wa b wb ga gb : Vec Ideal S1024x1024 .bf16) (r d : Fin 1024) : k0_pay1 a wa b wb ga gb (ix2 r d)
    = ga (ix2 r d) * ∑ k : Fin 1024, a (ix2 r k) * wa (ix2 k d) + gb (ix2 r d) * ∑ k : Fin 1024, b (ix2 r k) * wb (ix2 k d) := by
  unfold k0_pay1
  pointwise
  simp only [ix2_eq_valueIdx]
  try rfl

/-- The result at every index. -/
def result : S16384x2048.Idx → EReal := fun i =>
  out (argA m c) (argWA m c) (argB m c) (argWB m c) (argP m c) ((i 0).val / 4096) ((i 0).val % 4096) (i 1).val

theorem point_apply (t : Fin cfg0.N) (y : S1024x1024.Idx) :
    k0_pay1 (iblk m c 0 t) (iblk m c 1 t) (iblk m c 2 t) (iblk m c 3 t) (iblk m c 4 t) (iblk m c 5 t) y
      = out (argA m c) (argWA m c) (argB m c) (argWB m c) (argP m c) (tok t.val (y 0).val / 4096) (tok t.val (y 0).val % 4096) (col t.val (y 1).val) := by
  refine (congrArg _ (ValueIdx.eq_ix2 y)).trans ?_
  refine (pay_apply _ _ _ _ _ _ _ _).trans (congrArg₂ (· + ·) (congrArg₂ (· * ·) (iblk_4 m c t _) ?_) (congrArg₂ (· * ·) (iblk_5 m c t _) ?_))
  · exact sum_axis _ _ fun k => congrArg₂ (· * ·) (iblk_0 m c t _) (iblk_1 m c t _)
  · exact sum_axis _ _ fun k => congrArg₂ (· * ·) (iblk_2 m c t _) (iblk_3 m c t _)

theorem blk_6_val (t : Fin cfg0.N) (x : S1024x1024.Idx) :
    ((((cfg0.win 6).blk t).view.emb x : S16384x2048.Idx) 0).val = tok t.val (x 0).val
    ∧ ((((cfg0.win 6).blk t).view.emb x : S16384x2048.Idx) 1).val = col t.val (x 1).val := by
  refine ⟨?_, ?_⟩
  · show win0_6.index t 0 * 1024 + 1 * (x 0).val = t.val / 2 * 1024 + (x 0).val; rw [(index_6 t).1]; omega
  · show win0_6.index t 1 * 1024 + 1 * (x 1).val = t.val % 2 * 1024 + (x 1).val; rw [(index_6 t).2]; omega

/-- What a point writes back is the result, read at its block. -/
theorem flushed_eq (t : Fin cfg0.N) : (dats m 0 c).flushed 6 t = ((cfg0.win 6).blk t).view.read (Elt Ideal) (result m c) := by
  rw [Value.flushed6]
  show out0_6 (iblk m c 0 t) (iblk m c 1 t) (iblk m c 2 t) (iblk m c 3 t) (iblk m c 4 t) (iblk m c 5 t) = _
  unfold out0_6
  rw [View.canon_unit_zero offsets_zero]
  simp only [View.ld_unit_zero (S := S1024x1024) offsets_zero]
  funext x
  rw [View.read_apply]
  refine (point_apply m c t x).trans ?_
  obtain ⟨e0, e1⟩ := blk_6_val t x
  show _ = out (argA m c) (argWA m c) (argB m c) (argWB m c) (argP m c) (((((cfg0.win 6).blk t).view.emb x : S16384x2048.Idx) 0).val / 4096)
    (((((cfg0.win 6).blk t).view.emb x : S16384x2048.Idx) 0).val % 4096) ((((cfg0.win 6).blk t).view.emb x : S16384x2048.Idx) 1).val
  rw [e0, e1]

theorem covers (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 32 := N_0
  let t : Fin cfg0.N := ⟨(i 0).val / 1024 * 2 + (i 1).val / 1024, by rw [hN]; omega⟩
  let x : S1024x1024.Idx := ix2 (⟨(i 0).val % 1024, Nat.mod_lt _ (by decide)⟩ : Fin 1024) (⟨(i 1).val % 1024, Nat.mod_lt _ (by decide)⟩ : Fin 1024)
  obtain ⟨e0, e1⟩ := blk_6_val t x
  have e : ((cfg0.win 6).blk t).view.emb x = i := by
    refine funext fun a => Fin.ext ?_
    match a with
    | ⟨0, _⟩ => refine e0.trans ?_; show ((i 0).val / 1024 * 2 + (i 1).val / 1024) / 2 * 1024 + (i 0).val % 1024 = (i 0).val; omega
    | ⟨1, _⟩ => refine e1.trans ?_; show ((i 0).val / 1024 * 2 + (i 1).val / 1024) % 2 * 1024 + (i 1).val % 1024 = (i 1).val; omega
  exact ⟨t, flush0_6 t, (congrArg (· ∈ ((cfg0.win 6).blk t).view.set) e).mp (View.emb_mem_set _ _)⟩

theorem final (m : (ℓ : Loc nD τ sig) → Buf (Elt Ideal) ℓ) (c : Dev nD) : (dats m 0 c).arrAt 6 cfg0.N = result m c :=
  (dats m 0 c).arrAt_eq_of_cover 6 (result m c) (fun t _ => flushed_eq m c t) covers

end kernel

theorem frame_k : Cert.quiescent_Kernel4 := fun m ρ _ => Cert.Kernel4.Gen.frame m ρ
theorem frame_ki : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic : Cert.algebraic_Kernel4Ideal_Reference4Ideal := fun m g m' g' _ hargs =>
  ⟨fun c => result m c, (θ_run Cert.Kernel4Ideal.defs _ _).mono (fun r h c => ⟨(h c).1.trans (final m c), (h c).2⟩) (Cert.Kernel4Ideal.Value.run_blocks m g),
   (θ_run Cert.Reference4Ideal.defs _ _).mono (fun r h c => ⟨by
      refine (h c).1.trans ((Cert.Reference4Ideal.Read.val_main_v8_eq _ _ _ _ _).trans (funext fun i => ?_))
      obtain ⟨a0, a1, a2, a3, a4⟩ := hargs c
      rw [a0, a1, a2, a3, a4]
      exact ref_apply _ _ _ _ _ i, (h c).2⟩) (Cert.Reference4Ideal.Value.run m' g')⟩

end Cert.Proof.Merge

end
-- ==== Proof.OutProj.lean ====
/-
  The output projection with its residual and second norm, against reference.py's.
-/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Norm
public import Idealize.ShloMosaic.Lib.Pointwise
public import Idealize.ShloMosaic.Lib.Pointwise.IndexBridge

@[expose] public section

set_option maxRecDepth 8192

noncomputable section

namespace Cert.Proof.OutProj

open Cert.Proof.Arrays
open Idealize.ShloMosaic hiding ix0 ix1 ix2 ix3 ix4 ix5
open Idealize.ShloMosaic.ValueIdx
open Idealize.SL.Sem
open scoped BigOperators

abbrev Tok : Shape := ⟨3, ![4, 4096, 2048]⟩
abbrev Wt : Shape := ⟨2, ![2048, 2048]⟩
abbrev Gain : Shape := ⟨1, ![2048]⟩

/-- One element of the stream after the residual sum. -/
def stream (M : Tok.Idx → EReal) (W : Wt.Idx → EReal) (X : Tok.Idx → EReal) (b s d : ℕ) : EReal :=
  at3 X b s d + ∑ k ∈ Finset.range 2048, at3 M b s k * at2 W k d

/-- One element of its norm. -/
def normed (M : Tok.Idx → EReal) (W : Wt.Idx → EReal) (X : Tok.Idx → EReal) (G : Gain.Idx → EReal) (b s d : ℕ) : EReal :=
  norm 2048 (Ideal.ofBits .f32 0x45000000#32) (stream M W X b s) d * at1 G d

section reference

open Cert.Reference5Ideal Cert.Reference5Ideal.Gen Cert.Reference5Ideal.Read

variable (M X : (⟨S4x4096x2048, .f32⟩ : BufTy).Contents (Elt Ideal)) (W : (⟨S2048x2048, .f32⟩ : BufTy).Contents (Elt Ideal))
  (G : (⟨S2048, .f32⟩ : BufTy).Contents (Elt Ideal))

theorem ref_v1 (i : S4x4096x2048.Idx) : val_main_v1 (F := Ideal) M W X i = stream M W X (i 0).val (i 1).val (i 2).val := by
  rw [val_main_v1_apply, val_main_v0_apply]
  exact congrArg₂ (· + ·) (eq_at3 X _ _ _ _ rfl rfl rfl)
    (sum_axis _ _ fun k => congrArg₂ (· * ·) (eq_at3 M _ _ _ _ rfl rfl rfl) (eq_at2 W _ _ _ rfl rfl))

theorem ref_v9 (i : S4x4096x1.Idx) : val_main_v9 (F := Ideal) M W X i = Ideal.rsqrt (Ideal.div
    (∑ k ∈ Finset.range 2048, stream M W X (i 0).val (i 1).val k * stream M W X (i 0).val (i 1).val k) (Ideal.ofBits .f32 0x45000000#32) + Ideal.ofBits .f32 0x358637BD#32) := by
  rw [val_main_v9_apply, val_main_v8_apply, val_main_v6_apply, val_main_v4_apply, val_main_v3_apply, val_main_v5_apply, val_main_v7_apply,
    val_main_cst_apply, val_main_cst_0_apply, val_main_cst_1_apply]
  have e : ∀ k : Fin 2048, val_main_v2 (F := Ideal) M W X (idx_main_v3 (idx_main_v4 i) k)
      = stream M W X (i 0).val (i 1).val k.val * stream M W X (i 0).val (i 1).val k.val := fun k => by
    rw [val_main_v2_apply, ref_v1]; rfl
  refine congrArg Ideal.rsqrt (congrArg (fun z => Ideal.div z (Ideal.ofBits .f32 0x45000000#32) + Ideal.ofBits .f32 0x358637BD#32) ?_)
  refine (congrArg₂ (· + ·) Ideal.ofBits_zero_f32 (sum_axis _ (fun k => stream M W X (i 0).val (i 1).val k * stream M W X (i 0).val (i 1).val k) e)).trans ?_
  exact zero_add _

theorem ref_v14 (i : S4x4096x2048.Idx) : val_main_v14 (F := Ideal) M W X G i = normed M W X G (i 0).val (i 1).val (i 2).val := by
  rw [val_main_v14_apply, val_main_v11_apply, val_main_v10_apply, val_main_v13_apply, val_main_v12_apply, ref_v1, ref_v9]
  exact congrArg (_ * ·) (eq_at1 G _ _ rfl)

theorem row_index (i : S16384x2048.Idx) : ((i 0).val * 2048 + (i 1).val) / 8388608 = (i 0).val / 4096
    ∧ ((i 0).val * 2048 + (i 1).val) / 2048 % 4096 = (i 0).val % 4096 ∧ ((i 0).val * 2048 + (i 1).val) % 2048 = (i 1).val := by
  have h0 : (i 0).val < 16384 := (i 0).isLt
  have h1 : (i 1).val < 2048 := (i 1).isLt
  omega

theorem ref_stream (i : S16384x2048.Idx) : val_main_v15 (F := Ideal) M W X i = stream M W X ((i 0).val / 4096) ((i 0).val % 4096) (i 1).val := by
  obtain ⟨e0, e1, e2⟩ := row_index i
  rw [val_main_v15_apply]
  refine (ref_v1 M X W _).trans ?_
  show stream M W X (((i 0).val * 2048 + (i 1).val) / 8388608) (((i 0).val * 2048 + (i 1).val) / 2048 % 4096) (((i 0).val * 2048 + (i 1).val) % 2048) = _
  rw [e0, e1, e2]

theorem ref_normed (i : S16384x2048.Idx) : val_main_v17 (F := Ideal) M W X G i = normed M W X G ((i 0).val / 4096) ((i 0).val % 4096) (i 1).val := by
  obtain ⟨e0, e1, e2⟩ := row_index i
  rw [val_main_v17_apply, val_main_v16_apply]
  refine (ref_v14 M X W G _).trans ?_
  show normed M W X G (((i 0).val * 2048 + (i 1).val) / 8388608) (((i 0).val * 2048 + (i 1).val) / 2048 % 4096) (((i 0).val * 2048 + (i 1).val) % 2048) = _
  rw [e0, e1, e2]

end reference

section kernel

open Cert.Kernel5Ideal Cert.Kernel5Ideal.Gen

variable (m : (ℓ : Loc nD τ sig) → Buf (Elt Ideal) ℓ) (c : Dev nD)

abbrev argM : Tok.Idx → EReal := m ((c.tc : Thread nD τ).loc main_arg0)
abbrev argW : Wt.Idx → EReal := m ((c.tc : Thread nD τ).loc main_arg1)
abbrev argX : Tok.Idx → EReal := m ((c.tc : Thread nD τ).loc main_arg2)
abbrev argG : Gain.Idx → EReal := m ((c.tc : Thread nD τ).loc main_arg3)

/-- The streams and their norms of the arguments. -/
abbrev strm : ℕ → ℕ → ℕ → EReal := stream (argM m c) (argW m c) (argX m c)
abbrev nrmd : ℕ → ℕ → ℕ → EReal := normed (argM m c) (argW m c) (argX m c) (argG m c)

theorem V_1 (i : S16384x2048.Idx) : V m c main_v1 i = at3 (argM m c) ((i 0).val / 4096) ((i 0).val % 4096) (i 1).val := by
  have h : V m c main_v1 = (shapeCast S16384x2048 (argM m c) shapeCasts_S4x4096x2048_S16384x2048 : S16384x2048.Idx → EReal) := by
    simp only [V, hostOps0]
    after_results_simp
    all_goals rfl
  exact (congrFun h i).trans (rows_apply _ _ i)

theorem V_3 (i : S16384x2048.Idx) : V m c main_v3 i = at3 (argX m c) ((i 0).val / 4096) ((i 0).val % 4096) (i 1).val := by
  have h : V m c main_v3 = (shapeCast S16384x2048 (argX m c) shapeCasts_S4x4096x2048_S16384x2048 : S16384x2048.Idx → EReal) := by
    simp only [V, hostOps0]
    after_results_simp
    all_goals rfl
  exact (congrFun h i).trans (rows_apply _ _ i)

theorem V_2 : V m c main_v2 = argW m c := by
  simp only [V, hostOps0]
  after_results_simp
  all_goals rfl

theorem V_4 (i : S1x2048.Idx) : V m c main_v4 i = at1 (argG m c) (i 1).val := by
  have h : V m c main_v4 = (shapeCast S1x2048 (argG m c) shapeCasts_S2048_S1x2048 : S1x2048.Idx → EReal) := by
    simp only [V, hostOps0]
    after_results_simp
    all_goals rfl
  exact (congrFun h i).trans (row_apply _ _ i)

theorem index_0 : ∀ t : Fin cfg0.N, win0_0.index t 0 = t.val ∧ win0_0.index t 1 = 0 := (by decide +kernel : ∀ t : Fin grid0.N, _ ∧ _)
theorem index_1 : ∀ t : Fin cfg0.N, win0_1.index t 0 = 0 ∧ win0_1.index t 1 = 0 := (by decide +kernel : ∀ t : Fin grid0.N, _ ∧ _)
theorem index_2 : ∀ t : Fin cfg0.N, win0_2.index t 0 = t.val ∧ win0_2.index t 1 = 0 := (by decide +kernel : ∀ t : Fin grid0.N, _ ∧ _)
theorem index_3 : ∀ t : Fin cfg0.N, win0_3.index t 0 = 0 ∧ win0_3.index t 1 = 0 := (by decide +kernel : ∀ t : Fin grid0.N, _ ∧ _)
theorem index_4 : ∀ t : Fin cfg0.N, win0_4.index t 0 = t.val ∧ win0_4.index t 1 = 0 := (by decide +kernel : ∀ t : Fin grid0.N, _ ∧ _)
theorem index_5 : ∀ t : Fin cfg0.N, win0_5.index t 0 = t.val ∧ win0_5.index t 1 = 0 := (by decide +kernel : ∀ t : Fin grid0.N, _ ∧ _)

/-- The token of a row of a point's block. -/
abbrev tok (t r : ℕ) : ℕ := t * 512 + r

theorem iblk_0 (t : Fin cfg0.N) (x : S512x2048.Idx) : iblk m c 0 t x = at3 (argM m c) (tok t.val (x 0).val / 4096) (tok t.val (x 0).val % 4096) (x 1).val := by
  unfold iblk
  rw [View.read_apply]
  refine (V_1 m c _).trans ?_
  have e0 : ((((cfg0.win 0).blk t).view.emb x : S16384x2048.Idx) 0).val = tok t.val (x 0).val := by
    show win0_0.index t 0 * 512 + 1 * (x 0).val = t.val * 512 + (x 0).val; rw [(index_0 t).1]; omega
  have e1 : ((((cfg0.win 0).blk t).view.emb x : S16384x2048.Idx) 1).val = (x 1).val := by
    show win0_0.index t 1 * 2048 + 1 * (x 1).val = _; rw [(index_0 t).2]; omega
  rw [e0, e1]

theorem iblk_2 (t : Fin cfg0.N) (x : S512x2048.Idx) : iblk m c 2 t x = at3 (argX m c) (tok t.val (x 0).val / 4096) (tok t.val (x 0).val % 4096) (x 1).val := by
  unfold iblk
  rw [View.read_apply]
  refine (V_3 m c _).trans ?_
  have e0 : ((((cfg0.win 2).blk t).view.emb x : S16384x2048.Idx) 0).val = tok t.val (x 0).val := by
    show win0_2.index t 0 * 512 + 1 * (x 0).val = t.val * 512 + (x 0).val; rw [(index_2 t).1]; omega
  have e1 : ((((cfg0.win 2).blk t).view.emb x : S16384x2048.Idx) 1).val = (x 1).val := by
    show win0_2.index t 1 * 2048 + 1 * (x 1).val = _; rw [(index_2 t).2]; omega
  rw [e0, e1]

theorem iblk_1 (t : Fin cfg0.N) (x : S2048x2048.Idx) : iblk m c 1 t x = at2 (argW m c) (x 0).val (x 1).val := by
  unfold iblk
  rw [View.read_apply]
  refine (congrFun (V_2 m c) _).trans (eq_at2 _ _ _ _ ?_ ?_)
  · show win0_1.index t 0 * 2048 + 1 * (x 0).val = _; rw [(index_1 t).1]; omega
  · show win0_1.index t 1 * 2048 + 1 * (x 1).val = _; rw [(index_1 t).2]; omega

theorem iblk_3 (t : Fin cfg0.N) (x : S1x2048.Idx) : iblk m c 3 t x = at1 (argG m c) (x 1).val := by
  unfold iblk
  rw [View.read_apply]
  refine (V_4 m c _).trans ?_
  have e1 : ((((cfg0.win 3).blk t).view.emb x : S1x2048.Idx) 1).val = (x 1).val := by
    show win0_3.index t 1 * 2048 + 1 * (x 1).val = _; rw [(index_3 t).2]; omega
  rw [e1]

theorem pay1_apply (x : Vec Ideal S512x2048 .f32) (a : Vec Ideal S512x2048 .bf16) (w : Vec Ideal S2048x2048 .bf16) (r : Fin 512) (d : Fin 2048) :
    k0_pay1 x a w (ix2 r d) = x (ix2 r d) + ∑ k : Fin 2048, a (ix2 r k) * w (ix2 k d) := by
  unfold k0_pay1
  pointwise
  simp only [ix2_eq_valueIdx]
  try rfl

theorem pay2_apply (x : Vec Ideal S512x2048 .f32) (a : Vec Ideal S512x2048 .bf16) (w : Vec Ideal S2048x2048 .bf16) (g : Vec Ideal S1x2048 .f32) (r : Fin 512) (d : Fin 2048) :
    k0_pay2 x a w g (ix2 r d) = k0_pay1 x a w (ix2 r d) * Ideal.rsqrt (Ideal.div (∑ k : Fin 2048, k0_pay1 x a w (ix2 r k) * k0_pay1 x a w (ix2 r k))
      (Ideal.ofBits .f32 0x45000000#32) + Ideal.ofBits .f32 0x358637BD#32) * g (ix2 0 d) := by
  unfold k0_pay2
  generalize k0_pay1 x a w = y
  pointwise
  simp only [ix2_eq_valueIdx]
  try rfl

theorem stream_apply (t : Fin cfg0.N) (r : Fin 512) (d : Fin 2048) : k0_pay1 (iblk m c 2 t) (iblk m c 0 t) (iblk m c 1 t) (ix2 r d)
    = strm m c (tok t.val r.val / 4096) (tok t.val r.val % 4096) d.val := by
  refine (pay1_apply _ _ _ _ _).trans (congrArg₂ (· + ·) (iblk_2 m c t _) ?_)
  exact sum_axis _ _ fun k => congrArg₂ (· * ·) (iblk_0 m c t _) (iblk_1 m c t _)

theorem normed_apply (t : Fin cfg0.N) (r : Fin 512) (d : Fin 2048) : k0_pay2 (iblk m c 2 t) (iblk m c 0 t) (iblk m c 1 t) (iblk m c 3 t) (ix2 r d)
    = nrmd m c (tok t.val r.val / 4096) (tok t.val r.val % 4096) d.val := by
  refine (pay2_apply _ _ _ _ _ _).trans (congrArg₂ (· * ·) (congrArg₂ (· * ·) (stream_apply m c t r d) (congrArg Ideal.rsqrt ?_)) (iblk_3 m c t _))
  refine congrArg (fun z => Ideal.div z (Ideal.ofBits .f32 0x45000000#32) + Ideal.ofBits .f32 0x358637BD#32) ?_
  exact sum_axis _ (fun k => strm m c (tok t.val r.val / 4096) (tok t.val r.val % 4096) k * strm m c (tok t.val r.val / 4096) (tok t.val r.val % 4096) k)
    fun k => congrArg₂ (· * ·) (stream_apply m c t r k) (stream_apply m c t r k)

/-- The result 0 at every index. -/
def result_4 : S16384x2048.Idx → EReal := fun i => strm m c ((i 0).val / 4096) ((i 0).val % 4096) (i 1).val

theorem blk_4_val (t : Fin cfg0.N) (x : S512x2048.Idx) :
    ((((cfg0.win 4).blk t).view.emb x : S16384x2048.Idx) 0).val = tok t.val (x 0).val
    ∧ ((((cfg0.win 4).blk t).view.emb x : S16384x2048.Idx) 1).val = (x 1).val := by
  refine ⟨?_, ?_⟩
  · show win0_4.index t 0 * 512 + 1 * (x 0).val = t.val * 512 + (x 0).val; rw [(index_4 t).1]; omega
  · show win0_4.index t 1 * 2048 + 1 * (x 1).val = _; rw [(index_4 t).2]; omega

theorem flushed_4 (t : Fin cfg0.N) : (dats m 0 c).flushed 4 t = ((cfg0.win 4).blk t).view.read (Elt Ideal) (result_4 m c) := by
  rw [Value.flushed4]
  show out0_4 (iblk m c 0 t) (iblk m c 1 t) (iblk m c 2 t) (iblk m c 3 t) = _
  unfold out0_4
  rw [View.canon_unit_zero offsets_zero]
  simp only [View.ld_unit_zero (S := S512x2048) offsets_zero, View.ld_unit_zero (S := S2048x2048) offsets_zero, View.ld_unit_zero (S := S1x2048) offsets_zero]
  funext x
  rw [View.read_apply]
  refine (congrArg (k0_pay1 (iblk m c 2 t) (iblk m c 0 t) (iblk m c 1 t)) (ValueIdx.eq_ix2 x)).trans ?_
  refine (stream_apply m c t _ _).trans ?_
  obtain ⟨e0, e1⟩ := blk_4_val t x
  show _ = strm m c (((((cfg0.win 4).blk t).view.emb x : S16384x2048.Idx) 0).val / 4096)
    (((((cfg0.win 4).blk t).view.emb x : S16384x2048.Idx) 0).val % 4096) ((((cfg0.win 4).blk t).view.emb x : S16384x2048.Idx) 1).val
  rw [e0, e1]

theorem covers_4 (i : S16384x2048.Idx) : ∃ t : Fin cfg0.N, (cfg0.win 4).flush t = true ∧ i ∈ ((cfg0.win 4).blk t).view.set := by
  have h0 : (i 0).val < 16384 := (i 0).isLt
  have hN : cfg0.N = 32 := N_0
  let t : Fin cfg0.N := ⟨(i 0).val / 512, by rw [hN]; omega⟩
  let x : S512x2048.Idx := ix2 (⟨(i 0).val % 512, Nat.mod_lt _ (by decide)⟩ : Fin 512) (⟨(i 1).val, (i 1).isLt⟩ : Fin 2048)
  obtain ⟨e0, e1⟩ := blk_4_val t x
  have e : ((cfg0.win 4).blk t).view.emb x = i := by
    refine funext fun a => Fin.ext ?_
    match a with
    | ⟨0, _⟩ => refine e0.trans ?_; show (i 0).val / 512 * 512 + (i 0).val % 512 = (i 0).val; omega
    | ⟨1, _⟩ => exact e1
  exact ⟨t, flush0_4 t, (congrArg (· ∈ ((cfg0.win 4).blk t).view.set) e).mp (View.emb_mem_set _ _)⟩

theorem final_4 (m : (ℓ : Loc nD τ sig) → Buf (Elt Ideal) ℓ) (c : Dev nD) : (dats m 0 c).arrAt 4 cfg0.N = result_4 m c :=
  (dats m 0 c).arrAt_eq_of_cover 4 (result_4 m c) (fun t _ => flushed_4 m c t) covers_4

/-- The result 1 at every index. -/
def result_5 : S16384x2048.Idx → EReal := fun i => nrmd m c ((i 0).val / 4096) ((i 0).val % 4096) (i 1).val

theorem blk_5_val (t : Fin cfg0.N) (x : S512x2048.Idx) :
    ((((cfg0.win 5).blk t).view.emb x : S16384x2048.Idx) 0).val = tok t.val (x 0).val
    ∧ ((((cfg0.win 5).blk t).view.emb x : S16384x2048.Idx) 1).val = (x 1).val := by
  refine ⟨?_, ?_⟩
  · show win0_5.index t 0 * 512 + 1 * (x 0).val = t.val * 512 + (x 0).val; rw [(index_5 t).1]; omega
  · show win0_5.index t 1 * 2048 + 1 * (x 1).val = _; rw [(index_5 t).2]; omega

theorem flushed_5 (t : Fin cfg0.N) : (dats m 0 c).flushed 5 t = ((cfg0.win 5).blk t).view.read (Elt Ideal) (result_5 m c) := by
  rw [Value.flushed5]
  show out0_5 (iblk m c 0 t) (iblk m c 1 t) (iblk m c 2 t) (iblk m c 3 t) = _
  unfold out0_5
  rw [View.canon_unit_zero offsets_zero]
  simp only [View.ld_unit_zero (S := S512x2048) offsets_zero, View.ld_unit_zero (S := S2048x2048) offsets_zero, View.ld_unit_zero (S := S1x2048) offsets_zero]
  funext x
  rw [View.read_apply]
  refine (congrArg (k0_pay2 (iblk m c 2 t) (iblk m c 0 t) (iblk m c 1 t) (iblk m c 3 t)) (ValueIdx.eq_ix2 x)).trans ?_
  refine (normed_apply m c t _ _).trans ?_
  obtain ⟨e0, e1⟩ := blk_5_val t x
  show _ = nrmd m c (((((cfg0.win 5).blk t).view.emb x : S16384x2048.Idx) 0).val / 4096)
    (((((cfg0.win 5).blk t).view.emb x : S16384x2048.Idx) 0).val % 4096) ((((cfg0.win 5).blk t).view.emb x : S16384x2048.Idx) 1).val
  rw [e0, e1]

theorem covers_5 (i : S16384x2048.Idx) : ∃ t : Fin cfg0.N, (cfg0.win 5).flush t = true ∧ i ∈ ((cfg0.win 5).blk t).view.set := by
  have h0 : (i 0).val < 16384 := (i 0).isLt
  have hN : cfg0.N = 32 := N_0
  let t : Fin cfg0.N := ⟨(i 0).val / 512, by rw [hN]; omega⟩
  let x : S512x2048.Idx := ix2 (⟨(i 0).val % 512, Nat.mod_lt _ (by decide)⟩ : Fin 512) (⟨(i 1).val, (i 1).isLt⟩ : Fin 2048)
  obtain ⟨e0, e1⟩ := blk_5_val t x
  have e : ((cfg0.win 5).blk t).view.emb x = i := by
    refine funext fun a => Fin.ext ?_
    match a with
    | ⟨0, _⟩ => refine e0.trans ?_; show (i 0).val / 512 * 512 + (i 0).val % 512 = (i 0).val; omega
    | ⟨1, _⟩ => exact e1
  exact ⟨t, flush0_5 t, (congrArg (· ∈ ((cfg0.win 5).blk t).view.set) e).mp (View.emb_mem_set _ _)⟩

theorem final_5 (m : (ℓ : Loc nD τ sig) → Buf (Elt Ideal) ℓ) (c : Dev nD) : (dats m 0 c).arrAt 5 cfg0.N = result_5 m c :=
  (dats m 0 c).arrAt_eq_of_cover 5 (result_5 m c) (fun t _ => flushed_5 m c t) covers_5

end kernel

theorem frame_k : Cert.quiescent_Kernel5 := fun m ρ _ => Cert.Kernel5.Gen.frame m ρ
theorem frame_ki : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run m ρ)

theorem algebraic : Cert.algebraic_Kernel5Ideal_Reference5Ideal := fun m g m' g' _ hargs =>
  ⟨fun c => result_4 m c, fun c => result_5 m c, (θ_run Cert.Kernel5Ideal.defs _ _).mono (fun r h c => ⟨(h c).1.trans (final_4 m c), (h c).2.1.trans (final_5 m c), (h c).2.2⟩)
    (Cert.Kernel5Ideal.Value.run_blocks m g),
   (θ_run Cert.Reference5Ideal.defs _ _).mono (fun r h c => by
      obtain ⟨a0, a1, a2, a3⟩ := hargs c
      refine ⟨(h c).1.trans ((Cert.Reference5Ideal.Read.val_main_v15_eq _ _ _).trans (funext fun i => ?_)),
        (h c).2.1.trans ((Cert.Reference5Ideal.Read.val_main_v17_eq _ _ _ _).trans (funext fun i => ?_)), (h c).2.2⟩
      · rw [a0, a1, a2]; exact ref_stream _ _ _ i
      · rw [a0, a1, a2, a3]; exact ref_normed _ _ _ _ i) (Cert.Reference5Ideal.Value.run m' g')⟩

end Cert.Proof.OutProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Claims
public import proofs.«01_k».proof.Proof.Algebraic
public import proofs.«01_k».proof.Proof.Ffn
public import proofs.«01_k».proof.Proof.InProj
public import proofs.«01_k».proof.Proof.Merge
public import proofs.«01_k».proof.Proof.OutProj
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  facts_finite,
  frame_k, frame_ki, frame_ki_pre, frame_ri, frame_ri_pre,
  Ffn.frame_k, Ffn.frame_ki, Ffn.frame_ri,
  InProj.frame_k, InProj.frame_ki, InProj.frame_ri,
  Merge.frame_k, Merge.frame_ki, Merge.frame_ri,
  OutProj.frame_k, OutProj.frame_ki, OutProj.frame_ri,
  preserves, algebraic,
  trivial, Ffn.algebraic,
  trivial, InProj.algebraic,
  trivial, Merge.algebraic,
  trivial, OutProj.algebraic⟩

end Cert.Proof

end
